-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite7.lean ====
abbrev S8192x4096 : Shape := ⟨2, ![8192, 4096]⟩
abbrev S1x4096x20496 : Shape := ⟨3, ![1, 4096, 20496]⟩
abbrev S1x16x1024 : Shape := ⟨3, ![1, 16, 1024]⟩
abbrev S1x1024 : Shape := ⟨2, ![1, 1024]⟩
abbrev S_ : Shape := ⟨0, ![]⟩
abbrev S1x4096x16 : Shape := ⟨3, ![1, 4096, 16]⟩

class Facts : Prop where
  bcast_S_S8192x4096 : S_.BroadcastsInDim S8192x4096 (![] : Fin 0 → Fin S8192x4096.rank)
  slices_S1x4096x20496_S1x4096x16_0_0_12288 : S1x4096x20496.Slices ![0, 0, 12288] S1x4096x16
  bcast_S_S1x4096x16 : S_.BroadcastsInDim S1x4096x16 (![] : Fin 0 → Fin S1x4096x16.rank)
  bcast_S_S1x16x1024 : S_.BroadcastsInDim S1x16x1024 (![] : Fin 0 → Fin S1x16x1024.rank)

variable [Facts]

def fn {F : FTy → Type} [FloatOps F] (main_arg0 : FVec F S8192x4096 .bf16) (main_arg1 : FVec F S1x4096x20496 .f32) (main_arg2 : FVec F S1x16x1024 .f32) (main_arg3 : FVec F S1x1024 .f32) : IVec S8192x4096 1 × IVec S1x4096x16 1 × IVec S1x16x1024 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_v3 : FVec F S1x4096x16 .f32 := (extractStridedSlice S1x4096x16 ![0, 0, 12288] · slices_S1x4096x20496_S1x4096x16_0_0_12288) main_arg1
  let main_v4 : FVec F S1x4096x16 .f32 := Host.absf main_v3
  let main_cst_0 : FVec F S_ .f32 := constant S_ .f32 0x7F800000#32
  let main_v5 : FVec F S1x4096x16 .f32 := broadcastInDim S1x4096x16 ![] bcast_S_S1x4096x16 main_cst_0
  let main_v6 : IVec S1x4096x16 1 := cmpf .olt main_v4 main_v5
  let main_v7 : FVec F S1x16x1024 .f32 := Host.absf main_arg2
  let main_cst_1 : FVec F S_ .f32 := constant S_ .f32 0x7F800000#32
  let main_v8 : FVec F S1x16x1024 .f32 := broadcastInDim S1x16x1024 ![] bcast_S_S1x16x1024 main_cst_1
  let main_v9 : IVec S1x16x1024 1 := cmpf .olt main_v7 main_v8
  (main_v2, main_v6, main_v9)
-- ==== Kernel.lean ====
abbrev S8192x4096 : Shape := ⟨2, ![8192, 4096]⟩
abbrev S1x4096x20496 : Shape := ⟨3, ![1, 4096, 20496]⟩
abbrev S1x4096x11008 : Shape := ⟨3, ![1, 4096, 11008]⟩
abbrev S4096x20496 : Shape := ⟨2, ![4096, 20496]⟩
abbrev S20496x4096 : Shape := ⟨2, ![20496, 4096]⟩
abbrev S4096x11008 : Shape := ⟨2, ![4096, 11008]⟩
abbrev S8192x20480 : Shape := ⟨2, ![8192, 20480]⟩
abbrev S1024x4096 : Shape := ⟨2, ![1024, 4096]⟩
abbrev S128x4096 : Shape := ⟨2, ![128, 4096]⟩
abbrev S4096x128 : Shape := ⟨2, ![4096, 128]⟩
abbrev S1024x1024 : Shape := ⟨2, ![1024, 1024]⟩
abbrev S2x1024x4096 : Shape := ⟨3, ![2, 1024, 4096]⟩
abbrev S1x128x4096 : Shape := ⟨3, ![1, 128, 4096]⟩
abbrev S1x1024x4096 : Shape := ⟨3, ![1, 1024, 4096]⟩

abbrev nBuf : Space → Nat
  | .hbm => 11
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S1x4096x11008, .f32⟩
  | .hbm, ⟨3, _⟩ => ⟨S1x4096x11008, .f32⟩
  | .hbm, ⟨4, _⟩ => ⟨S4096x20496, .f32⟩
  | .hbm, ⟨5, _⟩ => ⟨S20496x4096, .f32⟩
  | .hbm, ⟨6, _⟩ => ⟨S4096x11008, .f32⟩
  | .hbm, ⟨7, _⟩ => ⟨S4096x11008, .f32⟩
  | .hbm, ⟨8, _⟩ => ⟨S8192x20480, .bf16⟩
  | .hbm, ⟨9, _⟩ => ⟨S4096x11008, .bf16⟩
  | .hbm, ⟨10, _⟩ => ⟨S4096x11008, .bf16⟩
  | .local _ .vmem, ⟨0, _⟩ => ⟨S1024x4096, .bf16⟩
  | .local _ .vmem, ⟨1, _⟩ => ⟨S1024x4096, .bf16⟩
  | .local _ .vmem, ⟨2, _⟩ => ⟨S128x4096, .f32⟩
  | .local _ .vmem, ⟨3, _⟩ => ⟨S128x4096, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1024x1024, .bf16⟩
  | .local _ .vmem, ⟨9, _⟩ => ⟨S1024x1024, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S2x1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![21, 8], ![false, false]⟩

def k0_mult1 (i : grid0.Coords) : BitVec 32 :=
  let arg0 : BitVec 32 := BitVec.ofNat 32 (i 0).val
  let c19_i32 : BitVec 32 := 19#32
  let v0 : BitVec 32 := Scalar.minsi arg0 c19_i32
  let c12_i32 : BitVec 32 := 12#32
  let v3 : BitVec 1 := Scalar.cmpi .slt v0 c12_i32
  let c0_i32 : BitVec 32 := 0#32
  let c1024_i32 : BitVec 32 := 1024#32
  let v4 : BitVec 32 := Scalar.muli v0 c1024_i32
  let v5 : BitVec 32 := Scalar.addi c0_i32 v4
  let c12304_i32 : BitVec 32 := 12304#32
  let c12_i32_0 : BitVec 32 := 12#32
  let v6 : BitVec 32 := Scalar.subi v0 c12_i32_0
  let c1024_i32_1 : BitVec 32 := 1024#32
  let v7 : BitVec 32 := Scalar.muli v6 c1024_i32_1
  let v8 : BitVec 32 := Scalar.addi c12304_i32 v7
  let v9 : BitVec 32 := Scalar.select v3 v5 v8
  let c20_i32 : BitVec 32 := 20#32
  let v1 : BitVec 1 := Scalar.cmpi .slt arg0 c20_i32
  let arg1 : BitVec 32 := BitVec.ofNat 32 (i 1).val
  let c7_i32 : BitVec 32 := 7#32
  let v2 : BitVec 32 := Scalar.select v1 arg1 c7_i32
  let c128_i32 : BitVec 32 := 128#32
  let v10 : BitVec 32 := Scalar.muli v2 c128_i32
  let v11 : BitVec 32 := Scalar.addi v9 v10
  v11
def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_7 : BitVec 32 := 0#32
  let v10 : BitVec 1 := Scalar.cmpi .ne v9 c0_i32_7
  v10

def k0_mult2 (i : grid0.Coords) : BitVec 32 :=
  let arg1 : BitVec 32 := BitVec.ofNat 32 (i 1).val
  let c128_i32 : BitVec 32 := 128#32
  let v18 : BitVec 32 := Scalar.muli arg1 c128_i32
  v18
def k0_off1 (i : grid0.Coords) : Fin 3 → Nat :=
  let arg0 : BitVec 32 := BitVec.ofNat 32 (i 0).val
  let c2_i32 : BitVec 32 := 2#32
  let v17 : BitVec 32 := Scalar.remsi arg0 c2_i32
  let v20 : Index := Scalar.indexCast v17
  let arg1 : BitVec 32 := BitVec.ofNat 32 (i 1).val
  let c128_i32 : BitVec 32 := 128#32
  let v18 : BitVec 32 := Scalar.muli arg1 c128_i32
  let v19 : BitVec 32 := v18
  let v21 : Index := Scalar.indexCast v19
  let c0_12 : Index := 0#32
  ![v20.toNat, v21.toNat, 0]
def k0_cond2 (i : grid0.Coords) : BitVec 1 :=
  let arg0 : BitVec 32 := BitVec.ofNat 32 (i 0).val
  let c0_i32_8 : BitVec 32 := 0#32
  let v11 : BitVec 1 := Scalar.cmpi .sgt arg0 c0_i32_8
  let v12 : BitVec 32 := Scalar.extui v11
  let c0_i32_9 : BitVec 32 := 0#32
  let v13 : BitVec 1 := Scalar.cmpi .ne v12 c0_i32_9
  v13

def k0_mult3 (i : grid0.Coords) : BitVec 32 :=
  let arg1 : BitVec 32 := BitVec.ofNat 32 (i 1).val
  let c128_i32 : BitVec 32 := 128#32
  let v18 : BitVec 32 := Scalar.muli arg1 c128_i32
  v18
def k0_off2 (i : grid0.Coords) : Fin 3 → Nat :=
  let arg0 : BitVec 32 := BitVec.ofNat 32 (i 0).val
  let c2_i32 : BitVec 32 := 2#32
  let v17 : BitVec 32 := Scalar.remsi arg0 c2_i32
  let v20 : Index := Scalar.indexCast v17
  let arg1 : BitVec 32 := BitVec.ofNat 32 (i 1).val
  let c128_i32 : BitVec 32 := 128#32
  let v18 : BitVec 32 := Scalar.muli arg1 c128_i32
  let v19 : BitVec 32 := v18
  let v21 : Index := Scalar.indexCast v19
  let c0_12 : Index := 0#32
  ![v20.toNat, v21.toNat, 0]
def k0_off3 (i : grid0.Coords) : Fin 3 → Nat :=
  let arg0 : BitVec 32 := BitVec.ofNat 32 (i 0).val
  let c1_i32 : BitVec 32 := 1#32
  let v25 : BitVec 32 := Scalar.addi arg0 c1_i32
  let c2_i32_13 : BitVec 32 := 2#32
  let v26 : BitVec 32 := Scalar.remsi v25 c2_i32_13
  let v27 : Index := Scalar.indexCast v26
  let c0_14 : Index := 0#32
  let c0_15 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.minsi arg0 c19_i32
  let c20_i32 : BitVec 32 := 20#32
  let v1 : BitVec 1 := Scalar.cmpi .slt arg0 c20_i32
  let c7_i32 : BitVec 32 := 7#32
  let v2 : BitVec 32 := Scalar.select v1 arg1 c7_i32
  let c12_i32 : BitVec 32 := 12#32
  let v3 : BitVec 1 := Scalar.cmpi .slt v0 c12_i32
  let c1024_i32 : BitVec 32 := 1024#32
  let v4 : BitVec 32 := Scalar.muli v0 c1024_i32
  let c0_i32 : BitVec 32 := 0#32
  let v5 : BitVec 32 := Scalar.addi c0_i32 v4
  let c12_i32_0 : BitVec 32 := 12#32
  let v6 : BitVec 32 := Scalar.subi v0 c12_i32_0
  let c1024_i32_1 : BitVec 32 := 1024#32
  let v7 : BitVec 32 := Scalar.muli v6 c1024_i32_1
  let c12304_i32 : BitVec 32 := 12304#32
  let v8 : BitVec 32 := Scalar.addi c12304_i32 v7
  let v9 : BitVec 32 := Scalar.select v3 v5 v8
  let c128_i32 : BitVec 32 := 128#32
  let v10 : BitVec 32 := Scalar.muli v2 c128_i32
  let v11 : BitVec 32 := Scalar.addi v9 v10
  let v12 : BitVec 32 := v11
  let c0_i32_2 : BitVec 32 := 0#32
  let c0_i32_3 : BitVec 32 := 0#32
  ![v12.toNat, c0_i32_2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![c0_i32.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x4096 : Shape := ⟨2, ![8192, 4096]⟩
abbrev S1x4096x20496 : Shape := ⟨3, ![1, 4096, 20496]⟩
abbrev S1x4096x11008 : Shape := ⟨3, ![1, 4096, 11008]⟩
abbrev S4096x20496 : Shape := ⟨2, ![4096, 20496]⟩
abbrev S8192x20496 : Shape := ⟨2, ![8192, 20496]⟩
abbrev S8192x12288 : Shape := ⟨2, ![8192, 12288]⟩
abbrev S8192x8192 : Shape := ⟨2, ![8192, 8192]⟩
abbrev S8192x20480 : Shape := ⟨2, ![8192, 20480]⟩
abbrev S4096x11008 : Shape := ⟨2, ![4096, 11008]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S1x4096x11008, .f32⟩
  | .hbm, ⟨3, _⟩ => ⟨S1x4096x11008, .f32⟩
  | .hbm, ⟨4, _⟩ => ⟨S8192x4096, .f32⟩
  | .hbm, ⟨5, _⟩ => ⟨S4096x20496, .f32⟩
  | .hbm, ⟨6, _⟩ => ⟨S8192x20496, .f32⟩
  | .hbm, ⟨7, _⟩ => ⟨S8192x12288, .f32⟩
  | .hbm, ⟨8, _⟩ => ⟨S8192x8192, .f32⟩
  | .hbm, ⟨9, _⟩ => ⟨S8192x20480, .f32⟩
  | .hbm, ⟨10, _⟩ => ⟨S8192x20480, .bf16⟩
  | .hbm, ⟨11, _⟩ => ⟨S4096x11008, .f32⟩
  | .hbm, ⟨12, _⟩ => ⟨S4096x11008, .bf16⟩
  | .hbm, ⟨13, _⟩ => ⟨S4096x11008, .f32⟩
  | .hbm, ⟨14, _⟩ => ⟨S4096x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel2.lean ====
abbrev S8192x4096 : Shape := ⟨2, ![8192, 4096]⟩
abbrev S1x4096 : Shape := ⟨2, ![1, 4096]⟩
abbrev S4096x11008 : Shape := ⟨2, ![4096, 11008]⟩
abbrev S11008x4096 : Shape := ⟨2, ![11008, 4096]⟩
abbrev S4096 : Shape := ⟨1, ![4096]⟩
abbrev S4096x256 : Shape := ⟨2, ![4096, 256]⟩
abbrev S256x4096 : Shape := ⟨2, ![256, 4096]⟩
abbrev S2x1024x4096 : Shape := ⟨3, ![2, 1024, 4096]⟩
abbrev S1024x4096 : Shape := ⟨2, ![1024, 4096]⟩
abbrev S1024x1 : Shape := ⟨2, ![1024, 1]⟩
abbrev S2 : Shape := ⟨1, ![2]⟩
abbrev S1 : Shape := ⟨1, ![1]⟩
abbrev S_ : Shape := ⟨0, ![]⟩
abbrev S1x1024x4096 : Shape := ⟨3, ![1, 1024, 4096]⟩
abbrev S16x4096 : Shape := ⟨2, ![16, 4096]⟩
abbrev S16 : Shape := ⟨1, ![16]⟩
abbrev S16x1 : Shape := ⟨2, ![16, 1]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S8192x4096, .f32⟩
  | .local _ .vmem, ⟨0, _⟩ => ⟨S1x4096, .f32⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | .local _ .vmem, ⟨8, _⟩ => ⟨S2x1024x4096, .f32⟩
  | .local _ .vmem, ⟨9, _⟩ => ⟨S1024x4096, .bf16⟩
  | .local _ .vmem, ⟨10, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c0_i32_91 : BitVec 32 := 0#32
  let v109 : BitVec 1 := Scalar.cmpi .eq arg0 c0_i32_91
  let v110 : BitVec 32 := Scalar.extui v109
  let c0_i32_92 : BitVec 32 := 0#32
  let v111 : BitVec 1 := Scalar.cmpi .ne v110 c0_i32_92
  v111

def k0_mult1 : BitVec 32 :=
  let c0_i32_101 : BitVec 32 := 0#32
  c0_i32_101
def k0_mult2 (i : grid0.Coords) : BitVec 32 :=
  let arg0 : BitVec 32 := BitVec.ofNat 32 (i 0).val
  let c1024_i32 : BitVec 32 := 1024#32
  let v112 : BitVec 32 := Scalar.muli arg0 c1024_i32
  v112
def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_93 : BitVec 32 := 0#32
  let c0_i32_94 : BitVec 32 := 0#32
  ![v0.toNat, 0, 0]
def k0_off3 (i : grid0.Coords) : Fin 2 → Nat :=
  let arg0 : BitVec 32 := BitVec.ofNat 32 (i 0).val
  let c1024_i32 : BitVec 32 := 1024#32
  let v112 : BitVec 32 := Scalar.muli arg0 c1024_i32
  let v113 : BitVec 32 := v112
  let c0_i32_95 : BitVec 32 := 0#32
  ![v113.toNat, 0]
@[reducible] def k0_t1_loop : Scf.Loop 32 :=
  let c0_i32_98 : BitVec 32 := 0#32
  let c64_i32 : BitVec 32 := 64#32
  let v121 : BitVec 32 := Scalar.addi c0_i32_98 c64_i32
  let c1_i32_99 : BitVec 32 := 1#32
  ⟨c0_i32_98, v121, c1_i32_99⟩
def k0_mult3 (k0_t1 : Fin k0_t1_loop.trips) : BitVec 32 :=
  let c0_i32_98 : BitVec 32 := 0#32
  let c1_i32_99 : BitVec 32 := 1#32
  let arg14 : BitVec 32 := Scf.iv c0_i32_98 c1_i32_99 k0_t1
  let c16_i32 : BitVec 32 := 16#32
  let v122 : BitVec 32 := Scalar.muli arg14 c16_i32
  v122
def k0_off4 (i : grid0.Coords) : Fin 3 → Nat :=
  let arg0 : BitVec 32 := BitVec.ofNat 32 (i 0).val
  let c2_i32 : BitVec 32 := 2#32
  let v0 : BitVec 32 := Scalar.remsi arg0 c2_i32
  let c0_i32_101 : BitVec 32 := 0#32
  let c0_i32_102 : BitVec 32 := 0#32
  ![v0.toNat, 0, 0]
def k0_off5 (k0_t1 : Fin k0_t1_loop.trips) : Fin 2 → Nat :=
  let c0_i32_98 : BitVec 32 := 0#32
  let c1_i32_99 : BitVec 32 := 1#32
  let arg14 : BitVec 32 := Scf.iv c0_i32_98 c1_i32_99 k0_t1
  let c16_i32 : BitVec 32 := 16#32
  let v122 : BitVec 32 := Scalar.muli arg14 c16_i32
  let v123 : BitVec 32 := v122
  let v126 : Index := Scalar.indexCast v123
  let c0_103 : Index := 0#32
  ![v126.toNat, 0]
def k0_mult4 (k0_t1 : Fin k0_t1_loop.trips) : BitVec 32 :=
  let c0_i32_98 : BitVec 32 := 0#32
  let c1_i32_99 : BitVec 32 := 1#32
  let arg14 : BitVec 32 := Scf.iv c0_i32_98 c1_i32_99 k0_t1
  let c16_i32_107 : BitVec 32 := 16#32
  let v141 : BitVec 32 := Scalar.muli arg14 c16_i32_107
  v141
def k0_cond3 (i : grid0.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_1 : BitVec 32 := 0#32
  let v6 : BitVec 1 := Scalar.cmpi .ne v5 c0_i32_1
  v6

def k0_cond4 (i : grid0.Coords) : BitVec 1 :=
  let arg0 : BitVec 32 := BitVec.ofNat 32 (i 0).val
  let c0_i32_91 : BitVec 32 := 0#32
  let v109 : BitVec 1 := Scalar.cmpi .sgt arg0 c0_i32_91
  let v110 : BitVec 32 := Scalar.extui v109
  let c0_i32_92 : BitVec 32 := 0#32
  let v111 : BitVec 1 := Scalar.cmpi .ne v110 c0_i32_92
  v111

def k0_mult5 (i : grid0.Coords) : BitVec 32 :=
  let arg0 : BitVec 32 := BitVec.ofNat 32 (i 0).val
  let c1_i32_95 : BitVec 32 := 1#32
  let v116 : BitVec 32 := Scalar.subi arg0 c1_i32_95
  let c1024_i32 : BitVec 32 := 1024#32
  let v118 : BitVec 32 := Scalar.muli v116 c1024_i32
  v118
def k0_off6 (i : grid0.Coords) : Fin 1 → Nat :=
  let c1_i32_96 : BitVec 32 := 1#32
  let arg0 : BitVec 32 := BitVec.ofNat 32 (i 0).val
  let c2_i32 : BitVec 32 := 2#32
  let v0 : BitVec 32 := Scalar.remsi arg0 c2_i32
  let v117 : BitVec 32 := Scalar.subi c1_i32_96 v0
  ![v117.toNat]
def k0_off7 (i : grid0.Coords) : Fin 2 → Nat :=
  let arg0 : BitVec 32 := BitVec.ofNat 32 (i 0).val
  let c1_i32_95 : BitVec 32 := 1#32
  let v116 : BitVec 32 := Scalar.subi arg0 c1_i32_95
  let c1024_i32 : BitVec 32 := 1024#32
  let v118 : BitVec 32 := Scalar.muli v116 c1024_i32
  let v119 : BitVec 32 := v118
  let c0_i32_97 : BitVec 32 := 0#32
  ![v119.toNat, 0]
def k0_off8 (i : grid0.Coords) : Fin 3 → Nat :=
  let c1_i32_96 : BitVec 32 := 1#32
  let arg0 : BitVec 32 := BitVec.ofNat 32 (i 0).val
  let c2_i32 : BitVec 32 := 2#32
  let v0 : BitVec 32 := Scalar.remsi arg0 c2_i32
  let v117 : BitVec 32 := Scalar.subi c1_i32_96 v0
  let c0_i32_98 : BitVec 32 := 0#32
  let c0_i32_99 : BitVec 32 := 0#32
  ![v117.toNat, 0, 0]
def k0_cond5 (i : grid0.Coords) : BitVec 1 :=
  let arg0 : BitVec 32 := BitVec.ofNat 32 (i 0).val
  let c1_i32_93 : BitVec 32 := 1#32
  let v112 : BitVec 32 := Scalar.addi arg0 c1_i32_93
  let c8_i32 : BitVec 32 := 8#32
  let v113 : BitVec 1 := Scalar.cmpi .slt v112 c8_i32
  let v114 : BitVec 32 := Scalar.extui v113
  let c0_i32_94 : BitVec 32 := 0#32
  let v115 : BitVec 1 := Scalar.cmpi .ne v114 c0_i32_94
  v115

def k0_mult6 (i : grid0.Coords) : BitVec 32 :=
  let arg0 : BitVec 32 := BitVec.ofNat 32 (i 0).val
  let c1_i32_95 : BitVec 32 := 1#32
  let v116 : BitVec 32 := Scalar.addi arg0 c1_i32_95
  let c1024_i32 : BitVec 32 := 1024#32
  let v118 : BitVec 32 := Scalar.muli v116 c1024_i32
  v118
def k0_off9 (i : grid0.Coords) : Fin 1 → Nat :=
  let c1_i32_96 : BitVec 32 := 1#32
  let arg0 : BitVec 32 := BitVec.ofNat 32 (i 0).val
  let c2_i32 : BitVec 32 := 2#32
  let v0 : BitVec 32 := Scalar.remsi arg0 c2_i32
  let v117 : BitVec 32 := Scalar.subi c1_i32_96 v0
  ![v117.toNat]
def k0_off10 (i : grid0.Coords) : Fin 3 → Nat :=
  let c1_i32_96 : BitVec 32 := 1#32
  let arg0 : BitVec 32 := BitVec.ofNat 32 (i 0).val
  let c2_i32 : BitVec 32 := 2#32
  let v0 : BitVec 32 := Scalar.remsi arg0 c2_i32
  let v117 : BitVec 32 := Scalar.subi c1_i32_96 v0
  let c0_i32_97 : BitVec 32 := 0#32
  let c0_i32_98 : BitVec 32 := 0#32
  ![v117.toNat, 0, 0]
def k0_off11 (i : grid0.Coords) : Fin 2 → Nat :=
  let arg0 : BitVec 32 := BitVec.ofNat 32 (i 0).val
  let c1_i32_95 : BitVec 32 := 1#32
  let v116 : BitVec 32 := Scalar.addi arg0 c1_i32_95
  let c1024_i32 : BitVec 32 := 1024#32
  let v118 : BitVec 32 := Scalar.muli v116 c1024_i32
  let v119 : BitVec 32 := v118
  let c0_i32_99 : BitVec 32 := 0#32
  ![v119.toNat, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c0_i32_9 : BitVec 32 := 0#32
  let c0_i32_10 : BitVec 32 := 0#32
  ![v0.toNat, 0, 0]
def k0_cond6 (i : grid0.Coords) : BitVec 1 :=
  let arg1 : BitVec 32 := BitVec.ofNat 32 (i 1).val
  let c42_i32 : BitVec 32 := 42#32
  let v106 : BitVec 1 := Scalar.cmpi .eq arg1 c42_i32
  let v107 : BitVec 32 := Scalar.extui v106
  let c0_i32_90 : BitVec 32 := 0#32
  let v108 : BitVec 1 := Scalar.cmpi .ne v107 c0_i32_90
  v108

@[reducible] def k0_t2_loop : Scf.Loop 32 :=
  let c0_i32_93 : BitVec 32 := 0#32
  let c64_i32 : BitVec 32 := 64#32
  let v111 : BitVec 32 := Scalar.addi c0_i32_93 c64_i32
  let c1_i32_94 : BitVec 32 := 1#32
  ⟨c0_i32_93, v111, c1_i32_94⟩
def k0_mult7 (k0_t2 : Fin k0_t2_loop.trips) : BitVec 32 :=
  let c0_i32_93 : BitVec 32 := 0#32
  let c1_i32_94 : BitVec 32 := 1#32
  let arg14 : BitVec 32 := Scf.iv c0_i32_93 c1_i32_94 k0_t2
  let c16_i32 : BitVec 32 := 16#32
  let v123 : BitVec 32 := Scalar.muli arg14 c16_i32
  v123
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_104 : BitVec 32 := 0#32
  let c0_i32_105 : BitVec 32 := 0#32
  ![v0.toNat, 0, 0]
def k0_off14 (k0_t2 : Fin k0_t2_loop.trips) : Fin 2 → Nat :=
  let c0_i32_93 : BitVec 32 := 0#32
  let c1_i32_94 : BitVec 32 := 1#32
  let arg14 : BitVec 32 := Scf.iv c0_i32_93 c1_i32_94 k0_t2
  let c16_i32 : BitVec 32 := 16#32
  let v123 : BitVec 32 := Scalar.muli arg14 c16_i32
  let v124 : BitVec 32 := v123
  let v127 : Index := Scalar.indexCast v124
  let c0_106 : Index := 0#32
  ![v127.toNat, 0]
def k0_mult8 (k0_t2 : Fin k0_t2_loop.trips) : BitVec 32 :=
  let c0_i32_93 : BitVec 32 := 0#32
  let c1_i32_94 : BitVec 32 := 1#32
  let arg14 : BitVec 32 := Scf.iv c0_i32_93 c1_i32_94 k0_t2
  let c16_i32_110 : BitVec 32 := 16#32
  let v137 : BitVec 32 := Scalar.muli arg14 c16_i32_110
  v137
def k0_off15 (k0_t2 : Fin k0_t2_loop.trips) : Fin 2 → Nat :=
  let c0_i32_93 : BitVec 32 := 0#32
  let c1_i32_94 : BitVec 32 := 1#32
  let arg14 : BitVec 32 := Scf.iv c0_i32_93 c1_i32_94 k0_t2
  let c16_i32_110 : BitVec 32 := 16#32
  let v137 : BitVec 32 := Scalar.muli arg14 c16_i32_110
  let v138 : BitVec 32 := v137
  let v139 : Index := Scalar.indexCast v138
  let c0_111 : Index := 0#32
  ![v139.toNat, 0]
@[reducible] def k0_t3_loop : Scf.Loop 32 :=
  let c0_i32_96 : BitVec 32 := 0#32
  let c64_i32_97 : BitVec 32 := 64#32
  let v112 : BitVec 32 := Scalar.addi c0_i32_96 c64_i32_97
  let c1_i32_98 : BitVec 32 := 1#32
  ⟨c0_i32_96, v112, c1_i32_98⟩
def k0_mult9 (k0_t3 : Fin k0_t3_loop.trips) : BitVec 32 :=
  let c0_i32_96 : BitVec 32 := 0#32
  let c1_i32_98 : BitVec 32 := 1#32
  let arg14 : BitVec 32 := Scf.iv c0_i32_96 c1_i32_98 k0_t3
  let c16_i32 : BitVec 32 := 16#32
  let v123 : BitVec 32 := Scalar.muli arg14 c16_i32
  v123
def k0_off16 (i : grid0.Coords) : Fin 3 → Nat :=
  let arg0 : BitVec 32 := BitVec.ofNat 32 (i 0).val
  let c2_i32 : BitVec 32 := 2#32
  let v0 : BitVec 32 := Scalar.remsi arg0 c2_i32
  let c0_i32_104 : BitVec 32 := 0#32
  let c0_i32_105 : BitVec 32 := 0#32
  ![v0.toNat, 0, 0]
def k0_off17 (k0_t3 : Fin k0_t3_loop.trips) : Fin 2 → Nat :=
  let c0_i32_96 : BitVec 32 := 0#32
  let c1_i32_98 : BitVec 32 := 1#32
  let arg14 : BitVec 32 := Scf.iv c0_i32_96 c1_i32_98 k0_t3
  let c16_i32 : BitVec 32 := 16#32
  let v123 : BitVec 32 := Scalar.muli arg14 c16_i32
  let v124 : BitVec 32 := v123
  let v127 : Index := Scalar.indexCast v124
  let c0_106 : Index := 0#32
  ![v127.toNat, 0]
def k0_mult10 (k0_t3 : Fin k0_t3_loop.trips) : BitVec 32 :=
  let c0_i32_96 : BitVec 32 := 0#32
  let c1_i32_98 : BitVec 32 := 1#32
  let arg14 : BitVec 32 := Scf.iv c0_i32_96 c1_i32_98 k0_t3
  let c16_i32_107 : BitVec 32 := 16#32
  let v129 : BitVec 32 := Scalar.muli arg14 c16_i32_107
  v129
def k0_off18 (k0_t3 : Fin k0_t3_loop.trips) : Fin 2 → Nat :=
  let c0_i32_96 : BitVec 32 := 0#32
  let c1_i32_98 : BitVec 32 := 1#32
  let arg14 : BitVec 32 := Scf.iv c0_i32_96 c1_i32_98 k0_t3
  let c16_i32_107 : BitVec 32 := 16#32
  let v129 : BitVec 32 := Scalar.muli arg14 c16_i32_107
  let v130 : BitVec 32 := v129
  let v131 : Index := Scalar.indexCast v130
  let c0_108 : Index := 0#32
  ![v131.toNat, 0]
def k0_mult11 (k0_t3 : Fin k0_t3_loop.trips) : BitVec 32 :=
  let c0_i32_96 : BitVec 32 := 0#32
  let c1_i32_98 : BitVec 32 := 1#32
  let arg14 : BitVec 32 := Scf.iv c0_i32_96 c1_i32_98 k0_t3
  let c16_i32_109 : BitVec 32 := 16#32
  let v137 : BitVec 32 := Scalar.muli arg14 c16_i32_109
  v137
def k0_mult12 (i : grid0.Coords) : BitVec 32 :=
  let arg0 : BitVec 32 := BitVec.ofNat 32 (i 0).val
  let c1024_i32 : BitVec 32 := 1024#32
  let v114 : BitVec 32 := Scalar.muli arg0 c1024_i32
  v114
def k0_off19 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off20 (i : grid0.Coords) : Fin 2 → Nat :=
  let arg0 : BitVec 32 := BitVec.ofNat 32 (i 0).val
  let c1024_i32 : BitVec 32 := 1024#32
  let v114 : BitVec 32 := Scalar.muli arg0 c1024_i32
  let v115 : BitVec 32 := v114
  let c0_i32_100 : BitVec 32 := 0#32
  ![v115.toNat, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let c0_i32_101 : BitVec 32 := 0#32
  let c0_i32_102 : BitVec 32 := 0#32
  ![v0.toNat, 0, 0]
def k0_cond7 (i : grid0.Coords) : BitVec 1 :=
  let arg0 : BitVec 32 := BitVec.ofNat 32 (i 0).val
  let c7_i32 : BitVec 32 := 7#32
  let v113 : BitVec 1 := Scalar.cmpi .eq arg0 c7_i32
  let v121 : BitVec 32 := Scalar.extui v113
  let c0_i32_103 : BitVec 32 := 0#32
  let v122 : BitVec 1 := Scalar.cmpi .ne v121 c0_i32_103
  v122

def k0_mult13 (i : grid0.Coords) : BitVec 32 :=
  let arg0 : BitVec 32 := BitVec.ofNat 32 (i 0).val
  let c1024_i32_104 : BitVec 32 := 1024#32
  let v123 : BitVec 32 := Scalar.muli arg0 c1024_i32_104
  v123
def k0_off22 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off23 (i : grid0.Coords) : Fin 2 → Nat :=
  let arg0 : BitVec 32 := BitVec.ofNat 32 (i 0).val
  let c1024_i32_104 : BitVec 32 := 1024#32
  let v123 : BitVec 32 := Scalar.muli arg0 c1024_i32_104
  let v124 : BitVec 32 := v123
  let c0_i32_105 : BitVec 32 := 0#32
  ![v124.toNat, 0]
def k0_off24 (i : grid0.Coords) : Fin 3 → Nat :=
  let arg0 : BitVec 32 := BitVec.ofNat 32 (i 0).val
  let c2_i32 : BitVec 32 := 2#32
  let v0 : BitVec 32 := Scalar.remsi arg0 c2_i32
  let c0_i32_106 : BitVec 32 := 0#32
  let c0_i32_107 : BitVec 32 := 0#32
  ![v0.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference2Ideal.lean ====
abbrev S8192x4096 : Shape := ⟨2, ![8192, 4096]⟩
abbrev S1x4096 : Shape := ⟨2, ![1, 4096]⟩
abbrev S4096x11008 : Shape := ⟨2, ![4096, 11008]⟩
abbrev S11008x4096 : Shape := ⟨2, ![11008, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x11008 : Shape := ⟨2, ![8192, 11008]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S4096x11008, .f32⟩
  | .hbm, ⟨24, _⟩ => ⟨S8192x11008, .f32⟩
  | .hbm, ⟨25, _⟩ => ⟨S4096x11008, .f32⟩
  | .hbm, ⟨26, _⟩ => ⟨S8192x11008, .f32⟩
  | .hbm, ⟨27, _⟩ => ⟨S8192x11008, .f32⟩
  | .hbm, ⟨28, _⟩ => ⟨S8192x11008, .f32⟩
  | .hbm, ⟨29, _⟩ => ⟨S_, .f32⟩
  | .hbm, ⟨30, _⟩ => ⟨S8192x11008, .f32⟩
  | .hbm, ⟨31, _⟩ => ⟨S8192x11008, .f32⟩
  | .hbm, ⟨32, _⟩ => ⟨S_, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S8192x11008, .f32⟩
  | .hbm, ⟨37, _⟩ => ⟨S11008x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel3.lean ====
abbrev S4x2048x4096 : Shape := ⟨3, ![4, 2048, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S8192x4096 : Shape := ⟨2, ![8192, 4096]⟩
abbrev S4096 : Shape := ⟨1, ![4096]⟩
abbrev S4096x11008 : Shape := ⟨2, ![4096, 11008]⟩
abbrev S11008x4096 : Shape := ⟨2, ![11008, 4096]⟩
abbrev S4096x256 : Shape := ⟨2, ![4096, 256]⟩
abbrev S256x4096 : Shape := ⟨2, ![256, 4096]⟩
abbrev S2x1024x4096 : Shape := ⟨3, ![2, 1024, 4096]⟩
abbrev S1024x4096 : Shape := ⟨2, ![1024, 4096]⟩
abbrev S1024x1 : Shape := ⟨2, ![1024, 1]⟩
abbrev S2 : Shape := ⟨1, ![2]⟩
abbrev S1 : Shape := ⟨1, ![1]⟩
abbrev S_ : Shape := ⟨0, ![]⟩
abbrev S1x1024x4096 : Shape := ⟨3, ![1, 1024, 4096]⟩
abbrev S512x4096 : Shape := ⟨2, ![512, 4096]⟩
abbrev S16x4096 : Shape := ⟨2, ![16, 4096]⟩
abbrev S16 : Shape := ⟨1, ![16]⟩
abbrev S16x1 : Shape := ⟨2, ![16, 1]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 17
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S1x4096, .f32⟩
  | .hbm, ⟨6, _⟩ => ⟨S8192x4096, .f32⟩
  | .hbm, ⟨7, _⟩ => ⟨S4096, .f32⟩
  | .hbm, ⟨8, _⟩ => ⟨S1x4096, .f32⟩
  | .hbm, ⟨9, _⟩ => ⟨S4096x11008, .f32⟩
  | .hbm, ⟨10, _⟩ => ⟨S4096x11008, .bf16⟩
  | .hbm, ⟨11, _⟩ => ⟨S4096x11008, .f32⟩
  | .hbm, ⟨12, _⟩ => ⟨S11008x4096, .f32⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .bf16⟩
  | .local _ .vmem, ⟨0, _⟩ => ⟨S1x4096, .f32⟩
  | .local _ .vmem, ⟨1, _⟩ => ⟨S4096x256, .bf16⟩
  | .local _ .vmem, ⟨2, _⟩ => ⟨S4096x256, .bf16⟩
  | .local _ .vmem, ⟨3, _⟩ => ⟨S4096x256, .f32⟩
  | .local _ .vmem, ⟨4, _⟩ => ⟨S4096x256, .f32⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S2x1024x4096, .f32⟩
  | .local _ .vmem, ⟨9, _⟩ => ⟨S1024x4096, .bf16⟩
  | .local _ .vmem, ⟨10, _⟩ => ⟨S1024x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c0_i32_91 : BitVec 32 := 0#32
  let v128 : BitVec 1 := Scalar.cmpi .eq arg0 c0_i32_91
  let v129 : BitVec 32 := Scalar.extui v128
  let c0_i32_92 : BitVec 32 := 0#32
  let v130 : BitVec 1 := Scalar.cmpi .ne v129 c0_i32_92
  v130

def k0_mult1 : BitVec 32 :=
  let c0_i32_103 : BitVec 32 := 0#32
  c0_i32_103
def k0_mult2 (i : grid0.Coords) : BitVec 32 :=
  let arg0 : BitVec 32 := BitVec.ofNat 32 (i 0).val
  let c1024_i32 : BitVec 32 := 1024#32
  let v131 : BitVec 32 := Scalar.muli arg0 c1024_i32
  v131
def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_93 : BitVec 32 := 0#32
  let c0_i32_94 : BitVec 32 := 0#32
  ![v0.toNat, 0, 0]
def k0_off3 (i : grid0.Coords) : Fin 2 → Nat :=
  let arg0 : BitVec 32 := BitVec.ofNat 32 (i 0).val
  let c1024_i32 : BitVec 32 := 1024#32
  let v131 : BitVec 32 := Scalar.muli arg0 c1024_i32
  let v132 : BitVec 32 := v131
  let c0_i32_95 : BitVec 32 := 0#32
  ![v132.toNat, 0]
def k0_cond3 (i : grid0.Coords) : BitVec 1 :=
  let arg0 : BitVec 32 := BitVec.ofNat 32 (i 0).val
  let c0_i32_96 : BitVec 32 := 0#32
  let v138 : BitVec 1 := Scalar.cmpi .sgt arg0 c0_i32_96
  let v139 : BitVec 32 := Scalar.extui v138
  let c0_i32_97 : BitVec 32 := 0#32
  let v140 : BitVec 1 := Scalar.cmpi .ne v139 c0_i32_97
  v140

def k0_mult3 (i : grid0.Coords) : BitVec 32 :=
  let arg0 : BitVec 32 := BitVec.ofNat 32 (i 0).val
  let c1_i32_103 : BitVec 32 := 1#32
  let v144 : BitVec 32 := Scalar.subi arg0 c1_i32_103
  let c1024_i32_104 : BitVec 32 := 1024#32
  let v145 : BitVec 32 := Scalar.muli v144 c1024_i32_104
  let c0_i32_105 : BitVec 32 := 0#32
  let v146 : BitVec 32 := Scalar.addi v145 c0_i32_105
  v146
def k0_off4 (i : grid0.Coords) (c0_i32_105 : BitVec 32) : Fin 2 → Nat :=
  let arg0 : BitVec 32 := BitVec.ofNat 32 (i 0).val
  let c1_i32_103 : BitVec 32 := 1#32
  let v144 : BitVec 32 := Scalar.subi arg0 c1_i32_103
  let c1024_i32_104 : BitVec 32 := 1024#32
  let v145 : BitVec 32 := Scalar.muli v144 c1024_i32_104
  let v146 : BitVec 32 := Scalar.addi v145 c0_i32_105
  let v147 : BitVec 32 := v146
  let c0_i32_107 : BitVec 32 := 0#32
  ![v147.toNat, 0]
def k0_mult4 (i : grid0.Coords) : BitVec 32 :=
  let arg0 : BitVec 32 := BitVec.ofNat 32 (i 0).val
  let c1_i32_110 : BitVec 32 := 1#32
  let v152 : BitVec 32 := Scalar.subi arg0 c1_i32_110
  let c1024_i32_111 : BitVec 32 := 1024#32
  let v153 : BitVec 32 := Scalar.muli v152 c1024_i32_111
  let c512_i32 : BitVec 32 := 512#32
  let v154 : BitVec 32 := Scalar.addi v153 c512_i32
  v154
def k0_mult5 (i : grid0.Coords) : BitVec 32 :=
  let arg0 : BitVec 32 := BitVec.ofNat 32 (i 0).val
  let c1_i32_116 : BitVec 32 := 1#32
  let v160 : BitVec 32 := Scalar.subi arg0 c1_i32_116
  let c1024_i32_118 : BitVec 32 := 1024#32
  let v162 : BitVec 32 := Scalar.muli v160 c1024_i32_118
  v162
def k0_off5 (i : grid0.Coords) : Fin 1 → Nat :=
  let c1_i32_117 : BitVec 32 := 1#32
  let arg0 : BitVec 32 := BitVec.ofNat 32 (i 0).val
  let c2_i32 : BitVec 32 := 2#32
  let v0 : BitVec 32 := Scalar.remsi arg0 c2_i32
  let v161 : BitVec 32 := Scalar.subi c1_i32_117 v0
  ![v161.toNat]
def k0_off6 (i : grid0.Coords) : Fin 2 → Nat :=
  let arg0 : BitVec 32 := BitVec.ofNat 32 (i 0).val
  let c1_i32_116 : BitVec 32 := 1#32
  let v160 : BitVec 32 := Scalar.subi arg0 c1_i32_116
  let c1024_i32_118 : BitVec 32 := 1024#32
  let v162 : BitVec 32 := Scalar.muli v160 c1024_i32_118
  let v163 : BitVec 32 := v162
  let c0_i32_119 : BitVec 32 := 0#32
  ![v163.toNat, 0]
def k0_off7 (i : grid0.Coords) : Fin 3 → Nat :=
  let c1_i32_117 : BitVec 32 := 1#32
  let arg0 : BitVec 32 := BitVec.ofNat 32 (i 0).val
  let c2_i32 : BitVec 32 := 2#32
  let v0 : BitVec 32 := Scalar.remsi arg0 c2_i32
  let v161 : BitVec 32 := Scalar.subi c1_i32_117 v0
  let c0_i32_120 : BitVec 32 := 0#32
  let c0_i32_121 : BitVec 32 := 0#32
  ![v161.toNat, 0, 0]
@[reducible] def k0_t1_loop : Scf.Loop 32 :=
  let c0_i32_100 : BitVec 32 := 0#32
  let c64_i32 : BitVec 32 := 64#32
  let v143 : BitVec 32 := Scalar.addi c0_i32_100 c64_i32
  let c1_i32_101 : BitVec 32 := 1#32
  ⟨c0_i32_100, v143, c1_i32_101⟩
def k0_mult6 (k0_t1 : Fin k0_t1_loop.trips) : BitVec 32 :=
  let c0_i32_100 : BitVec 32 := 0#32
  let c1_i32_101 : BitVec 32 := 1#32
  let arg16 : BitVec 32 := Scf.iv c0_i32_100 c1_i32_101 k0_t1
  let c16_i32 : BitVec 32 := 16#32
  let v144 : BitVec 32 := Scalar.muli arg16 c16_i32
  v144
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_103 : BitVec 32 := 0#32
  let c0_i32_104 : BitVec 32 := 0#32
  ![v0.toNat, 0, 0]
def k0_off9 (k0_t1 : Fin k0_t1_loop.trips) : Fin 2 → Nat :=
  let c0_i32_100 : BitVec 32 := 0#32
  let c1_i32_101 : BitVec 32 := 1#32
  let arg16 : BitVec 32 := Scf.iv c0_i32_100 c1_i32_101 k0_t1
  let c16_i32 : BitVec 32 := 16#32
  let v144 : BitVec 32 := Scalar.muli arg16 c16_i32
  let v145 : BitVec 32 := v144
  let v148 : Index := Scalar.indexCast v145
  let c0_105 : Index := 0#32
  ![v148.toNat, 0]
def k0_mult7 (k0_t1 : Fin k0_t1_loop.trips) : BitVec 32 :=
  let c0_i32_100 : BitVec 32 := 0#32
  let c1_i32_101 : BitVec 32 := 1#32
  let arg16 : BitVec 32 := Scf.iv c0_i32_100 c1_i32_101 k0_t1
  let c16_i32_109 : BitVec 32 := 16#32
  let v163 : BitVec 32 := Scalar.muli arg16 c16_i32_109
  v163
def k0_cond4 (i : grid0.Coords) : BitVec 1 :=
  let arg1 : BitVec 32 := BitVec.ofNat 32 (i 1).val
  let c1_i32 : BitVec 32 := 1#32
  let v4 : BitVec 1 := Scalar.cmpi .eq arg1 c1_i32
  let v5 : BitVec 32 := Scalar.extui v4
  let c0_i32_1 : BitVec 32 := 0#32
  let v6 : BitVec 1 := Scalar.cmpi .ne v5 c0_i32_1
  v6

def k0_cond5 (i : grid0.Coords) : BitVec 1 :=
  let arg0 : BitVec 32 := BitVec.ofNat 32 (i 0).val
  let c0_i32_91 : BitVec 32 := 0#32
  let v128 : BitVec 1 := Scalar.cmpi .sgt arg0 c0_i32_91
  let v129 : BitVec 32 := Scalar.extui v128
  let c0_i32_92 : BitVec 32 := 0#32
  let v130 : BitVec 1 := Scalar.cmpi .ne v129 c0_i32_92
  v130

def k0_mult8 (i : grid0.Coords) : BitVec 32 :=
  let arg0 : BitVec 32 := BitVec.ofNat 32 (i 0).val
  let c1_i32_95 : BitVec 32 := 1#32
  let v135 : BitVec 32 := Scalar.subi arg0 c1_i32_95
  let c1024_i32 : BitVec 32 := 1024#32
  let v137 : BitVec 32 := Scalar.muli v135 c1024_i32
  v137
def k0_off10 (i : grid0.Coords) : Fin 1 → Nat :=
  let c1_i32_96 : BitVec 32 := 1#32
  let arg0 : BitVec 32 := BitVec.ofNat 32 (i 0).val
  let c2_i32 : BitVec 32 := 2#32
  let v0 : BitVec 32 := Scalar.remsi arg0 c2_i32
  let v136 : BitVec 32 := Scalar.subi c1_i32_96 v0
  ![v136.toNat]
def k0_off11 (i : grid0.Coords) : Fin 2 → Nat :=
  let arg0 : BitVec 32 := BitVec.ofNat 32 (i 0).val
  let c1_i32_95 : BitVec 32 := 1#32
  let v135 : BitVec 32 := Scalar.subi arg0 c1_i32_95
  let c1024_i32 : BitVec 32 := 1024#32
  let v137 : BitVec 32 := Scalar.muli v135 c1024_i32
  let v138 : BitVec 32 := v137
  let c0_i32_97 : BitVec 32 := 0#32
  ![v138.toNat, 0]
def k0_off12 (i : grid0.Coords) : Fin 3 → Nat :=
  let c1_i32_96 : BitVec 32 := 1#32
  let arg0 : BitVec 32 := BitVec.ofNat 32 (i 0).val
  let c2_i32 : BitVec 32 := 2#32
  let v0 : BitVec 32 := Scalar.remsi arg0 c2_i32
  let v136 : BitVec 32 := Scalar.subi c1_i32_96 v0
  let c0_i32_98 : BitVec 32 := 0#32
  let c0_i32_99 : BitVec 32 := 0#32
  ![v136.toNat, 0, 0]
def k0_cond6 (i : grid0.Coords) : BitVec 1 :=
  let arg0 : BitVec 32 := BitVec.ofNat 32 (i 0).val
  let c1_i32_93 : BitVec 32 := 1#32
  let v131 : BitVec 32 := Scalar.addi arg0 c1_i32_93
  let c8_i32 : BitVec 32 := 8#32
  let v132 : BitVec 1 := Scalar.cmpi .slt v131 c8_i32
  let v133 : BitVec 32 := Scalar.extui v132
  let c0_i32_94 : BitVec 32 := 0#32
  let v134 : BitVec 1 := Scalar.cmpi .ne v133 c0_i32_94
  v134

def k0_mult9 (i : grid0.Coords) : BitVec 32 :=
  let arg0 : BitVec 32 := BitVec.ofNat 32 (i 0).val
  let c1_i32_95 : BitVec 32 := 1#32
  let v135 : BitVec 32 := Scalar.addi arg0 c1_i32_95
  let c1024_i32 : BitVec 32 := 1024#32
  let v137 : BitVec 32 := Scalar.muli v135 c1024_i32
  v137
def k0_off13 (i : grid0.Coords) : Fin 1 → Nat :=
  let c1_i32_96 : BitVec 32 := 1#32
  let arg0 : BitVec 32 := BitVec.ofNat 32 (i 0).val
  let c2_i32 : BitVec 32 := 2#32
  let v0 : BitVec 32 := Scalar.remsi arg0 c2_i32
  let v136 : BitVec 32 := Scalar.subi c1_i32_96 v0
  ![v136.toNat]
def k0_off14 (i : grid0.Coords) : Fin 3 → Nat :=
  let c1_i32_96 : BitVec 32 := 1#32
  let arg0 : BitVec 32 := BitVec.ofNat 32 (i 0).val
  let c2_i32 : BitVec 32 := 2#32
  let v0 : BitVec 32 := Scalar.remsi arg0 c2_i32
  let v136 : BitVec 32 := Scalar.subi c1_i32_96 v0
  let c0_i32_97 : BitVec 32 := 0#32
  let c0_i32_98 : BitVec 32 := 0#32
  ![v136.toNat, 0, 0]
def k0_off15 (i : grid0.Coords) : Fin 2 → Nat :=
  let arg0 : BitVec 32 := BitVec.ofNat 32 (i 0).val
  let c1_i32_95 : BitVec 32 := 1#32
  let v135 : BitVec 32 := Scalar.addi arg0 c1_i32_95
  let c1024_i32 : BitVec 32 := 1024#32
  let v137 : BitVec 32 := Scalar.muli v135 c1024_i32
  let v138 : BitVec 32 := v137
  let c0_i32_99 : BitVec 32 := 0#32
  ![v138.toNat, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c0_i32_9 : BitVec 32 := 0#32
  let c0_i32_10 : BitVec 32 := 0#32
  ![v0.toNat, 0, 0]
def k0_cond7 (i : grid0.Coords) : BitVec 1 :=
  let arg1 : BitVec 32 := BitVec.ofNat 32 (i 1).val
  let c42_i32 : BitVec 32 := 42#32
  let v125 : BitVec 1 := Scalar.cmpi .eq arg1 c42_i32
  let v126 : BitVec 32 := Scalar.extui v125
  let c0_i32_90 : BitVec 32 := 0#32
  let v127 : BitVec 1 := Scalar.cmpi .ne v126 c0_i32_90
  v127

@[reducible] def k0_t2_loop : Scf.Loop 32 :=
  let c0_i32_93 : BitVec 32 := 0#32
  let c64_i32 : BitVec 32 := 64#32
  let v130 : BitVec 32 := Scalar.addi c0_i32_93 c64_i32
  let c1_i32_94 : BitVec 32 := 1#32
  ⟨c0_i32_93, v130, c1_i32_94⟩
def k0_mult10 (k0_t2 : Fin k0_t2_loop.trips) : BitVec 32 :=
  let c0_i32_93 : BitVec 32 := 0#32
  let c1_i32_94 : BitVec 32 := 1#32
  let arg16 : BitVec 32 := Scf.iv c0_i32_93 c1_i32_94 k0_t2
  let c16_i32 : BitVec 32 := 16#32
  let v152 : BitVec 32 := Scalar.muli arg16 c16_i32
  v152
def k0_off17 (i : grid0.Coords) : Fin 3 → Nat :=
  let arg0 : BitVec 32 := BitVec.ofNat 32 (i 0).val
  let c2_i32 : BitVec 32 := 2#32
  let v0 : BitVec 32 := Scalar.remsi arg0 c2_i32
  let c0_i32_115 : BitVec 32 := 0#32
  let c0_i32_116 : BitVec 32 := 0#32
  ![v0.toNat, 0, 0]
def k0_off18 (k0_t2 : Fin k0_t2_loop.trips) : Fin 2 → Nat :=
  let c0_i32_93 : BitVec 32 := 0#32
  let c1_i32_94 : BitVec 32 := 1#32
  let arg16 : BitVec 32 := Scf.iv c0_i32_93 c1_i32_94 k0_t2
  let c16_i32 : BitVec 32 := 16#32
  let v152 : BitVec 32 := Scalar.muli arg16 c16_i32
  let v153 : BitVec 32 := v152
  let v156 : Index := Scalar.indexCast v153
  let c0_117 : Index := 0#32
  ![v156.toNat, 0]
def k0_mult11 (k0_t2 : Fin k0_t2_loop.trips) : BitVec 32 :=
  let c0_i32_93 : BitVec 32 := 0#32
  let c1_i32_94 : BitVec 32 := 1#32
  let arg16 : BitVec 32 := Scf.iv c0_i32_93 c1_i32_94 k0_t2
  let c16_i32_121 : BitVec 32 := 16#32
  let v166 : BitVec 32 := Scalar.muli arg16 c16_i32_121
  v166
def k0_off19 (k0_t2 : Fin k0_t2_loop.trips) : Fin 2 → Nat :=
  let c0_i32_93 : BitVec 32 := 0#32
  let c1_i32_94 : BitVec 32 := 1#32
  let arg16 : BitVec 32 := Scf.iv c0_i32_93 c1_i32_94 k0_t2
  let c16_i32_121 : BitVec 32 := 16#32
  let v166 : BitVec 32 := Scalar.muli arg16 c16_i32_121
  let v167 : BitVec 32 := v166
  let v168 : Index := Scalar.indexCast v167
  let c0_122 : Index := 0#32
  ![v168.toNat, 0]
@[reducible] def k0_t3_loop : Scf.Loop 32 :=
  let c0_i32_96 : BitVec 32 := 0#32
  let c32_i32 : BitVec 32 := 32#32
  let v131 : BitVec 32 := Scalar.addi c0_i32_96 c32_i32
  let c1_i32_97 : BitVec 32 := 1#32
  ⟨c0_i32_96, v131, c1_i32_97⟩
def k0_mult12 (k0_t3 : Fin k0_t3_loop.trips) : BitVec 32 :=
  let c0_i32_96 : BitVec 32 := 0#32
  let c1_i32_97 : BitVec 32 := 1#32
  let arg16 : BitVec 32 := Scf.iv c0_i32_96 c1_i32_97 k0_t3
  let c16_i32 : BitVec 32 := 16#32
  let v152 : BitVec 32 := Scalar.muli arg16 c16_i32
  v152
def k0_off20 (i : grid0.Coords) : Fin 3 → Nat :=
  let arg0 : BitVec 32 := BitVec.ofNat 32 (i 0).val
  let c2_i32 : BitVec 32 := 2#32
  let v0 : BitVec 32 := Scalar.remsi arg0 c2_i32
  let c0_i32_115 : BitVec 32 := 0#32
  let c0_i32_116 : BitVec 32 := 0#32
  ![v0.toNat, 0, 0]
def k0_off21 (k0_t3 : Fin k0_t3_loop.trips) : Fin 2 → Nat :=
  let c0_i32_96 : BitVec 32 := 0#32
  let c1_i32_97 : BitVec 32 := 1#32
  let arg16 : BitVec 32 := Scf.iv c0_i32_96 c1_i32_97 k0_t3
  let c16_i32 : BitVec 32 := 16#32
  let v152 : BitVec 32 := Scalar.muli arg16 c16_i32
  let v153 : BitVec 32 := v152
  let v156 : Index := Scalar.indexCast v153
  let c0_117 : Index := 0#32
  ![v156.toNat, 0]
def k0_mult13 (k0_t3 : Fin k0_t3_loop.trips) : BitVec 32 :=
  let c0_i32_96 : BitVec 32 := 0#32
  let c1_i32_97 : BitVec 32 := 1#32
  let arg16 : BitVec 32 := Scf.iv c0_i32_96 c1_i32_97 k0_t3
  let c16_i32_118 : BitVec 32 := 16#32
  let v158 : BitVec 32 := Scalar.muli arg16 c16_i32_118
  v158
def k0_off22 (k0_t3 : Fin k0_t3_loop.trips) : Fin 2 → Nat :=
  let c0_i32_96 : BitVec 32 := 0#32
  let c1_i32_97 : BitVec 32 := 1#32
  let arg16 : BitVec 32 := Scf.iv c0_i32_96 c1_i32_97 k0_t3
  let c16_i32_118 : BitVec 32 := 16#32
  let v158 : BitVec 32 := Scalar.muli arg16 c16_i32_118
  let v159 : BitVec 32 := v158
  let v160 : Index := Scalar.indexCast v159
  let c0_119 : Index := 0#32
  ![v160.toNat, 0]
def k0_mult14 (k0_t3 : Fin k0_t3_loop.trips) : BitVec 32 :=
  let c0_i32_96 : BitVec 32 := 0#32
  let c1_i32_97 : BitVec 32 := 1#32
  let arg16 : BitVec 32 := Scf.iv c0_i32_96 c1_i32_97 k0_t3
  let c16_i32_120 : BitVec 32 := 16#32
  let v167 : BitVec 32 := Scalar.muli arg16 c16_i32_120
  v167
def k0_mult15 (i : grid0.Coords) : BitVec 32 :=
  let arg0 : BitVec 32 := BitVec.ofNat 32 (i 0).val
  let c1024_i32 : BitVec 32 := 1024#32
  let v132 : BitVec 32 := Scalar.muli arg0 c1024_i32
  let c0_i32_99 : BitVec 32 := 0#32
  let v133 : BitVec 32 := Scalar.addi v132 c0_i32_99
  v133
def k0_off23 (i : grid0.Coords) (c0_i32_99 : BitVec 32) : Fin 2 → Nat :=
  let arg0 : BitVec 32 := BitVec.ofNat 32 (i 0).val
  let c1024_i32 : BitVec 32 := 1024#32
  let v132 : BitVec 32 := Scalar.muli arg0 c1024_i32
  let v133 : BitVec 32 := Scalar.addi v132 c0_i32_99
  let v134 : BitVec 32 := v133
  let c0_i32_101 : BitVec 32 := 0#32
  ![v134.toNat, 0]
@[reducible] def k0_t4_loop : Scf.Loop 32 :=
  let c32_i32_104 : BitVec 32 := 32#32
  let c32_i32_105 : BitVec 32 := 32#32
  let v139 : BitVec 32 := Scalar.addi c32_i32_104 c32_i32_105
  let c1_i32_106 : BitVec 32 := 1#32
  ⟨c32_i32_104, v139, c1_i32_106⟩
def k0_mult16 (k0_t4 : Fin k0_t4_loop.trips) : BitVec 32 :=
  let c32_i32_104 : BitVec 32 := 32#32
  let c1_i32_106 : BitVec 32 := 1#32
  let arg16 : BitVec 32 := Scf.iv c32_i32_104 c1_i32_106 k0_t4
  let c16_i32 : BitVec 32 := 16#32
  let v152 : BitVec 32 := Scalar.muli arg16 c16_i32
  v152
def k0_off24 (i : grid0.Coords) : Fin 3 → Nat :=
  let arg0 : BitVec 32 := BitVec.ofNat 32 (i 0).val
  let c2_i32 : BitVec 32 := 2#32
  let v0 : BitVec 32 := Scalar.remsi arg0 c2_i32
  let c0_i32_115 : BitVec 32 := 0#32
  let c0_i32_116 : BitVec 32 := 0#32
  ![v0.toNat, 0, 0]
def k0_off25 (k0_t4 : Fin k0_t4_loop.trips) : Fin 2 → Nat :=
  let c32_i32_104 : BitVec 32 := 32#32
  let c1_i32_106 : BitVec 32 := 1#32
  let arg16 : BitVec 32 := Scf.iv c32_i32_104 c1_i32_106 k0_t4
  let c16_i32 : BitVec 32 := 16#32
  let v152 : BitVec 32 := Scalar.muli arg16 c16_i32
  let v153 : BitVec 32 := v152
  let v156 : Index := Scalar.indexCast v153
  let c0_117 : Index := 0#32
  ![v156.toNat, 0]
def k0_mult17 (k0_t4 : Fin k0_t4_loop.trips) : BitVec 32 :=
  let c32_i32_104 : BitVec 32 := 32#32
  let c1_i32_106 : BitVec 32 := 1#32
  let arg16 : BitVec 32 := Scf.iv c32_i32_104 c1_i32_106 k0_t4
  let c16_i32_118 : BitVec 32 := 16#32
  let v158 : BitVec 32 := Scalar.muli arg16 c16_i32_118
  v158
def k0_off26 (k0_t4 : Fin k0_t4_loop.trips) : Fin 2 → Nat :=
  let c32_i32_104 : BitVec 32 := 32#32
  let c1_i32_106 : BitVec 32 := 1#32
  let arg16 : BitVec 32 := Scf.iv c32_i32_104 c1_i32_106 k0_t4
  let c16_i32_118 : BitVec 32 := 16#32
  let v158 : BitVec 32 := Scalar.muli arg16 c16_i32_118
  let v159 : BitVec 32 := v158
  let v160 : Index := Scalar.indexCast v159
  let c0_119 : Index := 0#32
  ![v160.toNat, 0]
def k0_mult18 (k0_t4 : Fin k0_t4_loop.trips) : BitVec 32 :=
  let c32_i32_104 : BitVec 32 := 32#32
  let c1_i32_106 : BitVec 32 := 1#32
  let arg16 : BitVec 32 := Scf.iv c32_i32_104 c1_i32_106 k0_t4
  let c16_i32_120 : BitVec 32 := 16#32
  let v167 : BitVec 32 := Scalar.muli arg16 c16_i32_120
  v167
def k0_mult19 (i : grid0.Coords) : BitVec 32 :=
  let arg0 : BitVec 32 := BitVec.ofNat 32 (i 0).val
  let c1024_i32_108 : BitVec 32 := 1024#32
  let v140 : BitVec 32 := Scalar.muli arg0 c1024_i32_108
  let c512_i32 : BitVec 32 := 512#32
  let v141 : BitVec 32 := Scalar.addi v140 c512_i32
  v141
def k0_cond8 (i : grid0.Coords) : BitVec 1 :=
  let arg0 : BitVec 32 := BitVec.ofNat 32 (i 0).val
  let c7_i32 : BitVec 32 := 7#32
  let v147 : BitVec 1 := Scalar.cmpi .eq arg0 c7_i32
  let v148 : BitVec 32 := Scalar.extui v147
  let c0_i32_113 : BitVec 32 := 0#32
  let v149 : BitVec 1 := Scalar.cmpi .ne v148 c0_i32_113
  v149

def k0_mult20 (i : grid0.Coords) : BitVec 32 :=
  let arg0 : BitVec 32 := BitVec.ofNat 32 (i 0).val
  let c1024_i32_115 : BitVec 32 := 1024#32
  let v152 : BitVec 32 := Scalar.muli arg0 c1024_i32_115
  v152
def k0_off27 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off28 (i : grid0.Coords) : Fin 2 → Nat :=
  let arg0 : BitVec 32 := BitVec.ofNat 32 (i 0).val
  let c1024_i32_115 : BitVec 32 := 1024#32
  let v152 : BitVec 32 := Scalar.muli arg0 c1024_i32_115
  let v153 : BitVec 32 := v152
  let c0_i32_116 : BitVec 32 := 0#32
  ![v153.toNat, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let c0_i32_117 : BitVec 32 := 0#32
  let c0_i32_118 : BitVec 32 := 0#32
  ![v0.toNat, 0, 0]
def k0_cond9 (i : grid0.Coords) : BitVec 1 :=
  let arg0 : BitVec 32 := BitVec.ofNat 32 (i 0).val
  let c7_i32 : BitVec 32 := 7#32
  let v147 : BitVec 1 := Scalar.cmpi .eq arg0 c7_i32
  let v150 : BitVec 32 := Scalar.extui v147
  let c0_i32_114 : BitVec 32 := 0#32
  let v151 : BitVec 1 := Scalar.cmpi .ne v150 c0_i32_114
  v151

def k0_mult21 (i : grid0.Coords) : BitVec 32 :=
  let arg0 : BitVec 32 := BitVec.ofNat 32 (i 0).val
  let c1024_i32_115 : BitVec 32 := 1024#32
  let v152 : BitVec 32 := Scalar.muli arg0 c1024_i32_115
  v152
def k0_off30 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off31 (i : grid0.Coords) : Fin 2 → Nat :=
  let arg0 : BitVec 32 := BitVec.ofNat 32 (i 0).val
  let c1024_i32_115 : BitVec 32 := 1024#32
  let v152 : BitVec 32 := Scalar.muli arg0 c1024_i32_115
  let v153 : BitVec 32 := v152
  let c0_i32_116 : BitVec 32 := 0#32
  ![v153.toNat, 0]
def k0_off32 (i : grid0.Coords) : Fin 3 → Nat :=
  let arg0 : BitVec 32 := BitVec.ofNat 32 (i 0).val
  let c2_i32 : BitVec 32 := 2#32
  let v0 : BitVec 32 := Scalar.remsi arg0 c2_i32
  let c0_i32_117 : BitVec 32 := 0#32
  let c0_i32_118 : BitVec 32 := 0#32
  ![v0.toNat, 0, 0]
def k0_mult22 (i : grid0.Coords) : BitVec 32 :=
  let arg0 : BitVec 32 := BitVec.ofNat 32 (i 0).val
  let c1024_i32_119 : BitVec 32 := 1024#32
  let v159 : BitVec 32 := Scalar.muli arg0 c1024_i32_119
  let c0_i32_120 : BitVec 32 := 0#32
  let v160 : BitVec 32 := Scalar.addi v159 c0_i32_120
  v160
def k0_off33 (i : grid0.Coords) (c0_i32_120 : BitVec 32) : Fin 2 → Nat :=
  let arg0 : BitVec 32 := BitVec.ofNat 32 (i 0).val
  let c1024_i32_119 : BitVec 32 := 1024#32
  let v159 : BitVec 32 := Scalar.muli arg0 c1024_i32_119
  let v160 : BitVec 32 := Scalar.addi v159 c0_i32_120
  let v161 : BitVec 32 := v160
  let c0_i32_122 : BitVec 32 := 0#32
  ![v161.toNat, 0]
def k0_mult23 (i : grid0.Coords) : BitVec 32 :=
  let arg0 : BitVec 32 := BitVec.ofNat 32 (i 0).val
  let c1024_i32_125 : BitVec 32 := 1024#32
  let v166 : BitVec 32 := Scalar.muli arg0 c1024_i32_125
  let c512_i32_126 : BitVec 32 := 512#32
  let v167 : BitVec 32 := Scalar.addi v166 c512_i32_126
  v167
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference3Ideal.lean ====
abbrev S4x2048x4096 : Shape := ⟨3, ![4, 2048, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x11008 : Shape := ⟨2, ![4096, 11008]⟩
abbrev S8192x11008 : Shape := ⟨2, ![8192, 11008]⟩
abbrev S11008x4096 : Shape := ⟨2, ![11008, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S1x4096, .f32⟩
  | .hbm, ⟨6, _⟩ => ⟨S8192x4096, .f32⟩
  | .hbm, ⟨7, _⟩ => ⟨S4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S4096x11008, .f32⟩
  | .hbm, ⟨25, _⟩ => ⟨S8192x11008, .f32⟩
  | .hbm, ⟨26, _⟩ => ⟨S4096x11008, .f32⟩
  | .hbm, ⟨27, _⟩ => ⟨S8192x11008, .f32⟩
  | .hbm, ⟨28, _⟩ => ⟨S8192x11008, .f32⟩
  | .hbm, ⟨29, _⟩ => ⟨S8192x11008, .f32⟩
  | .hbm, ⟨30, _⟩ => ⟨S_, .f32⟩
  | .hbm, ⟨31, _⟩ => ⟨S8192x11008, .f32⟩
  | .hbm, ⟨32, _⟩ => ⟨S8192x11008, .f32⟩
  | .hbm, ⟨33, _⟩ => ⟨S_, .f32⟩
  | .hbm, ⟨34, _⟩ => ⟨S8192x11008, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S11008x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S4096, .f32⟩
  | .hbm, ⟨45, _⟩ => ⟨S8192x4096, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x4096, .f32⟩
  | .hbm, ⟨57, _⟩ => ⟨S8192x4096, .f32⟩
  | .hbm, ⟨58, _⟩ => ⟨S1x4096, .f32⟩
  | .hbm, ⟨59, _⟩ => ⟨S8192x4096, .f32⟩
  | .hbm, ⟨60, _⟩ => ⟨S8192x4096, .f32⟩
  | .hbm, ⟨61, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel4.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S2048x4096 : Shape := ⟨2, ![2048, 4096]⟩
abbrev S8192x20480 : Shape := ⟨2, ![8192, 20480]⟩
abbrev S1x2x4096 : Shape := ⟨3, ![1, 2, 4096]⟩
abbrev S2x4096 : Shape := ⟨2, ![2, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S2x1024 : Shape := ⟨2, ![2, 1024]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S8192x20480, .bf16⟩
  | .hbm, ⟨5, _⟩ => ⟨S1x2x4096, .f32⟩
  | .hbm, ⟨6, _⟩ => ⟨S2x4096, .f32⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2x1024, .f32⟩
  | .local _ .vmem, ⟨13, _⟩ => ⟨S2x1024, .f32⟩
  | .local _ .vmem, ⟨14, _⟩ => ⟨S1024x1024, .bf16⟩
  | .local _ .vmem, ⟨15, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8192x2048 : Shape := ⟨2, ![8192, 2048]⟩
abbrev S2048x4096 : Shape := ⟨2, ![2048, 4096]⟩
abbrev S8192x20480 : Shape := ⟨2, ![8192, 20480]⟩
abbrev S1x2x4096 : Shape := ⟨3, ![1, 2, 4096]⟩
abbrev S8192x4096 : Shape := ⟨2, ![8192, 4096]⟩
abbrev S1x1x4096 : Shape := ⟨3, ![1, 1, 4096]⟩
abbrev S4096 : Shape := ⟨1, ![4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x4096, .bf16⟩
  | .hbm, ⟨3, _⟩ => ⟨S2048x4096, .bf16⟩
  | .hbm, ⟨4, _⟩ => ⟨S8192x20480, .bf16⟩
  | .hbm, ⟨5, _⟩ => ⟨S1x2x4096, .f32⟩
  | .hbm, ⟨6, _⟩ => ⟨S8192x2048, .f32⟩
  | .hbm, ⟨7, _⟩ => ⟨S2048x4096, .f32⟩
  | .hbm, ⟨8, _⟩ => ⟨S8192x4096, .f32⟩
  | .hbm, ⟨9, _⟩ => ⟨S8192x2048, .f32⟩
  | .hbm, ⟨10, _⟩ => ⟨S2048x4096, .f32⟩
  | .hbm, ⟨11, _⟩ => ⟨S8192x4096, .f32⟩
  | .hbm, ⟨12, _⟩ => ⟨S8192x4096, .bf16⟩
  | .hbm, ⟨13, _⟩ => ⟨S8192x4096, .f32⟩
  | .hbm, ⟨14, _⟩ => ⟨S8192x4096, .bf16⟩
  | .hbm, ⟨15, _⟩ => ⟨S8192x4096, .f32⟩
  | .hbm, ⟨16, _⟩ => ⟨S1x1x4096, .f32⟩
  | .hbm, ⟨17, _⟩ => ⟨S4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x1x4096, .f32⟩
  | .hbm, ⟨31, _⟩ => ⟨S4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel6.lean ====
abbrev S8192x20480 : Shape := ⟨2, ![8192, 20480]⟩
abbrev S1x3x2048 : Shape := ⟨3, ![1, 3, 2048]⟩
abbrev S1x2048 : Shape := ⟨2, ![1, 2048]⟩
abbrev S4x2048x20480 : Shape := ⟨3, ![4, 2048, 20480]⟩
abbrev S3x2048 : Shape := ⟨2, ![3, 2048]⟩
abbrev S2048 : Shape := ⟨1, ![2048]⟩
abbrev S4x2048x2048 : Shape := ⟨3, ![4, 2048, 2048]⟩
abbrev S1x2048x256 : Shape := ⟨3, ![1, 2048, 256]⟩
abbrev S3x256 : Shape := ⟨2, ![3, 256]⟩
abbrev S1x256 : Shape := ⟨2, ![1, 256]⟩
abbrev S2048x256 : Shape := ⟨2, ![2048, 256]⟩

abbrev nBuf : Space → Nat
  | .hbm => 8
  | .vmem => 12
  | .smem => 0
  | _ => 0

abbrev bufTy : (tb : Table) → Fin (tcTables nBuf tb) → BufTy
  | .hbm, ⟨0, _⟩ => ⟨S8192x20480, .bf16⟩
  | .hbm, ⟨1, _⟩ => ⟨S1x3x2048, .f32⟩
  | .hbm, ⟨2, _⟩ => ⟨S1x2048, .f32⟩
  | .hbm, ⟨3, _⟩ => ⟨S4x2048x20480, .bf16⟩
  | .hbm, ⟨4, _⟩ => ⟨S3x2048, .f32⟩
  | .hbm, ⟨5, _⟩ => ⟨S2048, .f32⟩
  | .hbm, ⟨6, _⟩ => ⟨S1x2048, .f32⟩
  | .hbm, ⟨7, _⟩ => ⟨S4x2048x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x2048x256, .bf16⟩
  | .local _ .vmem, ⟨11, _⟩ => ⟨S1x2048x256, .bf16⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x20480 : Shape := ⟨2, ![8192, 20480]⟩
abbrev S1x3x2048 : Shape := ⟨3, ![1, 3, 2048]⟩
abbrev S1x2048 : Shape := ⟨2, ![1, 2048]⟩
abbrev S4x2048x20480 : Shape := ⟨3, ![4, 2048, 20480]⟩
abbrev S4x2048x2048 : Shape := ⟨3, ![4, 2048, 2048]⟩
abbrev S_ : Shape := ⟨0, ![]⟩
abbrev S4x2050x2048 : Shape := ⟨3, ![4, 2050, 2048]⟩
abbrev S2048 : Shape := ⟨1, ![2048]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x20480, .bf16⟩
  | .hbm, ⟨1, _⟩ => ⟨S1x3x2048, .f32⟩
  | .hbm, ⟨2, _⟩ => ⟨S1x2048, .f32⟩
  | .hbm, ⟨3, _⟩ => ⟨S4x2048x20480, .bf16⟩
  | .hbm, ⟨4, _⟩ => ⟨S4x2048x20480, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .i32⟩
  | .hbm, ⟨10, _⟩ => ⟨S_, .f32⟩
  | .hbm, ⟨11, _⟩ => ⟨S4x2050x2048, .f32⟩
  | .hbm, ⟨12, _⟩ => ⟨S2048, .f32⟩
  | .hbm, ⟨13, _⟩ => ⟨S1x1x2048, .f32⟩
  | .hbm, ⟨14, _⟩ => ⟨S2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .bf16⟩
  | _, _ => ⟨S8192x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Kernel7.lean ====
abbrev S8192x4096 : Shape := ⟨2, ![8192, 4096]⟩
abbrev S1x4096x20496 : Shape := ⟨3, ![1, 4096, 20496]⟩
abbrev S1x16x1024 : Shape := ⟨3, ![1, 16, 1024]⟩
abbrev S1x1024 : Shape := ⟨2, ![1, 1024]⟩
abbrev S4096x20496 : Shape := ⟨2, ![4096, 20496]⟩
abbrev S20496x4096 : Shape := ⟨2, ![20496, 4096]⟩
abbrev S16x1024 : Shape := ⟨2, ![16, 1024]⟩
abbrev S1024 : Shape := ⟨1, ![1024]⟩
abbrev S8192x1024 : Shape := ⟨2, ![8192, 1024]⟩
abbrev S1024x4096 : Shape := ⟨2, ![1024, 4096]⟩
abbrev S16x4096 : Shape := ⟨2, ![16, 4096]⟩
abbrev S1024x1024 : Shape := ⟨2, ![1024, 1024]⟩
abbrev S1024x16 : Shape := ⟨2, ![1024, 16]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S1x16x1024, .f32⟩
  | .hbm, ⟨3, _⟩ => ⟨S1x1024, .f32⟩
  | .hbm, ⟨4, _⟩ => ⟨S4096x20496, .f32⟩
  | .hbm, ⟨5, _⟩ => ⟨S20496x4096, .f32⟩
  | .hbm, ⟨6, _⟩ => ⟨S16x1024, .f32⟩
  | .hbm, ⟨7, _⟩ => ⟨S1024, .f32⟩
  | .hbm, ⟨8, _⟩ => ⟨S1x1024, .f32⟩
  | .hbm, ⟨9, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S16x4096, .f32⟩
  | .local _ .vmem, ⟨3, _⟩ => ⟨S16x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12288_i32 : BitVec 32 := 12288#32
  let c0_i32 : BitVec 32 := 0#32
  let c0_i32_0 : BitVec 32 := 0#32
  ![c12288_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x4096 : Shape := ⟨2, ![8192, 4096]⟩
abbrev S1x4096x20496 : Shape := ⟨3, ![1, 4096, 20496]⟩
abbrev S1x16x1024 : Shape := ⟨3, ![1, 16, 1024]⟩
abbrev S1x1024 : Shape := ⟨2, ![1, 1024]⟩
abbrev S4096x20496 : Shape := ⟨2, ![4096, 20496]⟩
abbrev S4096x16 : Shape := ⟨2, ![4096, 16]⟩
abbrev S8192x16 : Shape := ⟨2, ![8192, 16]⟩
abbrev S16x1024 : Shape := ⟨2, ![16, 1024]⟩
abbrev S8192x1024 : Shape := ⟨2, ![8192, 1024]⟩
abbrev S1024 : Shape := ⟨1, ![1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x20496, .f32⟩
  | .hbm, ⟨2, _⟩ => ⟨S1x16x1024, .f32⟩
  | .hbm, ⟨3, _⟩ => ⟨S1x1024, .f32⟩
  | .hbm, ⟨4, _⟩ => ⟨S8192x4096, .f32⟩
  | .hbm, ⟨5, _⟩ => ⟨S4096x20496, .f32⟩
  | .hbm, ⟨6, _⟩ => ⟨S4096x16, .f32⟩
  | .hbm, ⟨7, _⟩ => ⟨S8192x16, .f32⟩
  | .hbm, ⟨8, _⟩ => ⟨S16x1024, .f32⟩
  | .hbm, ⟨9, _⟩ => ⟨S8192x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .i1⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.InProjBody.lean ====
/- The body of the combined input projection, at one grid point: what it reads and what it leaves. -/
module

public import proofs.«01_k».proof.Proof.Gen.KernelIdeal.Skeleton
public import proofs.«01_k».proof.Proof.Gen.KernelIdeal.Frame
public import Idealize.ShloMosaic.Lib.Claim
public import Idealize.ShloMosaic.Lib.VecWindow

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- The body in the first row of the grid: the side casts and the store of the new piece into the scratch. -/
theorem body_first (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1024x1024 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S2x1024x4096 .bf16) (harg9 : arg9.IsWhole) (hc0 : k0_cond1 i = 1#1) (hc1 : ¬ k0_cond2 i = 1#1)
    (x0 : Vec F S1024x4096 .bf16) (x1 : Vec F S128x4096 .f32) (x2 : Vec F S4096x128 .f32) (x3 : Vec F S4096x128 .f32) (w : Vec F S2x1024x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare w
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (k0_pay1 x2) ∗ owns (c : Thread nD τ) arg8 fullShare (k0_pay2 x3) ∗ owns (c : Thread nD τ) arg9 fullShare (VecWindow.put w (k0_off1 i) S1x128x4096.size (k0_pay3 x1))) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3
    obtain rfl := harg9.eq_unread hfs0
    sl_exec (disch := first | sl_exact hc0 | sl_exact hc1)
    sl_step
    iapply Hk
    isplitl [H0]
    · iexists harg2.unread x0; iframe; ipureintro; exact hf0
    isplitl [H1]
    · iexists harg3.unread x1; iframe; ipureintro; exact hf1
    isplitl [H2]
    · iexists harg4.unread x2; iframe; ipureintro; exact hf2
    isplitl [H3]
    · iexists harg5.unread x3; iframe; ipureintro; exact hf3
    isplitl [H5]
    · iexists _; iframe H5; ipureintro
      rw [View.read_writes_full, View.readAt_full, hf2]
    isplitl [H6]
    · iexists _; iframe H6; ipureintro
      rw [View.read_writes_full, View.readAt_full, hf3]
    iexists _; iframe HS0; ipureintro
    refine (View.read_writes_cons_put arg9.view _ _ _ [] rfl).trans ?_
    rw [View.writes_nil, hfs0, View.readAt_full, hf1]

set_option maxHeartbeats 400000 in
/-- The body from the second row of the grid on: the side casts, the store of the new piece into the scratch, and the product with the tile staged before. -/
theorem body_later (c : Dev nD) (i : grid0.Coords) (arg2 : Memref sig .tc .vmem S1024x4096 .bf16) (harg2 : arg2.IsWhole) (arg3 : Memref sig .tc .vmem S128x4096 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1024x1024 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S2x1024x4096 .bf16) (harg9 : arg9.IsWhole) (hc0 : ¬ k0_cond1 i = 1#1) (hc1 : k0_cond2 i = 1#1)
    (x0 : Vec F S1024x4096 .bf16) (x1 : Vec F S128x4096 .f32) (x2 : Vec F S4096x128 .f32) (x3 : Vec F S4096x128 .f32) (w : Vec F S2x1024x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (VecWindow.window (VecWindow.put w (k0_off2 i) S1x128x4096.size (k0_pay4 x1)) (k0_off3 i) S1x1024x4096.size (k0_off3_inb i hc1)) x0) ∗ owns (c : Thread nD τ) arg7 fullShare (k0_pay1 x2) ∗ owns (c : Thread nD τ) arg8 fullShare (k0_pay2 x3) ∗ owns (c : Thread nD τ) arg9 fullShare (VecWindow.put w (k0_off2 i) S1x128x4096.size (k0_pay4 x1))) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3
    obtain rfl := harg9.eq_unread hfs0
    sl_exec (disch := first | sl_exact hc0 | sl_exact hc1)
    sl_step
    iapply Hk
    have hput : arg9.view.read (Elt F) (arg9.view.writes (Elt F) (harg9.unread w) (body_later.sl.HS0_1 c i arg3 harg3 hc1 x1)) = (VecWindow.put w (k0_off2 i) S1x128x4096.size (k0_pay4 x1)) := by
      unfold body_later.sl.HS0_1
      refine (View.read_writes_cons_put arg9.view _ _ _ [] rfl).trans ?_
      rw [View.writes_nil, hfs0, View.readAt_full, hf1]
    isplitl [H0]
    · iexists harg2.unread x0; iframe; ipureintro; exact hf0
    isplitl [H1]
    · iexists harg3.unread x1; iframe; ipureintro; exact hf1
    isplitl [H2]
    · iexists harg4.unread x2; iframe; ipureintro; exact hf2
    isplitl [H3]
    · iexists harg5.unread x3; iframe; ipureintro; exact hf3
    isplitl [H4]
    · iexists _; iframe H4; ipureintro
      rw [View.read_writes_full, View.readAt_full, hf0, View.readAt_unit _ _ _ rfl (k0_off3_inb i hc1), hput]
    isplitl [H5]
    · iexists _; iframe H5; ipureintro
      rw [View.read_writes_full, View.readAt_full, hf2]
    isplitl [H6]
    · iexists _; iframe H6; ipureintro
      rw [View.read_writes_full, View.readAt_full, hf3]
    iexists _; iframe HS0; ipureintro
    exact hput

end Cert.KernelIdeal.InProj
end
-- ==== Proof.InProjRun.lean ====
/- The run of the combined input projection: what the scratch holds between grid points, the proof data of the pipeline,
   the body at every point, and the run of @main. -/
module

public import proofs.«01_k».proof.Proof.InProjBody

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body and the offsets, over the grid -/

/-- The first row of the grid only stages: the points before point 8. -/
theorem cond_first : ∀ t : Fin cfg0.N, k0_cond1 (grid0.coords t) = 1#1 ↔ t.val < 8 :=
  (by decide +kernel : ∀ t : Fin grid0.N, k0_cond1 (grid0.coords t) = 1#1 ↔ t.val < 8)

/-- The other rows stage and multiply: the points from point 8 on. -/
theorem cond_later : ∀ t : Fin cfg0.N, k0_cond2 (grid0.coords t) = 1#1 ↔ 8 ≤ t.val :=
  (by decide +kernel : ∀ t : Fin grid0.N, k0_cond2 (grid0.coords t) = 1#1 ↔ 8 ≤ t.val)

/-- Where point `t` puts its piece: the half of the scratch by the parity of the grid row, the rows by the grid column. -/
abbrev pieceOff (t : ℕ) : Fin 3 → ℕ := ![t / 8 % 2, t % 8 * 128, 0]

/-- Where point `t` reads the tile staged before: the other half. -/
abbrev tileOff (t : ℕ) : Fin 3 → ℕ := ![(t / 8 + 1) % 2, 0, 0]

theorem off1_eq : ∀ t : Fin cfg0.N, k0_off1 (grid0.coords t) = pieceOff t.val :=
  (by decide +kernel : ∀ t : Fin grid0.N, k0_off1 (grid0.coords t) = pieceOff t.val)

theorem off2_eq : ∀ t : Fin cfg0.N, k0_off2 (grid0.coords t) = pieceOff t.val :=
  (by decide +kernel : ∀ t : Fin grid0.N, k0_off2 (grid0.coords t) = pieceOff t.val)

theorem off3_eq : ∀ t : Fin cfg0.N, k0_off3 (grid0.coords t) = tileOff t.val :=
  (by decide +kernel : ∀ t : Fin grid0.N, k0_off3 (grid0.coords t) = tileOff t.val)

theorem pieceOff_inb (t : ℕ) : ∀ a, pieceOff t a + S1x128x4096.size a ≤ S2x1024x4096.size a := fun a => by
  match a with
  | ⟨0, _⟩ => show t / 8 % 2 + 1 ≤ 2; omega
  | ⟨1, _⟩ => show t % 8 * 128 + 128 ≤ 1024; omega
  | ⟨2, _⟩ => show 0 + 4096 ≤ 4096; omega

theorem tileOff_inb (t : ℕ) : ∀ a, tileOff t a + S1x1024x4096.size a ≤ S2x1024x4096.size a := fun a => by
  match a with
  | ⟨0, _⟩ => show (t / 8 + 1) % 2 + 1 ≤ 2; omega
  | ⟨1, _⟩ => show 0 + 1024 ≤ 1024; omega
  | ⟨2, _⟩ => show 0 + 4096 ≤ 4096; omega

/-! ## What the scratch holds -/

/-- Before point `t` the scratch holds, of the current grid row and of the one before, every piece staged so far. -/
def Staged (c : Dev nD) (t : ℕ) (d : Vec F S2x1024x4096 .bf16) : Prop :=
  ∀ t' : Fin cfg0.N, t'.val < t → t / 8 ≤ t'.val / 8 + 1 →
    VecWindow.window d (pieceOff t'.val) S1x128x4096.size (pieceOff_inb t'.val) = k0_pay4 (iblk m c 1 t')

/-- The point that staged row `r` of the tile point `t` multiplies by. -/
def stagedAt (t : Fin cfg0.N) (r : Fin 1024) : Fin cfg0.N :=
  ⟨(t.val / 8 - 1) * 8 + r.val / 128, by
    have h1 : t.val < 168 := lt_of_lt_of_eq t.isLt N_0
    have h2 := r.isLt
    show (t.val / 8 - 1) * 8 + r.val / 128 < grid0.N
    rw [N_0]; omega⟩

/-- The tile point `t` multiplies by, from the pieces of the grid row before. -/
def tile (c : Dev nD) (t : Fin cfg0.N) : Vec F S1x1024x4096 .bf16 := fun y =>
  k0_pay4 (iblk m c 1 (stagedAt t (y 1)))
    (fun a => match a with
      | ⟨0, _⟩ => (⟨0, Nat.one_pos⟩ : Fin 1)
      | ⟨1, _⟩ => (⟨(y 1).val % 128, Nat.mod_lt _ (by decide)⟩ : Fin 128)
      | ⟨2, _⟩ => (y 2 : Fin 4096))

/-- Staging one more piece. -/
theorem Staged.step {c : Dev nD} {t : Fin cfg0.N} {d : Vec F S2x1024x4096 .bf16} (h : Staged m c t.val d) :
    Staged m c (t.val + 1) (VecWindow.put d (pieceOff t.val) S1x128x4096.size (k0_pay4 (iblk m c 1 t))) := by
  intro t' hlt hrow
  by_cases e : t' = t
  · subst e
    exact VecWindow.window_put_same d _ _ _ _
  · have hlt' : t'.val < t.val := by
      have : t'.val ≠ t.val := fun h => e (Fin.ext h)
      omega
    have hold := h t' hlt' (by omega)
    by_cases hr : t'.val / 8 = t.val / 8
    · refine (VecWindow.window_put_of_disjoint d _ _ _ _ _ _ (1 : Fin 3) (Or.inl ?_)).trans hold
      show t'.val % 8 * 128 + 128 ≤ t.val % 8 * 128
      omega
    · refine (VecWindow.window_put_of_disjoint d _ _ _ _ _ _ (0 : Fin 3) ?_).trans hold
      show t'.val / 8 % 2 + 1 ≤ t.val / 8 % 2 ∨ t.val / 8 % 2 + 1 ≤ t'.val / 8 % 2
      omega

/-- The tile read at point `t`, past the piece just staged. -/
theorem Staged.read {c : Dev nD} {t : Fin cfg0.N} (h8 : 8 ≤ t.val) {d : Vec F S2x1024x4096 .bf16} (h : Staged m c t.val d)
    (x : S1x128x4096.Idx → Elt F .bf16) :
    VecWindow.window (VecWindow.put d (pieceOff t.val) S1x128x4096.size x) (tileOff t.val) S1x1024x4096.size (tileOff_inb t.val) = tile m c t := by
  refine (VecWindow.window_put_of_disjoint d _ _ _ _ _ _ (0 : Fin 3) ?_).trans ?_
  · show (t.val / 8 + 1) % 2 + 1 ≤ t.val / 8 % 2 ∨ t.val / 8 % 2 + 1 ≤ (t.val / 8 + 1) % 2
    omega
  · funext y
    have h1 : (y 1).val < 1024 := (y 1).isLt
    have hs : (stagedAt t (y 1)).val = (t.val / 8 - 1) * 8 + (y 1).val / 128 := rfl
    have hold := h (stagedAt t (y 1)) (by omega) (by omega)
    unfold tile
    rw [← hold]
    unfold VecWindow.window
    refine congrArg d (funext fun a => Fin.ext ?_)
    match a with
    | ⟨0, _⟩ =>
      have h0 : (y 0).val < 1 := (y 0).isLt
      show (t.val / 8 + 1) % 2 + 1 * (y 0).val = (stagedAt t (y 1)).val / 8 % 2 + 1 * 0
      omega
    | ⟨1, _⟩ =>
      show 0 + 1 * (y 1).val = (stagedAt t (y 1)).val % 8 * 128 + 1 * ((y 1).val % 128)
      omega
    | ⟨2, _⟩ => rfl

/-- A window at offsets that are equal. -/
theorem window_congr {α : Type} {s : Shape} (x : s.Idx → α) {off off' size : Fin s.rank → ℕ} (e : off = off')
    (inb : ∀ a, off a + size a ≤ s.size a) (inb' : ∀ a, off' a + size a ≤ s.size a) :
    VecWindow.window x off size inb = VecWindow.window x off' size inb' := by
  subst e; rfl

/-- The same, at the program's own offsets. -/
theorem tile_read (c : Dev nD) (t : Fin cfg0.N) (h8 : 8 ≤ t.val) {d : Vec F S2x1024x4096 .bf16} (h : Staged m c t.val d) :
    VecWindow.window (VecWindow.put d (k0_off2 (grid0.coords t)) S1x128x4096.size (k0_pay4 (iblk m c 1 t)))
      (k0_off3 (grid0.coords t)) S1x1024x4096.size (k0_off3_inb (grid0.coords t) ((cond_later t).mpr h8)) = tile m c t := by
  rw [off2_eq t]
  exact (window_congr (s := S2x1024x4096) (off := k0_off3 (grid0.coords t)) (off' := tileOff t.val) (size := S1x1024x4096.size)
    (VecWindow.put d (pieceOff t.val) S1x128x4096.size (k0_pay4 (iblk m c 1 t))) (off3_eq t)
    (k0_off3_inb (grid0.coords t) ((cond_later t).mpr h8)) (tileOff_inb t.val)).trans (h.read m h8 (k0_pay4 (iblk m c 1 t)))

/-! ## The proof data -/

/-- The whole scratch buffer. -/
abbrev scr : Memref sig .tc .vmem S2x1024x4096 .bf16 := Memref.whole cc0_scratch0

/-- The invariant before point `t`: the scratch at some contents with every needed piece staged, and the generator register. -/
def inv (c : Dev nD) (t : ℕ) : sProp 𝕄 :=
  iprop((∃ d, ⌜Staged m c t d⌝ ∗ owns (c : Thread nD τ) scr fullShare d) ∗ (∃ r, prngReg c r))

/-- The pipeline's proof data: each input at its block, the product with the staged tile, the two side casts. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (tile m c t) (iblk m c 0 t)
    | ⟨5, _⟩ => k0_pay1 (iblk m c 2 t)
    | ⟨6, _⟩ => k0_pay2 (iblk m c 3 t)
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay5 (tile m c t) (iblk m c 0 t) := by dsimp only [dats]
theorem after5 (c : Dev nD) (t : Fin cfg0.N) : (dats m 0 c).after 5 t = k0_pay1 (iblk m c 2 t) := by dsimp only [dats]
theorem after6 (c : Dev nD) (t : Fin cfg0.N) : (dats m 0 c).after 6 t = k0_pay2 (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at every point -/

/-- The staging buffer of window `w` at point `t`. -/
abbrev ms (w : Fin cfg0.W) (t : Fin cfg0.N) := (cfg0.win w).stage (cfg0.slots t w)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms 0 t) fullShare ((dats m 0 c).before 0 t d))
    ∗ (∃ d, owns (c : Thread nD τ) (ms 1 t) fullShare ((dats m 0 c).before 1 t d))
    ∗ (∃ d, owns (c : Thread nD τ) (ms 2 t) fullShare ((dats m 0 c).before 2 t d))
    ∗ (∃ d, owns (c : Thread nD τ) (ms 3 t) fullShare ((dats m 0 c).before 3 t d))
    ∗ (∃ d, owns (c : Thread nD τ) (ms 4 t) fullShare ((dats m 0 c).before 4 t d))
    ∗ (∃ d, owns (c : Thread nD τ) (ms 5 t) fullShare ((dats m 0 c).before 5 t d))
    ∗ (∃ d, owns (c : Thread nD τ) (ms 6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- A window that is not idle at a point is left at what the data say. -/
theorem leaves_live {c : Dev nD} (w : Fin cfg0.W) (t : Fin cfg0.N) (h : cfg0.idle w (cfg0.grid.coords t) = false) :
    (dats m 0 c).leavesExact w t = owns (c : Thread nD τ) (ms w t) fullShare ((dats m 0 c).after w t) := by
  unfold Dat.leavesExact; rw [h]

/-- The product's window is idle in the first row, and is not written back there. -/
theorem idle4 : ∀ t : Fin cfg0.N, t.val < 8 → cfg0.idle 4 (cfg0.grid.coords t) = true ∧ (cfg0.win 4).flush t = false :=
  (by decide +kernel : ∀ t : Fin grid0.N, t.val < 8 → cfg0.idle 4 (cfg0.grid.coords t) = true ∧ (cfg0.win 4).flush t = false)

theorem live4 : ∀ t : Fin cfg0.N, 8 ≤ t.val → cfg0.idle 4 (cfg0.grid.coords t) = false :=
  (by decide +kernel : ∀ t : Fin grid0.N, 8 ≤ t.val → cfg0.idle 4 (cfg0.grid.coords t) = false)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.castSucc = inv m c t.val from rfl, show (dats m 0 c).Φ t.succ = inv m c (t.val + 1) from rfl]
  rw [leaves_live m 0 t rfl, leaves_live m 1 t rfl, leaves_live m 2 t rfl, leaves_live m 3 t rfl, leaves_live m 5 t rfl, leaves_live m 6 t rfl]
  rw [after0, after1, after2, after3, after5, after6]
  unfold inv
  by_cases h : t.val < 8
  · rw [(dats m 0 c).leavesExact_idle 4 t (idle4 t h).1 (idle4 t h).2]
    iintro ⟨⟨⟨%d, %hd, HS⟩, Hg⟩, Ho, ⟨%d0, H0⟩, ⟨%d1, H1⟩, ⟨%d2, H2⟩, ⟨%d3, H3⟩, H4, ⟨%d5, H5⟩, ⟨%d6, H6⟩⟩
    iapply ((body_first c (grid0.coords t) _ _ _ _ _ _ _ _ _ _ _ _ _ _ _ _ ((cond_first t).mpr h) (fun h' => absurd ((cond_later t).mp h') (by omega)) (iblk m c 0 t) (iblk m c 1 t) (iblk m c 2 t) (iblk m c 3 t) d) Set.univ _)
    isplitl [H0]; · iexact H0
    isplitl [H1]; · iexact H1
    isplitl [H2]; · iexact H2
    isplitl [H3]; · iexact H3
    isplitl [H5]; · iexists _; iexact H5
    isplitl [H6]; · iexists _; iexact H6
    isplitl [HS]; · iexact HS
    iintro ⟨H0, H1, H2, H3, H5, H6, HS⟩
    isplitl [HS Hg]
    · isplitl [HS]
      · iexists _; isplitr
        swap
        · iexact HS
        ipureintro
        rw [off1_eq t]
        exact hd.step
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h8 : 8 ≤ t.val := by omega
    rw [leaves_live m 4 t (live4 t h8), after4]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((body_later c (grid0.coords t) _ _ _ _ _ _ _ _ _ _ _ _ _ _ _ _ (fun h' => h ((cond_first t).mp h')) ((cond_later t).mpr h8) (iblk m c 0 t) (iblk m c 1 t) (iblk m c 2 t) (iblk m c 3 t) d) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    rw [tile_read m c t h8 hd, off2_eq t]
    iintro ⟨H0, H1, H2, H3, H4, H5, H6, HS⟩
    isplitl [HS Hg]
    · isplitl [HS]
      · iexists _; isplitr
        swap
        · iexact HS
        ipureintro
        exact hd.step
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

theorem inv_in (c : Dev nD) : (Pipeline.ΦA spec0 c : sProp 𝕄) ⊢ (dats m 0 c).Φ 0 := by
  rw [PhiA_eq, show (dats m 0 c).Φ 0 = inv m c 0 from rfl]
  unfold inv
  iintro ⟨⟨%d, HS⟩, Hg⟩
  isplitl [HS]
  · iexists d; isplitr
    swap
    · iexact HS
    ipureintro
    intro t' h; exact absurd h (Nat.not_lt_zero _)
  iexact Hg

theorem inv_out (c : Dev nD) : (dats m 0 c).Φ (Fin.last cfg0.N) ⊢ (Pipeline.ΦA spec0 c : sProp 𝕄) := by
  rw [PhiA_eq, show (dats m 0 c).Φ (Fin.last cfg0.N) = inv m c cfg0.N from rfl]
  unfold inv
  iintro ⟨⟨%d, -, HS⟩, Hg⟩
  isplitl [HS]
  · iexists d; iexact HS
  iexact Hg

set_option backward.isDefEq.respectTransparency.types false in
/-- The run, with every semaphore counter at zero at the end. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and
    (frame_of m ρ (dats m) (A_eq m) (run_main m ρ))
    ((θ_run defs _ _).mono (fun _ h => h.2) (run_main_quiescent m ρ))

end Cert.KernelIdeal.InProj
end
-- ==== Proof.InProjValue.lean ====
/- The values of the combined input projection: each result array is the reference's term of the arguments. -/
module

public import proofs.«01_k».proof.Proof.InProjRun
public import proofs.«01_k».proof.Proof.Gen.ReferenceIdeal
public import Idealize.ShloMosaic.Lib.Pointwise
public import Idealize.ShloMosaic.Lib.Pipeline.ValueKit

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL.Sem

/-- The reference's projection: the product with the weight, the gate columns cut out, rounded. -/
def projRef (X : FVec Ideal Cert.ReferenceIdeal.S8192x4096 .bf16) (W : FVec Ideal Cert.ReferenceIdeal.S1x4096x20496 .f32) :
    FVec Ideal Cert.ReferenceIdeal.S8192x20480 .bf16 :=
  truncf .bf16 (concatenate Cert.ReferenceIdeal.S8192x20480 1
    [⟨Cert.ReferenceIdeal.S8192x12288, (extractStridedSlice Cert.ReferenceIdeal.S8192x12288 ![0, 0] (Host.dotGeneral Cert.ReferenceIdeal.dot_S8192x4096_S4096x20496_S8192x20496_1_0_0_1_n_n none (extf .f32 X Cert.ReferenceIdeal.Gen.bitsLt_bf16_f32) (shapeCast Cert.ReferenceIdeal.S4096x20496 W Cert.ReferenceIdeal.Gen.shapeCasts_S1x4096x20496_S4096x20496)) Cert.ReferenceIdeal.Gen.slices_S8192x20496_S8192x12288_0_0)⟩,
     ⟨Cert.ReferenceIdeal.S8192x8192, (extractStridedSlice Cert.ReferenceIdeal.S8192x8192 ![0, 12304] (Host.dotGeneral Cert.ReferenceIdeal.dot_S8192x4096_S4096x20496_S8192x20496_1_0_0_1_n_n none (extf .f32 X Cert.ReferenceIdeal.Gen.bitsLt_bf16_f32) (shapeCast Cert.ReferenceIdeal.S4096x20496 W Cert.ReferenceIdeal.Gen.shapeCasts_S1x4096x20496_S4096x20496)) Cert.ReferenceIdeal.Gen.slices_S8192x20496_S8192x8192_0_12304)⟩]
    Cert.ReferenceIdeal.Gen.concatenates_S8192x12288_S8192x8192_S8192x20480_d1) Cert.ReferenceIdeal.Gen.bitsLt_bf16_f32

/-- A side weight, rounded. -/
def sideRef (W : FVec Ideal Cert.ReferenceIdeal.S1x4096x11008 .f32) : FVec Ideal Cert.ReferenceIdeal.S4096x11008 .bf16 :=
  truncf .bf16 (shapeCast Cert.ReferenceIdeal.S4096x11008 W Cert.ReferenceIdeal.Gen.shapeCasts_S1x4096x11008_S4096x11008) Cert.ReferenceIdeal.Gen.bitsLt_bf16_f32

variable (m : (ℓ : Loc nD τ sig) → Buf (Elt Ideal) ℓ)

/-! ## The index maps -/

theorem idx_first : ∀ t : Fin cfg0.N, t.val < 160 →
    win0_1.index t = ![t.val / 8 * 1024 + t.val % 8 * 128 + (if t.val / 8 < 12 then 0 else 16), 0] :=
  (by decide +kernel : ∀ t : Fin grid0.N, t.val < 160 →
    win0_1.index t = ![t.val / 8 * 1024 + t.val % 8 * 128 + (if t.val / 8 < 12 then 0 else 16), 0])

theorem idx_later : ∀ t : Fin cfg0.N, 8 ≤ t.val → win0_0.index t = ![t.val % 8, 0] ∧ win0_4.index t = ![t.val % 8, t.val / 8 - 1] :=
  (by decide +kernel : ∀ t : Fin grid0.N, 8 ≤ t.val → win0_0.index t = ![t.val % 8, 0] ∧ win0_4.index t = ![t.val % 8, t.val / 8 - 1])

theorem idx_side : ∀ t : Fin cfg0.N, win0_2.index t = win0_5.index t ∧ win0_3.index t = win0_6.index t :=
  (by decide +kernel : ∀ t : Fin grid0.N, win0_2.index t = win0_5.index t ∧ win0_3.index t = win0_6.index t)

theorem flush4 : ∀ t : Fin cfg0.N, (cfg0.win 4).flush t = true → 8 ≤ t.val :=
  (by decide +kernel : ∀ t : Fin grid0.N, (cfg0.win 4).flush t = true → 8 ≤ t.val)

/-! ## The side casts -/

theorem side1 (W : FVec Ideal S1x4096x11008 .f32) (i : Fin 4096) (j : Fin 11008) :
    sideRef W (ix2 i j) = W (ix3 0 i j) := by
  pointwise! [sideRef]

theorem final5 (c : Dev nD) : (dats m 0 c).arrAt 5 (cfgs 0).N = sideRef (m ((c : Thread nD τ).loc main_arg2)) := by
  refine (dats m 0 c).arrAt_eq_of_covers 5 _ (by decide +kernel) fun t hf y => ?_
  blk_simp
  rw [after5]
  pointwise [k0_pay1, sideRef]
  blk_point [iblk, (idx_side t).1]

theorem final6 (c : Dev nD) : (dats m 0 c).arrAt 6 (cfgs 0).N = sideRef (m ((c : Thread nD τ).loc main_arg3)) := by
  refine (dats m 0 c).arrAt_eq_of_covers 6 _ (by decide +kernel) fun t hf y => ?_
  blk_simp
  rw [after6]
  pointwise [k0_pay2, sideRef]
  blk_point [iblk, (idx_side t).2]

/-! ## The product -/

/-- The staged tile, read at a row and a column. -/
theorem tile_at (c : Dev nD) (t : Fin cfg0.N) (r : Fin 1024) (k : Fin 4096) :
    tile m c t (ix3 0 r k) = iblk m c 1 (stagedAt t r) (ix2 ⟨r.val % 128, Nat.mod_lt _ (by decide)⟩ k) := by
  have e : ∀ x : FVec Ideal S128x4096 .f32, ∀ q : Fin 128, k0_pay4 (F := Ideal) x (ix3 0 q k) = x (ix2 q k) := fun x q => by
    pointwise! [k0_pay4]
  refine Eq.trans ?_ (e (iblk m c 1 (stagedAt t r)) _)
  unfold tile
  refine congrArg (k0_pay4 (iblk m c 1 (stagedAt t r))) (funext fun a => ?_)
  match a with
  | ⟨0, _⟩ => rfl
  | ⟨1, _⟩ => rfl
  | ⟨2, _⟩ => rfl

/-- The transposed weight the region finds. -/
theorem entry1 (c : Dev nD) (r : Fin 20496) (k : Fin 4096) :
    V m c main_v1 (ix2 r k) = m ((c : Thread nD τ).loc main_arg1) (ix3 0 k r) := by
  entry_read
  pointwise

theorem prod_at (w : FVec Ideal S1x1024x4096 .bf16) (x : FVec Ideal S1024x4096 .bf16) (a b : Fin 1024) :
    k0_pay5 w x (ix2 a b) = ∑ k : Fin 4096, x (ix2 a k) * w (ix3 0 b k) := by
  pointwise! [k0_pay5]

theorem ref_at (X : FVec Ideal S8192x4096 .bf16) (W : FVec Ideal S1x4096x20496 .f32) (i : Fin 8192) (j : Fin 20480) :
    projRef X W (ix2 i j) = ∑ k : Fin 4096, X (ix2 i k) * W (ix3 0 k ⟨j.val + (if j.val < 12288 then 0 else 16), by have := j.isLt; split <;> omega⟩) := by
  pointwise [projRef]
  by_cases h : j.val < 12288
  · rw [dif_pos h]
    refine Finset.sum_congr rfl fun k _ => ?_
    refine congrArg (fun z => X (ix2 i k) * W (ix3 0 k z)) (Fin.ext ?_)
    show j.val = j.val + (if j.val < 12288 then 0 else 16)
    rw [if_pos h]; rfl
  · rw [dif_neg h]
    refine Finset.sum_congr rfl fun k _ => ?_
    refine congrArg (fun z => X (ix2 i k) * W (ix3 0 k z)) (Fin.ext ?_)
    show 12304 + (j.val - 12288) = j.val + (if j.val < 12288 then 0 else 16)
    rw [if_neg h]; omega

/-- The piece of the weight begins at the element its index map names. -/
theorem piece_emb (t : Fin cfg0.N) (y : S128x4096.Idx) (a : Fin 2) :
    ((((cfg0.win 1).blk t).view.emb y) a : ℕ) = win0_1.index t a + (y a).val := by
  show win0_1.index t a + 1 * (y a).val = _
  rw [Nat.one_mul]

/-- The product at a point of the grid is the reference's block there. -/
theorem point4 (c : Dev nD) (t : Fin cfg0.N) (h8 : 8 ≤ t.val) (a b : Fin 1024) :
    k0_pay5 (tile m c t) (iblk m c 0 t) (ix2 a b)
      = projRef (m ((c : Thread nD τ).loc main_arg0)) (m ((c : Thread nD τ).loc main_arg1))
          (ix2 ⟨t.val % 8 * 1024 + a.val, by have := a.isLt; omega⟩
            ⟨(t.val / 8 - 1) * 1024 + b.val, by have := b.isLt; have : t.val < 168 := lt_of_lt_of_eq t.isLt N_0; omega⟩) := by
  refine (prod_at _ _ a b).trans (Eq.trans ?_ (ref_at _ _ _ _).symm)
  have ht : t.val < 168 := lt_of_lt_of_eq t.isLt N_0
  refine Finset.sum_congr rfl fun k _ => ?_
  refine Ideal.mul_congr ?_ ?_
  · blk_ext [iblk, V, (idx_later t h8).1]
  · refine (tile_at m c t b k).trans (Eq.trans ?_ (entry1 m c _ k))
    have hs : (stagedAt t b).val = (t.val / 8 - 1) * 8 + b.val / 128 := rfl
    have hb := b.isLt
    have hd : (stagedAt t b).val / 8 = t.val / 8 - 1 := by omega
    have hm : (stagedAt t b).val % 8 = b.val / 128 := by omega
    have hi := idx_first (stagedAt t b) (by omega)
    rw [hd, hm] at hi
    have e0 : (win0_1.index (stagedAt t b) 0 : ℕ) = (t.val / 8 - 1) * 1024 + b.val / 128 * 128 + (if t.val / 8 - 1 < 12 then 0 else 16) := congrFun hi 0
    have e1 : (win0_1.index (stagedAt t b) 1 : ℕ) = 0 := congrFun hi 1
    have p0 := piece_emb (stagedAt t b) (ix2 ⟨b.val % 128, Nat.mod_lt _ (by decide)⟩ k) 0
    have p1 := piece_emb (stagedAt t b) (ix2 ⟨b.val % 128, Nat.mod_lt _ (by decide)⟩ k) 1
    rw [e0] at p0
    rw [e1] at p1
    refine congrArg (V m c main_v1) (funext fun a => Fin.ext ?_)
    match a with
    | ⟨0, _⟩ =>
      refine p0.trans ?_
      show (t.val / 8 - 1) * 1024 + b.val / 128 * 128 + (if t.val / 8 - 1 < 12 then 0 else 16) + b.val % 128
        = (t.val / 8 - 1) * 1024 + b.val + (if (t.val / 8 - 1) * 1024 + b.val < 12288 then 0 else 16)
      split <;> split <;> omega
    | ⟨1, _⟩ =>
      refine p1.trans ?_
      show 0 + k.val = k.val
      omega

theorem final4 (c : Dev nD) : (dats m 0 c).arrAt 4 (cfgs 0).N = projRef (m ((c : Thread nD τ).loc main_arg0)) (m ((c : Thread nD τ).loc main_arg1)) := by
  refine (dats m 0 c).arrAt_eq_of_covers 4 _ (by decide +kernel) fun t hf y => ?_
  have h8 := flush4 t hf
  blk_simp
  rw [after4]
  idx_vars y
  refine (point4 m c t h8 _ _).trans ?_
  blk_ext [(idx_later t h8).2]

end Cert.KernelIdeal.InProj
end
-- ==== Proof.InProjSame.lean ====
/- The kernel and its idealization are the same text: their tables of functions are equal. -/
module

public import proofs.«01_k».proof.Proof.InProjRun
public import proofs.«01_k».proof.Proof.Gen.Kernel
public import proofs.«01_k».proof.Proof.Gen.Kernel.Skeleton

@[expose] public section

set_option maxRecDepth 65536

noncomputable section

namespace Cert.Kernel.InProj
open Idealize.ShloMosaic
variable {F : FTy → Type} [FloatOps F]

/-- The two body tables are the same text. -/
theorem defs₀_same : Cert.KernelIdeal.defs₀ (F := F) = Cert.Kernel.defs₀ (F := F) := by
  unfold Cert.KernelIdeal.defs₀ Cert.Kernel.defs₀
  refine congrArg Defs.onTc (funext fun k => funext fun a => ?_)
  match k, a with
  | ⟨0, _⟩, (t, s) => rfl
  | ⟨_ + 1, h⟩, _ => exact absurd h (Nat.not_lt.2 (Nat.le_add_left _ _))

/-- So are the two programs' tables. -/
theorem defs_same : Cert.KernelIdeal.defs (F := F) = Cert.Kernel.defs (F := F) :=
  congrArg (Pipeline.defs (Cert.KernelIdeal.pcfgs (F := F))) defs₀_same
end Cert.Kernel.InProj
end
-- ==== Proof.Ffn2Base.lean ====
/- The second feed-forward kernel: its body as four stages, the names of the slots, cells and row blocks it moves between, and the pieces held on them. -/
module

public import proofs.«01_k».proof.Proof.Gen.Kernel2Ideal.Skeleton
public import proofs.«01_k».proof.Proof.Gen.Kernel2Ideal.Frame
public import Idealize.ShloMosaic.Lib.Claim
public import Idealize.ShloMosaic.Lib.VecWindow

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, beside the counters of the kernel's own transfers. -/
abbrev UU (nD : Nat) (τ : Topo) : Type := UR sig nD τ × Counters
local notation "𝕄" => MT nD τ sig Unit (Elt F) ℕ (UU nD τ) ℕ

/-! ## The arrays and scratch buffers the kernel addresses itself -/

abbrev xM : Memref sig .tc .hbm S8192x4096 .f32 := Memref.whole main_arg0
abbrev yM : Memref sig .tc .hbm S8192x4096 .f32 := Memref.whole main_v3
abbrev aM : Memref sig .tc .vmem S2x1024x4096 .f32 := Memref.whole cc0_scratch0
abbrev hM : Memref sig .tc .vmem S1024x4096 .bf16 := Memref.whole cc0_scratch1
abbrev rM : Memref sig .tc .vmem S1024x1 .f32 := Memref.whole cc0_scratch2

/-! ## When the body's conditions hold -/

theorem cond1_iff (i : grid0.Coords) : k0_cond1 i = 1#1 ↔ (i 1).val = 0 := by revert i; decide +kernel
theorem cond2_iff (i : grid0.Coords) : k0_cond2 i = 1#1 ↔ (i 0).val = 0 := by revert i; decide +kernel
theorem cond3_iff (i : grid0.Coords) : k0_cond3 i = 1#1 ↔ (i 1).val = 1 := by revert i; decide +kernel
theorem cond4_iff (i : grid0.Coords) : k0_cond4 i = 1#1 ↔ 0 < (i 0).val := by revert i; decide +kernel
theorem cond5_iff (i : grid0.Coords) : k0_cond5 i = 1#1 ↔ (i 0).val < 7 := by revert i; decide +kernel
theorem cond6_iff (i : grid0.Coords) : k0_cond6 i = 1#1 ↔ (i 1).val = 42 := by revert i; decide +kernel
theorem cond7_iff (i : grid0.Coords) : k0_cond7 i = 1#1 ↔ (i 0).val = 7 := by revert i; decide +kernel

/-! ## The body in four stages -/

/-- The first stage: at the first step of a row block, the rows arrive and are normalised. -/
def stageA (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) : Prog (TpuEff nD τ sig (Elt F) Λ₀ .tc) PUnit := do
  if k0_h1 : k0_cond1 i = 1#1 then do
    if k0_h2 : k0_cond2 i = 1#1 then do
      let v123 : DmaSems sig S1 := cc0_scratch3.slice (Rect.unit (s := S2) ![0] S1.size inb_S2_S1_0)
      let v124 : DmaSems sig S_ := v123.squeeze S_ squeezes_S1_S_
      let v125 : Memref sig .tc .vmem S1x1024x4096 .f32 := aM.slice (Rect.unit (s := S2x1024x4096) ![0, 0, 0] S1x1024x4096.size inb_S2x1024x4096_S1x1024x4096_0_0_0) (fun _ => rfl)
      let v126 : Memref sig .tc .vmem S1024x4096 .f32 := v125.squeeze S1024x4096 squeezes_S1x1024x4096_S1024x4096
      let v127 : Memref sig .tc .hbm S1024x4096 .f32 := xM.slice (Rect.unit (s := S8192x4096) ![0, 0] S1024x4096.size inb_S8192x4096_S1024x4096_0_0) (fun _ => rfl)
      Prog.lift (.enqueueDma v127 (.here v126) (.dma v124.sem) (View.wordExact_bits rfl) ((View.wordExact_bits rfl).reshape _ _) ⟨Or.inl rfl, trivial⟩)
      pure ⟨⟩
    else do
      pure ⟨⟩
    let v114 : DmaSems sig S1 := cc0_scratch3.slice (Rect.unit (s := S2) (k0_off1 i) S1.size (k0_off1_inb i k0_h1))
    let v115 : DmaSems sig S_ := v114.squeeze S_ squeezes_S1_S_
    let v116 : Memref sig .tc .vmem S1x1024x4096 .f32 := aM.slice (Rect.unit (s := S2x1024x4096) (k0_off2 i) S1x1024x4096.size (k0_off2_inb i k0_h1)) (fun _ => rfl)
    let v117 : Memref sig .tc .vmem S1024x4096 .f32 := v116.squeeze S1024x4096 squeezes_S1x1024x4096_S1024x4096
    let v118 : Memref sig .tc .hbm S1024x4096 .f32 := xM.slice (Rect.unit (s := S8192x4096) (k0_off3 i) S1024x4096.size (k0_off3_inb i k0_h1)) (fun _ => rfl)
    Prog.lift (.waitDma2 v115.sem v118 v117 (View.wordExact_bits rfl) ((View.wordExact_bits rfl).reshape _ _))
    let v119 : Vec F S1x4096 .f32 ← Prog.lift (.load arg3 (Rect.unit (s := S1x4096) ![0, 0] S1x4096.size inb_S1x4096_S1x4096_0_0).toLoadRect (View.loadsAt_vmem h_S1x4096))
    Scf.Loop.for k0_t1_loop (k0_t1_ok i k0_h1) ⟨⟩ (k0_t1_body i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 k0_h1 v119)
    pure ⟨⟩
  else do
    pure ⟨⟩

/-- The second stage: at the second step, the block before has left and the next is sent for. -/
def stageB (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) : Prog (TpuEff nD τ sig (Elt F) Λ₀ .tc) PUnit := do
  if k0_h3 : k0_cond3 i = 1#1 then do
    if k0_h4 : k0_cond4 i = 1#1 then do
      let v120 : DmaSems sig S1 := cc0_scratch4.slice (Rect.unit (s := S2) (k0_off6 i) S1.size (k0_off6_inb i k0_h3 k0_h4))
      let v121 : DmaSems sig S_ := v120.squeeze S_ squeezes_S1_S_
      let v122 : Memref sig .tc .hbm S1024x4096 .f32 := yM.slice (Rect.unit (s := S8192x4096) (k0_off7 i) S1024x4096.size (k0_off7_inb i k0_h3 k0_h4)) (fun _ => rfl)
      let v123 : Memref sig .tc .vmem S1x1024x4096 .f32 := aM.slice (Rect.unit (s := S2x1024x4096) (k0_off8 i) S1x1024x4096.size (k0_off8_inb i k0_h3 k0_h4)) (fun _ => rfl)
      let v124 : Memref sig .tc .vmem S1024x4096 .f32 := v123.squeeze S1024x4096 squeezes_S1x1024x4096_S1024x4096
      Prog.lift (.waitDma2 v121.sem v124 v122 ((View.wordExact_bits rfl).reshape _ _) (View.wordExact_bits rfl))
      pure ⟨⟩
    else do
      pure ⟨⟩
    if k0_h5 : k0_cond5 i = 1#1 then do
      let v120 : DmaSems sig S1 := cc0_scratch3.slice (Rect.unit (s := S2) (k0_off9 i) S1.size (k0_off9_inb i k0_h3 k0_h5))
      let v121 : DmaSems sig S_ := v120.squeeze S_ squeezes_S1_S_
      let v122 : Memref sig .tc .vmem S1x1024x4096 .f32 := aM.slice (Rect.unit (s := S2x1024x4096) (k0_off10 i) S1x1024x4096.size (k0_off10_inb i k0_h3 k0_h5)) (fun _ => rfl)
      let v123 : Memref sig .tc .vmem S1024x4096 .f32 := v122.squeeze S1024x4096 squeezes_S1x1024x4096_S1024x4096
      let v124 : Memref sig .tc .hbm S1024x4096 .f32 := xM.slice (Rect.unit (s := S8192x4096) (k0_off11 i) S1024x4096.size (k0_off11_inb i k0_h3 k0_h5)) (fun _ => rfl)
      Prog.lift (.enqueueDma v124 (.here v123) (.dma v121.sem) (View.wordExact_bits rfl) ((View.wordExact_bits rfl).reshape _ _) ⟨Or.inl rfl, trivial⟩)
      pure ⟨⟩
    else do
      pure ⟨⟩
    pure ⟨⟩
  else do
    pure ⟨⟩

/-- The third stage: the step's product is added to the rows, in eight column slices. -/
def stageC (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) : Prog (TpuEff nD τ sig (Elt F) Λ₀ .tc) PUnit := do
  let v7 : Vec F S1024x4096 .bf16 ← Prog.lift (.load hM (Rect.unit (s := S1024x4096) ![0, 0] S1024x4096.size inb_S1024x4096_S1024x4096_0_0).toLoadRect (View.loadsAt_vmem h_S1024x4096))
  let v8 : Vec F S4096x256 .bf16 ← Prog.lift (.load arg4 (Rect.unit (s := S4096x256) ![0, 0] S4096x256.size inb_S4096x256_S4096x256_0_0).toLoadRect (View.loadsAt_vmem h_S4096x256))
  let v10 : Vec F S4096x256 .bf16 ← Prog.lift (.load arg5 (Rect.unit (s := S4096x256) ![0, 0] S4096x256.size inb_S4096x256_S4096x256_0_0).toLoadRect (View.loadsAt_vmem h_S4096x256))
  let v18 : Memref sig .tc .vmem S1x1024x4096 .f32 := aM.slice (Rect.unit (s := S2x1024x4096) (k0_off12 i) S1x1024x4096.size (k0_off12_inb i)) (fun _ => rfl)
  let v19 : Memref sig .tc .vmem S1024x4096 .f32 := v18.squeeze S1024x4096 squeezes_S1x1024x4096_S1024x4096
  let v20 : Vec F S1024x512 .f32 ← Prog.lift (.load v19 (Rect.unit (s := S1024x4096) ![0, 0] S1024x512.size inb_S1024x4096_S1024x512_0_0).toLoadRect (View.loadsAt_vmem h_S1024x512))
  let v21 : Vec F S256x512 .bf16 ← Prog.lift (.load arg6 (Rect.unit (s := S256x4096) ![0, 0] S256x512.size inb_S256x4096_S256x512_0_0).toLoadRect (View.loadsAt_vmem h_S256x512))
  let v24 : Memref sig .tc .vmem S1x1024x4096 .f32 := aM.slice (Rect.unit (s := S2x1024x4096) (k0_off12 i) S1x1024x4096.size (k0_off12_inb i)) (fun _ => rfl)
  let v25 : Memref sig .tc .vmem S1024x4096 .f32 := v24.squeeze S1024x4096 squeezes_S1x1024x4096_S1024x4096
  let v26 : Vec F S1024x512 .f32 ← Prog.lift (.load v25 (Rect.unit (s := S1024x4096) ![0, 0] S1024x512.size inb_S1024x4096_S1024x512_0_0).toLoadRect (View.loadsAt_vmem h_S1024x512))
  Prog.lift (.store v25 (Rect.unit (s := S1024x4096) ![0, 0] S1024x512.size inb_S1024x4096_S1024x512_0_0) (k0_pay7 v7 v8 v10 v20 v21) Finset.univ (View.stores_vmem_bits_univ h_S1024x512 rfl) (.inl rfl))
  let v17 : FVec F S1024x256 .bf16 := k0_pay6 v7 v8 v10
  let v56 : FVec F S1024x512 .f32 ← k0_part2 i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 v17
  k0_part3 i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 v17 v56
  let v84 : Memref sig .tc .vmem S1x1024x4096 .f32 := aM.slice (Rect.unit (s := S2x1024x4096) (k0_off12 i) S1x1024x4096.size (k0_off12_inb i)) (fun _ => rfl)
  let v85 : Memref sig .tc .vmem S1024x4096 .f32 := v84.squeeze S1024x4096 squeezes_S1x1024x4096_S1024x4096
  let v86 : Vec F S1024x512 .f32 ← Prog.lift (.load v85 (Rect.unit (s := S1024x4096) ![0, 3072] S1024x512.size inb_S1024x4096_S1024x512_0_3072).toLoadRect (View.loadsAt_vmem h_S1024x512))
  let v87 : Vec F S256x512 .bf16 ← Prog.lift (.load arg6 (Rect.unit (s := S256x4096) ![0, 3072] S256x512.size inb_S256x4096_S256x512_0_3072).toLoadRect (View.loadsAt_vmem h_S256x512))
  let v90 : Memref sig .tc .vmem S1x1024x4096 .f32 := aM.slice (Rect.unit (s := S2x1024x4096) (k0_off12 i) S1x1024x4096.size (k0_off12_inb i)) (fun _ => rfl)
  let v91 : Memref sig .tc .vmem S1024x4096 .f32 := v90.squeeze S1024x4096 squeezes_S1x1024x4096_S1024x4096
  let v92 : Vec F S1024x512 .f32 ← Prog.lift (.load v91 (Rect.unit (s := S1024x4096) ![0, 3072] S1024x512.size inb_S1024x4096_S1024x512_0_3072).toLoadRect (View.loadsAt_vmem h_S1024x512))
  Prog.lift (.store v91 (Rect.unit (s := S1024x4096) ![0, 3072] S1024x512.size inb_S1024x4096_S1024x512_0_3072) (k0_pay1 v17 v86 v87) Finset.univ (View.stores_vmem_bits_univ h_S1024x512 rfl) (.inl rfl))
  let v95 : Memref sig .tc .vmem S1x1024x4096 .f32 := aM.slice (Rect.unit (s := S2x1024x4096) (k0_off12 i) S1x1024x4096.size (k0_off12_inb i)) (fun _ => rfl)
  let v96 : Memref sig .tc .vmem S1024x4096 .f32 := v95.squeeze S1024x4096 squeezes_S1x1024x4096_S1024x4096
  let v97 : Vec F S1024x512 .f32 ← Prog.lift (.load v96 (Rect.unit (s := S1024x4096) ![0, 3584] S1024x512.size inb_S1024x4096_S1024x512_0_3584).toLoadRect (View.loadsAt_vmem h_S1024x512))
  let v98 : Vec F S256x512 .bf16 ← Prog.lift (.load arg6 (Rect.unit (s := S256x4096) ![0, 3584] S256x512.size inb_S256x4096_S256x512_0_3584).toLoadRect (View.loadsAt_vmem h_S256x512))
  let v101 : Memref sig .tc .vmem S1x1024x4096 .f32 := aM.slice (Rect.unit (s := S2x1024x4096) (k0_off12 i) S1x1024x4096.size (k0_off12_inb i)) (fun _ => rfl)
  let v102 : Memref sig .tc .vmem S1024x4096 .f32 := v101.squeeze S1024x4096 squeezes_S1x1024x4096_S1024x4096
  let v103 : Vec F S1024x512 .f32 ← Prog.lift (.load v102 (Rect.unit (s := S1024x4096) ![0, 3584] S1024x512.size inb_S1024x4096_S1024x512_0_3584).toLoadRect (View.loadsAt_vmem h_S1024x512))
  Prog.lift (.store v102 (Rect.unit (s := S1024x4096) ![0, 3584] S1024x512.size inb_S1024x4096_S1024x512_0_3584) (k0_pay2 v17 v97 v98) Finset.univ (View.stores_vmem_bits_univ h_S1024x512 rfl) (.inl rfl))
  pure ⟨⟩

/-- The fourth stage: at the last step, the rows are normalised in place and leave. -/
def stageD (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) : Prog (TpuEff nD τ sig (Elt F) Λ₀ .tc) PUnit := do
  if k0_h6 : k0_cond6 i = 1#1 then do
    let v109 : Vec F S1x4096 .f32 ← Prog.lift (.load arg7 (Rect.unit (s := S1x4096) ![0, 0] S1x4096.size inb_S1x4096_S1x4096_0_0).toLoadRect (View.loadsAt_vmem h_S1x4096))
    Scf.Loop.for k0_t2_loop (k0_t2_ok i k0_h6) ⟨⟩ (k0_t2_body i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 k0_h6)
    Scf.Loop.for k0_t3_loop (k0_t3_ok i k0_h6) ⟨⟩ (k0_t3_body i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 k0_h6 v109)
    let v116 : DmaSems sig S1 := cc0_scratch4.slice (Rect.unit (s := S2) (k0_off19 i) S1.size (k0_off19_inb i k0_h6))
    let v117 : DmaSems sig S_ := v116.squeeze S_ squeezes_S1_S_
    let v118 : Memref sig .tc .hbm S1024x4096 .f32 := yM.slice (Rect.unit (s := S8192x4096) (k0_off20 i) S1024x4096.size (k0_off20_inb i k0_h6)) (fun _ => rfl)
    let v119 : Memref sig .tc .vmem S1x1024x4096 .f32 := aM.slice (Rect.unit (s := S2x1024x4096) (k0_off21 i) S1x1024x4096.size (k0_off21_inb i k0_h6)) (fun _ => rfl)
    let v120 : Memref sig .tc .vmem S1024x4096 .f32 := v119.squeeze S1024x4096 squeezes_S1x1024x4096_S1024x4096
    Prog.lift (.enqueueDma v120 (.here v118) (.dma v117.sem) ((View.wordExact_bits rfl).reshape _ _) (View.wordExact_bits rfl) ⟨Or.inl rfl, trivial⟩)
    if k0_h7 : k0_cond7 i = 1#1 then do
      let v125 : DmaSems sig S1 := cc0_scratch4.slice (Rect.unit (s := S2) (k0_off22 i) S1.size (k0_off22_inb i k0_h6 k0_h7))
      let v126 : DmaSems sig S_ := v125.squeeze S_ squeezes_S1_S_
      let v127 : Memref sig .tc .hbm S1024x4096 .f32 := yM.slice (Rect.unit (s := S8192x4096) (k0_off23 i) S1024x4096.size (k0_off23_inb i k0_h6 k0_h7)) (fun _ => rfl)
      let v128 : Memref sig .tc .vmem S1x1024x4096 .f32 := aM.slice (Rect.unit (s := S2x1024x4096) (k0_off24 i) S1x1024x4096.size (k0_off24_inb i k0_h6 k0_h7)) (fun _ => rfl)
      let v129 : Memref sig .tc .vmem S1024x4096 .f32 := v128.squeeze S1024x4096 squeezes_S1x1024x4096_S1024x4096
      Prog.lift (.waitDma2 v126.sem v129 v127 ((View.wordExact_bits rfl).reshape _ _) (View.wordExact_bits rfl))
      pure ⟨⟩
    else do
      pure ⟨⟩
    pure ⟨⟩
  else do
    pure ⟨⟩
  pure ⟨⟩

/-- The body on the given staging buffers. -/
abbrev bodyG (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) : Prog (TpuEff nD τ sig (Elt F) Λ₀ .tc) PUnit :=
  cc0_ffn i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4

/-- The body is its four stages in order. -/
theorem bodyG_stages (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) :
    bodyG (F := F) i arg3 harg3 arg4 harg4 arg5 harg5 arg6 harg6 arg7 harg7
      = (stageA i arg3 harg3 arg4 harg4 arg5 harg5 arg6 harg6 arg7 harg7 >>= fun _ => stageB i arg3 harg3 arg4 harg4 arg5 harg5 arg6 harg6 arg7 harg7 >>= fun _ =>
          stageC i arg3 harg3 arg4 harg4 arg5 harg5 arg6 harg6 arg7 harg7 >>= fun _ => stageD i arg3 harg3 arg4 harg4 arg5 harg5 arg6 harg6 arg7 harg7) := by
  unfold bodyG
  rw [cc0_ffn_eq_skeleton]; unfold cc0_ffn_skel
  rw [k0_part1_eq_skeleton]; unfold k0_part1_skel
  unfold stageA stageB stageC stageD
  by_cases h1 : k0_cond1 i = 1#1 <;> by_cases h3 : k0_cond3 i = 1#1
  · have := (cond1_iff i).1 h1; have := (cond3_iff i).1 h3; omega
  · by_cases h2 : k0_cond2 i = 1#1 <;> simp only [h1, h2, h3, dif_pos, dif_neg, not_false_eq_true, bind_assoc, pure_bind] <;> rfl
  · by_cases h4 : k0_cond4 i = 1#1 <;> by_cases h5 : k0_cond5 i = 1#1 <;> simp only [h1, h3, h4, h5, dif_pos, dif_neg, not_false_eq_true, bind_assoc, pure_bind] <;> rfl
  · simp only [h1, h3, dif_pos, dif_neg, not_false_eq_true, bind_assoc, pure_bind] <;> rfl

/-! ## Row blocks, slots and cells -/

abbrev rowOff (b : Fin 8) : Fin 2 → Nat := ![1024 * b.val, 0]
theorem rowOff_inb (b : Fin 8) : ∀ a, rowOff b a + S1024x4096.size a ≤ S8192x4096.size a := by
  have := b.isLt; intro a; fin_cases a
  · show 1024 * b.val + 1024 ≤ 8192; omega
  · show 0 + 4096 ≤ 4096; omega
abbrev slotOff (s : Fin 2) : Fin 3 → Nat := ![s.val, 0, 0]
theorem slotOff_inb (s : Fin 2) : ∀ a, slotOff s a + S1x1024x4096.size a ≤ S2x1024x4096.size a := by
  have := s.isLt; intro a; fin_cases a
  · show s.val + 1 ≤ 2; omega
  · show 0 + 1024 ≤ 1024; omega
  · show 0 + 4096 ≤ 4096; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Row block `b` of the input. -/
def xT (b : Fin 8) : Memref sig .tc .hbm S1024x4096 .f32 :=
  xM.slice (Rect.unit (s := S8192x4096) (rowOff b) S1024x4096.size (rowOff_inb b)) (fun _ => rfl)
/-- Row block `b` of the output. -/
def yT (b : Fin 8) : Memref sig .tc .hbm S1024x4096 .f32 :=
  yM.slice (Rect.unit (s := S8192x4096) (rowOff b) S1024x4096.size (rowOff_inb b)) (fun _ => rfl)
/-- Slot `s` of the accumulator, as the body slices and squeezes it. -/
def slot (s : Fin 2) : Memref sig .tc .vmem S1024x4096 .f32 :=
  (aM.slice (Rect.unit (s := S2x1024x4096) (slotOff s) S1x1024x4096.size (slotOff_inb s)) (fun _ => rfl)).squeeze S1024x4096 squeezes_S1x1024x4096_S1024x4096
/-- The cell counting slot `s`'s arrivals. -/
def xc (s : Fin 2) : DmaSems sig S_ := (cc0_scratch3.slice (Rect.unit (s := S2) (semOff s) S1.size (semOff_inb s))).squeeze S_ squeezes_S1_S_
/-- The cell counting slot `s`'s departures. -/
def yc (s : Fin 2) : DmaSems sig S_ := (cc0_scratch4.slice (Rect.unit (s := S2) (semOff s) S1.size (semOff_inb s))).squeeze S_ squeezes_S1_S_

instance (s : Fin 2) : ClosedOff (slotOff s) := ⟨slotOff s, rfl⟩
instance (b : Fin 8) : ClosedOff (rowOff b) := ⟨rowOff b, rfl⟩

/-- The row block of a point, the one before, the one after; its slot and the other one. -/
def row (i : grid0.Coords) : Fin 8 := ⟨(i 0).val, (i 0).isLt⟩
def prv (i : grid0.Coords) : Fin 8 := ⟨(i 0).val - 1, by have : (i 0).val < 8 := (i 0).isLt; omega⟩
def nxt (i : grid0.Coords) : Fin 8 := ⟨((i 0).val + 1) % 8, Nat.mod_lt _ (by decide)⟩
def cur (i : grid0.Coords) : Fin 2 := ⟨(i 0).val % 2, Nat.mod_lt _ (by decide)⟩
def oth (i : grid0.Coords) : Fin 2 := ⟨1 - (i 0).val % 2, by omega⟩

/-! ## The body's slices are these -/

private theorem xc_congr {off : Fin 1 → Nat} {s : Fin 2} (e : off = semOff s) (hh) :
    (cc0_scratch3.slice (Rect.unit (s := S2) off S1.size hh)).squeeze S_ squeezes_S1_S_ = xc s :=
  congrArg (fun A : DmaSems sig S1 => A.squeeze S_ squeezes_S1_S_) (SemArray.slice_unit_congr _ e _ _)
private theorem yc_congr {off : Fin 1 → Nat} {s : Fin 2} (e : off = semOff s) (hh) :
    (cc0_scratch4.slice (Rect.unit (s := S2) off S1.size hh)).squeeze S_ squeezes_S1_S_ = yc s :=
  congrArg (fun A : DmaSems sig S1 => A.squeeze S_ squeezes_S1_S_) (SemArray.slice_unit_congr _ e _ _)
private theorem slot_congr {off : Fin 3 → Nat} {s : Fin 2} (e : off = slotOff s) (hh hs) :
    (aM.slice (Rect.unit (s := S2x1024x4096) off S1x1024x4096.size hh) hs).squeeze S1024x4096 squeezes_S1x1024x4096_S1024x4096 = slot s :=
  congrArg (fun M : Memref sig .tc .vmem S1x1024x4096 .f32 => M.squeeze S1024x4096 squeezes_S1x1024x4096_S1024x4096) (Memref.slice_unit_congr _ e _ _ _ _)
private theorem xT_congr {off : Fin 2 → Nat} {b : Fin 8} (e : off = rowOff b) (hh hs) :
    xM.slice (Rect.unit (s := S8192x4096) off S1024x4096.size hh) hs = xT b := Memref.slice_unit_congr _ e _ _ _ (fun _ => rfl)
private theorem yT_congr {off : Fin 2 → Nat} {b : Fin 8} (e : off = rowOff b) (hh hs) :
    yM.slice (Rect.unit (s := S8192x4096) off S1024x4096.size hh) hs = yT b := Memref.slice_unit_congr _ e _ _ _ (fun _ => rfl)

section Canon
variable (i : grid0.Coords)

theorem off7_eq (h : 0 < (i 0).val) : k0_off7 i = rowOff (prv i) := by
  have e : ∀ i : grid0.Coords, 0 < (i 0).val → k0_off7 i = ![1024 * ((i 0).val - 1), 0] := by decide +kernel
  exact e i h
theorem off11_eq (h : (i 0).val < 7) : k0_off11 i = rowOff (nxt i) := by
  rw [k0_off11_eq]; unfold rowOff nxt
  have : ((i 0).val + 1) % 8 = (i 0).val + 1 := by omega
  simp only [this, Nat.mul_add, Nat.mul_one]

@[sl_canon] theorem c_xc0 (h : (i 0).val = 0) (hh) : (cc0_scratch3.slice (Rect.unit (s := S2) ![0] S1.size hh)).squeeze S_ squeezes_S1_S_ = xc 0 := xc_congr (by decide) _
@[sl_canon] theorem c_slot0 (hh hs) : (aM.slice (Rect.unit (s := S2x1024x4096) ![0, 0, 0] S1x1024x4096.size hh) hs).squeeze S1024x4096 squeezes_S1x1024x4096_S1024x4096 = slot 0 := slot_congr (by decide) _ _
@[sl_canon] theorem c_xT0 (hh hs) : xM.slice (Rect.unit (s := S8192x4096) ![0, 0] S1024x4096.size hh) hs = xT 0 := xT_congr (by decide) _ _
@[sl_canon] theorem c_1 (hh) : (cc0_scratch3.slice (Rect.unit (s := S2) (k0_off1 i) S1.size hh)).squeeze S_ squeezes_S1_S_ = xc (cur i) := xc_congr (k0_off1_eq i) _
@[sl_canon] theorem c_2 (hh hs) : (aM.slice (Rect.unit (s := S2x1024x4096) (k0_off2 i) S1x1024x4096.size hh) hs).squeeze S1024x4096 squeezes_S1x1024x4096_S1024x4096 = slot (cur i) := slot_congr (k0_off2_eq i) _ _
@[sl_canon] theorem c_3 (hh hs) : xM.slice (Rect.unit (s := S8192x4096) (k0_off3 i) S1024x4096.size hh) hs = xT (row i) := xT_congr (k0_off3_eq i) _ _
@[sl_canon] theorem c_4 (hh hs) : (aM.slice (Rect.unit (s := S2x1024x4096) (k0_off4 i) S1x1024x4096.size hh) hs).squeeze S1024x4096 squeezes_S1x1024x4096_S1024x4096 = slot (cur i) := slot_congr (k0_off4_eq i) _ _
@[sl_canon] theorem c_6 (hh) : (cc0_scratch4.slice (Rect.unit (s := S2) (k0_off6 i) S1.size hh)).squeeze S_ squeezes_S1_S_ = yc (oth i) := yc_congr (k0_off6_eq i) _
@[sl_canon] theorem c_7 (h : 0 < (i 0).val) (hh hs) : yM.slice (Rect.unit (s := S8192x4096) (k0_off7 i) S1024x4096.size hh) hs = yT (prv i) := yT_congr (off7_eq i h) _ _
@[sl_canon] theorem c_8 (hh hs) : (aM.slice (Rect.unit (s := S2x1024x4096) (k0_off8 i) S1x1024x4096.size hh) hs).squeeze S1024x4096 squeezes_S1x1024x4096_S1024x4096 = slot (oth i) := slot_congr (k0_off8_eq i) _ _
@[sl_canon] theorem c_9 (hh) : (cc0_scratch3.slice (Rect.unit (s := S2) (k0_off9 i) S1.size hh)).squeeze S_ squeezes_S1_S_ = xc (oth i) := xc_congr (k0_off9_eq i) _
@[sl_canon] theorem c_10 (hh hs) : (aM.slice (Rect.unit (s := S2x1024x4096) (k0_off10 i) S1x1024x4096.size hh) hs).squeeze S1024x4096 squeezes_S1x1024x4096_S1024x4096 = slot (oth i) := slot_congr (k0_off10_eq i) _ _
@[sl_canon] theorem c_11 (h : (i 0).val < 7) (hh hs) : xM.slice (Rect.unit (s := S8192x4096) (k0_off11 i) S1024x4096.size hh) hs = xT (nxt i) := xT_congr (off11_eq i h) _ _
@[sl_canon] theorem c_12 (hh hs) : (aM.slice (Rect.unit (s := S2x1024x4096) (k0_off12 i) S1x1024x4096.size hh) hs).squeeze S1024x4096 squeezes_S1x1024x4096_S1024x4096 = slot (cur i) := slot_congr (k0_off12_eq i) _ _
@[sl_canon] theorem c_13 (hh hs) : (aM.slice (Rect.unit (s := S2x1024x4096) (k0_off13 i) S1x1024x4096.size hh) hs).squeeze S1024x4096 squeezes_S1x1024x4096_S1024x4096 = slot (cur i) := slot_congr (k0_off13_eq i) _ _
@[sl_canon] theorem c_16 (hh hs) : (aM.slice (Rect.unit (s := S2x1024x4096) (k0_off16 i) S1x1024x4096.size hh) hs).squeeze S1024x4096 squeezes_S1x1024x4096_S1024x4096 = slot (cur i) := slot_congr (k0_off16_eq i) _ _
@[sl_canon] theorem c_19 (hh) : (cc0_scratch4.slice (Rect.unit (s := S2) (k0_off19 i) S1.size hh)).squeeze S_ squeezes_S1_S_ = yc (cur i) := yc_congr (k0_off19_eq i) _
@[sl_canon] theorem c_20 (hh hs) : yM.slice (Rect.unit (s := S8192x4096) (k0_off20 i) S1024x4096.size hh) hs = yT (row i) := yT_congr (k0_off20_eq i) _ _
@[sl_canon] theorem c_21 (hh hs) : (aM.slice (Rect.unit (s := S2x1024x4096) (k0_off21 i) S1x1024x4096.size hh) hs).squeeze S1024x4096 squeezes_S1x1024x4096_S1024x4096 = slot (cur i) := slot_congr (k0_off21_eq i) _ _
@[sl_canon] theorem c_22 (hh) : (cc0_scratch4.slice (Rect.unit (s := S2) (k0_off22 i) S1.size hh)).squeeze S_ squeezes_S1_S_ = yc (cur i) := yc_congr (k0_off22_eq i) _
@[sl_canon] theorem c_23 (hh hs) : yM.slice (Rect.unit (s := S8192x4096) (k0_off23 i) S1024x4096.size hh) hs = yT (row i) := yT_congr (k0_off23_eq i) _ _
@[sl_canon] theorem c_24 (hh hs) : (aM.slice (Rect.unit (s := S2x1024x4096) (k0_off24 i) S1x1024x4096.size hh) hs).squeeze S1024x4096 squeezes_S1x1024x4096_S1024x4096 = slot (cur i) := slot_congr (k0_off24_eq i) _ _

end Canon

/-! ## The pieces held on them -/

section Pieces
variable (c : Dev nD) (X : Buf (Elt F) (xM.view.loc (c : Thread nD τ)))

abbrev xcP (s : Fin 2) : sProp 𝕄 := semVal ((c : Thread nD τ), SemLoc.dma (xc s).sem) 0
abbrev ycP (s : Fin 2) : sProp 𝕄 := semVal ((c : Thread nD τ), SemLoc.dma (yc s).sem) 0
/-- Slot `s` held at contents `f`. -/
abbrev slotP (s : Fin 2) (f : Buf (Elt F) ((slot s).view.loc (c : Thread nD τ))) : sProp 𝕄 :=
  (slot s).view.loc (c : Thread nD τ) ↦[(slot s).view.set]{fullShare} f
/-- Row block `b` of the input held, at the input's contents. -/
abbrev xP (b : Fin 8) : sProp 𝕄 := (xT b).view.loc (c : Thread nD τ) ↦[(xT b).view.set]{fullShare} X
/-- Row block `b` of the output held at contents `f`. -/
abbrev yP (b : Fin 8) (f : Buf (Elt F) ((yT b).view.loc (c : Thread nD τ))) : sProp 𝕄 :=
  (yT b).view.loc (c : Thread nD τ) ↦[(yT b).view.set]{fullShare} f
/-- The rows of block `b` of the input. -/
abbrev xRows (b : Fin 8) : S1024x4096.Idx → Elt F .f32 := (xT b).view.read (Elt F) X
/-- What an arrival of block `b` leaves in slot `s` over contents `f`. -/
abbrev landed (s : Fin 2) (b : Fin 8) (f : Buf (Elt F) ((slot s).view.loc (c : Thread nD τ))) : Buf (Elt F) ((slot s).view.loc (c : Thread nD τ)) :=
  (slot s).view.writes (Elt F) f [⟨Rect.whole S1024x4096, ReadAs.same.apply (xRows c X b)⟩]
/-- What a departure from slot `s` at contents `f` leaves in block `b` of the output over contents `g`. -/
abbrev left (s : Fin 2) (b : Fin 8) (f : Buf (Elt F) ((slot s).view.loc (c : Thread nD τ))) (g : Buf (Elt F) ((yT b).view.loc (c : Thread nD τ))) : Buf (Elt F) ((yT b).view.loc (c : Thread nD τ)) :=
  (yT b).view.writes (Elt F) g [⟨Rect.whole S1024x4096, ReadAs.same.apply ((slot s).view.read (Elt F) f)⟩]
/-- Block `b` of the input on its way into slot `s`. -/
def xFly (s : Fin 2) (b : Fin 8) : sProp 𝕄 :=
  iprop(∃ f, Transfers.Flight countersEmb (c : Thread nD τ) (SemLoc.dma (xc s).sem) () 524288 iprop(slotP c s (landed c X s b f) ∗ xP c X b))
/-- The values `v` on their way from slot `s` into block `b` of the output. -/
def yFly (s : Fin 2) (b : Fin 8) (v : S1024x4096.Idx → Elt F .f32) : sProp 𝕄 :=
  iprop(∃ f g, ⌜(slot s).view.read (Elt F) f = v⌝ ∗ Transfers.Flight countersEmb (c : Thread nD τ) (SemLoc.dma (yc s).sem) () 524288 iprop(yP c b (left c s b f g) ∗ slotP c s f))

end Pieces

end Cert.Kernel2Ideal.Ffn2
end
-- ==== Proof.Ffn2Norm.lean ====
/- The first stage of the second feed-forward kernel: a row block arrives and its normalised rows are stored. -/
module

public import proofs.«01_k».proof.Proof.Ffn2Base

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## A row block in bands of sixteen rows -/

abbrev bandOff (k : ℕ) : Fin 2 → Nat := ![16 * k, 0]
theorem bandOff_inb (k : Fin 64) : ∀ a, bandOff k.val a + S16x4096.size a ≤ S1024x4096.size a := by
  have := k.isLt; intro a; fin_cases a
  · show 16 * k.val + 16 ≤ 1024; omega
  · show 0 + 4096 ≤ 4096; omega
/-- Band `k` of a row block. -/
def band {α : Type} (X : S1024x4096.Idx → α) (k : Fin 64) : S16x4096.Idx → α :=
  VecWindow.window X (bandOff k.val) S16x4096.size (bandOff_inb k)
/-- The band of a place of a row block, and its place in the band. -/
def bandOf (y : S1024x4096.Idx) : Fin 64 := ⟨(y 0).val / 16, by have : (y 0).val < 1024 := (y 0).isLt; omega⟩
def bandLoc (y : S1024x4096.Idx) : S16x4096.Idx := fun a => match a with
  | ⟨0, _⟩ => ⟨(y 0).val % 16, Nat.mod_lt _ (by decide)⟩
  | ⟨1, _⟩ => ⟨(y 1).val, (y 1).isLt⟩

theorem trips1 : k0_t1_loop.trips = 64 := by decide
theorem trips2 : k0_t2_loop.trips = 64 := by decide
theorem trips3 : k0_t3_loop.trips = 64 := by decide

/-- A place of band `k` is where the band's rectangle says. -/
theorem unitLocal_band (y : S1024x4096.Idx) (k : ℕ) (hk : (y 0).val / 16 = k) (h) :
    Rect.unitLocal (s := S1024x4096) (off := bandOff k) (size := S16x4096.size) y h = bandLoc y := by
  funext a; apply Fin.ext; fin_cases a
  · show (y 0).val - 16 * k = (y 0).val % 16; omega
  · show (y 1).val - 0 = (y 1).val; omega

/-- The normalised rows of a block `X` under the gain `g`, band by band. -/
def hval (g : Vec F S1x4096 .f32) (X : S1024x4096.Idx → Elt F .f32) : S1024x4096.Idx → Elt F .bf16 :=
  fun y => k0_pay5 g (band X (bandOf y)) (bandLoc y)

section StageA
variable (c : Dev nD) (X : Buf (Elt F) (xM.view.loc (c : Thread nD τ))) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole)

/-- The scratch of normalised rows held at contents `f`. -/
abbrev hP (f : Buf (Elt F) (hM.view.loc (c : Thread nD τ))) : sProp 𝕄 := hM.view.loc (c : Thread nD τ) ↦[hM.view.set]{fullShare} f

/-- The bands below `k` are stored. -/
abbrev upto (g : Vec F S1x4096 .f32) (x : S1024x4096.Idx → Elt F .f32) (k : ℕ) (f : Buf (Elt F) (hM.view.loc (c : Thread nD τ))) : Prop :=
  ∀ y : S1024x4096.Idx, (y 0).val < 16 * k → hM.view.read (Elt F) f y = hval g x y

/-- Before trip `k` of the normalisation: the slot as it was, the first `k` bands stored. -/
def inv1 (s : Fin 2) (fs : Buf (Elt F) ((slot s).view.loc (c : Thread nD τ))) (g : Vec F S1x4096 .f32) (k : ℕ) (_ : Unit) : sProp 𝕄 :=
  iprop(slotP c s fs ∗ ∃ fh, ⌜upto c g ((slot s).view.read (Elt F) fs) k fh⌝ ∗ hP c fh)

/-- One more band is stored. -/
theorem upto_succ (g : Vec F S1x4096 .f32) (s : Fin 2) (fs : Buf (Elt F) ((slot s).view.loc (c : Thread nD τ))) (k : Fin k0_t1_loop.trips) (fh) (hh hh')
    (H : upto c g ((slot s).view.read (Elt F) fs) k.val fh) :
    upto c g ((slot s).view.read (Elt F) fs) (k.val + 1)
      (hM.view.writes (Elt F) fh [⟨Rect.unit (s := S1024x4096) (k0_off5 k) S16x4096.size hh,
        k0_pay5 g ((slot s).view.readAt (Elt F) (Rect.unit (s := S1024x4096) (k0_off5 k) S16x4096.size hh').toLoadRect fs)⟩]) := by
  have hk : k.val < 64 := Nat.lt_of_lt_of_eq k.isLt trips1
  intro y hy
  refine (View.read_writes_cons_rows (v := hM.view) fh hh _ [] y (W := 16) (k0_off5_eq k) rfl rfl).trans ?_
  by_cases hin : 16 * k.val ≤ (y 0).val ∧ (y 0).val < 16 * k.val + 16
  · rw [dif_pos hin]
    have hb : (y 0).val / 16 = k.val := by omega
    rw [View.readAt_unit _ _ _ (k0_off5_eq k) (bandOff_inb ⟨k.val, hk⟩)]
    have e : bandOf y = ⟨k.val, hk⟩ := Fin.ext hb
    unfold hval band; rw [e]
    exact congrArg _ (unitLocal_band y k.val hb _)
  · rw [dif_neg hin]
    exact H y (by omega)

set_option maxHeartbeats 400000 in
theorem step1 (s : Fin 2) (hs : cur i = s) (fs : Buf (Elt F) ((slot s).view.loc (c : Thread nD τ))) (g : Vec F S1x4096 .f32) (h1 : k0_cond1 i = 1#1) (E : Set ℕ) (k : Fin k0_t1_loop.trips) (u : Unit) :
    inv1 c s fs g k.val u ⊢ wp frame (wpE (defs₀ (F := F)) Variants.none (c : Thread nD τ) none) E (k0_t1_body i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 h1 g k u) (inv1 c s fs g (k.val + 1)) := by
  have hcanon1 : cur i = s := hs
  unfold inv1
  iintro ⟨HS, ⟨%fh, %hfh, HH⟩⟩
  sl_unfold [k0_t1_body]
  sl_exec
  sl_step
  isplitl [HS]; · iexact HS
  iexists _; isplitr; swap; · iexact HH
  ipureintro; exact upto_succ c g s fs k fh _ _ hfh

/-- What the first stage hands back at the first step of a block. -/
abbrev doneA (s : Fin 2) (b : Fin 8) (g : Vec F S1x4096 .f32) : sProp 𝕄 :=
  iprop(owns (c : Thread nD τ) arg3 fullShare g ∗ xP c X b ∗ owns (c : Thread nD τ) (slot s) fullShare (xRows c X b) ∗ xcP c s
    ∗ owns (c : Thread nD τ) hM fullShare (hval g (xRows c X b)) ∗ ∃ W, owes (c : Thread nD τ) 0 W)

set_option maxHeartbeats 400000 in
/-- The first stage at the first step of a later block: the block is on its way. -/
theorem stageA_later (g : Vec F S1x4096 .f32) (h1 : (i 1).val = 0) (h2 : 0 < (i 0).val) (W : Waits sig Unit) (K : PUnit → sProp 𝕄) :
    iprop((owns (c : Thread nD τ) arg3 fullShare g ∗ xFly c X (cur i) (row i) ∗ (∃ fh, hP c fh) ∗ owes (c : Thread nD τ) 0 W)
        ∗ (doneA c X arg3 (cur i) (row i) g -∗ K ⟨⟩))
      ⊢ wp frame (wpE (defs₀ (F := F)) Variants.none (c : Thread nD τ) none) Set.univ (stageA i arg3 harg3 arg4 harg4 arg5 harg5 arg6 harg6 arg7 harg7) K := by
  have hc1 : k0_cond1 i = 1#1 := (cond1_iff i).2 h1
  have hc2 : ¬ k0_cond2 i = 1#1 := fun h => by have := (cond2_iff i).1 h; omega
  unfold doneA owns xFly
  iintro ⟨⟨⟨%g3, %hg3, H3⟩, ⟨%f, HF⟩, ⟨%fh, HH⟩, HW⟩, Hk⟩
  obtain rfl := harg3.eq_unread hg3
  unfold stageA
  sl_exec (disch := first | sl_exact hc2 | sl_exact hc1)
  have hg : arg3.view.readAt (Elt F) (Rect.unit (s := S1x4096) ![0, 0] S1x4096.size inb_S1x4096_S1x4096_0_0).toLoadRect (harg3.unread g) = g := by rw [View.readAt_full, hg3]
  sl_rw [hg]
  sl_for (inv1 c (cur i) (landed c X (cur i) (row i) (slot (cur i)).view.junk) g) $$ [HF_dst HH]
  · intro k u; exact step1 c i arg3 harg3 arg4 harg4 arg5 harg5 arg6 harg6 arg7 harg7 (cur i) rfl _ g hc1 Set.univ k u
  · unfold inv1
    isplitl [HF_dst]; · iexact HF_dst
    iexists _; isplitr; swap; · iexact HH
    ipureintro; intro y hy; omega
  iintro %u HI
  unfold inv1
  icases HI with ⟨HS, ⟨%fh', %hfh, HH⟩⟩
  sl_exec
  sl_step
  iapply Hk
  isplitl [H3]
  · iexists harg3.unread g; iframe; ipureintro; exact hg3
  isplitl [HF_src]; · iexact HF_src
  isplitl [HS]
  · iexists _; isplitr; swap; · iexact HS
    ipureintro; exact View.read_writes_whole _ _ _
  isplitl [HF]; · iexact HF
  isplitl [HH]
  · iexists fh'; isplitr; swap; · iexact HH
    ipureintro; funext y
    have hy : (y 0).val < 1024 := (y 0).isLt
    refine (hfh y (by show (y 0).val < 16 * k0_t1_loop.trips; rw [trips1]; omega)).trans ?_
    exact congrArg (fun x => hval g x y) (View.read_writes_whole _ _ _)
  iexists _; iexact HW

set_option maxHeartbeats 400000 in
/-- The first stage at the first step of the first block: the block is sent for and awaited. -/
theorem stageA_first (g : Vec F S1x4096 .f32) (h1 : (i 1).val = 0) (h2 : (i 0).val = 0) (W : Waits sig Unit) (K : PUnit → sProp 𝕄) :
    iprop((owns (c : Thread nD τ) arg3 fullShare g ∗ xP c X 0 ∗ (∃ f, slotP c 0 f) ∗ xcP c 0 ∗ (∃ fh, hP c fh) ∗ owes (c : Thread nD τ) 0 W)
        ∗ (doneA c X arg3 0 0 g -∗ K ⟨⟩))
      ⊢ wp frame (wpE (defs₀ (F := F)) Variants.none (c : Thread nD τ) none) Set.univ (stageA i arg3 harg3 arg4 harg4 arg5 harg5 arg6 harg6 arg7 harg7) K := by
  have hc1 : k0_cond1 i = 1#1 := (cond1_iff i).2 h1
  have hc2 : k0_cond2 i = 1#1 := (cond2_iff i).2 h2
  have hcanon1 : cur i = 0 := Fin.ext (by show (i 0).val % 2 = 0; omega)
  have hcanon2 : row i = 0 := Fin.ext (by show (i 0).val = 0; omega)
  unfold doneA owns
  iintro ⟨⟨⟨%g3, %hg3, H3⟩, HX, ⟨%f, HS⟩, HF, ⟨%fh, HH⟩, HW⟩, Hk⟩
  obtain rfl := harg3.eq_unread hg3
  unfold stageA
  sl_exec (disch := first | sl_exact hc2 | sl_exact hc1)
  have hg : arg3.view.readAt (Elt F) (Rect.unit (s := S1x4096) ![0, 0] S1x4096.size inb_S1x4096_S1x4096_0_0).toLoadRect (harg3.unread g) = g := by rw [View.readAt_full, hg3]
  sl_rw [hg]
  sl_for (inv1 c 0 (landed c X 0 0 (slot 0).view.junk) g) $$ [HS HH]
  · intro k u; exact step1 c i arg3 harg3 arg4 harg4 arg5 harg5 arg6 harg6 arg7 harg7 0 hcanon1 _ g hc1 Set.univ k u
  · unfold inv1
    isplitl [HS]; · iexact HS
    iexists _; isplitr; swap; · iexact HH
    ipureintro; intro y hy; omega
  iintro %u HI
  unfold inv1
  icases HI with ⟨HS, ⟨%fh', %hfh, HH⟩⟩
  sl_exec
  sl_step
  iapply Hk
  isplitl [H3]
  · iexists harg3.unread g; iframe; ipureintro; exact hg3
  isplitl [HX]; · iexact HX
  isplitl [HS]
  · iexists _; isplitr; swap; · iexact HS
    ipureintro; exact View.read_writes_whole _ _ _
  isplitl [HF]; · iexact HF
  isplitl [HH]
  · iexists fh'; isplitr; swap; · iexact HH
    ipureintro; funext y
    have hy : (y 0).val < 1024 := (y 0).isLt
    refine (hfh y (by show (y 0).val < 16 * k0_t1_loop.trips; rw [trips1]; omega)).trans ?_
    exact congrArg (fun x => hval g x y) (View.read_writes_whole _ _ _)
  iexists _; iexact HW

/-- The first stage at a later step does nothing. -/
theorem stageA_skip (h1 : (i 1).val ≠ 0) (E : Set ℕ) (K : PUnit → sProp 𝕄) :
    K ⟨⟩ ⊢ wp frame (wpE (defs₀ (F := F)) Variants.none (c : Thread nD τ) none) E (stageA i arg3 harg3 arg4 harg4 arg5 harg5 arg6 harg6 arg7 harg7) K := by
  have hc1 : ¬ k0_cond1 i = 1#1 := fun h => h1 ((cond1_iff i).1 h)
  unfold stageA
  rw [dif_neg hc1]
  exact le_wp_ret _ _ _ _ _

end StageA

end Cert.Kernel2Ideal.Ffn2
end
-- ==== Proof.Ffn2Swap.lean ====
/- The second stage of the second feed-forward kernel: the finished block has left its slot, and the next block is sent for. -/
module

public import proofs.«01_k».proof.Proof.Ffn2Base

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section StageB
variable (c : Dev nD) (X : Buf (Elt F) (xM.view.loc (c : Thread nD τ))) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole)

set_option maxHeartbeats 400000 in
/-- At the first block nothing has to leave: the next block is sent for. -/
theorem stageB_first (h1 : (i 1).val = 1) (h2 : (i 0).val = 0) (E : Set ℕ) (K : PUnit → sProp 𝕄) :
    iprop((xP c X (nxt i) ∗ (∃ f, slotP c (oth i) f) ∗ xcP c (oth i)) ∗ (xFly c X (oth i) (nxt i) -∗ K ⟨⟩))
      ⊢ wp frame (wpE (defs₀ (F := F)) Variants.none (c : Thread nD τ) none) Set.univ (stageB i arg3 harg3 arg4 harg4 arg5 harg5 arg6 harg6 arg7 harg7) K := by
  have hc3 : k0_cond3 i = 1#1 := (cond3_iff i).2 h1
  have hc4 : ¬ k0_cond4 i = 1#1 := fun h => by have := (cond4_iff i).1 h; omega
  have h7 : (i 0).val < 7 := by omega
  have hc5 : k0_cond5 i = 1#1 := (cond5_iff i).2 h7
  unfold xFly
  iintro ⟨⟨HX, ⟨%f, HS⟩, HC⟩, Hk⟩
  unfold stageB
  sl_exec (disch := first | sl_exact hc4 | sl_exact hc3 | sl_exact hc5 | sl_exact h7)
  sl_step
  iapply Hk
  iexists f; iexact HC

set_option maxHeartbeats 400000 in
/-- At a middle block the block before has left, and the next is sent for. -/
theorem stageB_mid (v : S1024x4096.Idx → Elt F .f32) (h1 : (i 1).val = 1) (h2 : 0 < (i 0).val) (h7 : (i 0).val < 7) (W : Waits sig Unit) (K : PUnit → sProp 𝕄) :
    iprop((xP c X (nxt i) ∗ yFly c (oth i) (prv i) v ∗ xcP c (oth i) ∗ owes (c : Thread nD τ) 0 W)
        ∗ (iprop(xFly c X (oth i) (nxt i) ∗ owns (c : Thread nD τ) (yT (prv i)) fullShare v ∗ ycP c (oth i) ∗ ∃ W, owes (c : Thread nD τ) 0 W) -∗ K ⟨⟩))
      ⊢ wp frame (wpE (defs₀ (F := F)) Variants.none (c : Thread nD τ) none) Set.univ (stageB i arg3 harg3 arg4 harg4 arg5 harg5 arg6 harg6 arg7 harg7) K := by
  have hc3 : k0_cond3 i = 1#1 := (cond3_iff i).2 h1
  have hc4 : k0_cond4 i = 1#1 := (cond4_iff i).2 h2
  have hc5 : k0_cond5 i = 1#1 := (cond5_iff i).2 h7
  unfold xFly yFly owns
  iintro ⟨⟨HX, ⟨%f, %gy, %hf, HY⟩, HC, HW⟩, Hk⟩
  unfold stageB
  sl_exec (disch := first | sl_exact hc3 | sl_exact hc4 | sl_exact hc5 | sl_exact h2 | sl_exact h7)
  sl_step
  iapply Hk
  isplitl [HC]; · iexists f; iexact HC
  isplitl [HY_dst]
  · iexists _; isplitr; swap; · iexact HY_dst
    ipureintro; exact (View.read_writes_whole _ _ _).trans hf
  isplitl [HY]; · iexact HY
  iexists _; iexact HW

set_option maxHeartbeats 400000 in
/-- At the last block the block before has left; there is no next. -/
theorem stageB_last (v : S1024x4096.Idx → Elt F .f32) (h1 : (i 1).val = 1) (h2 : (i 0).val = 7) (W : Waits sig Unit) (K : PUnit → sProp 𝕄) :
    iprop((yFly c (oth i) (prv i) v ∗ owes (c : Thread nD τ) 0 W)
        ∗ (iprop((∃ f, slotP c (oth i) f) ∗ owns (c : Thread nD τ) (yT (prv i)) fullShare v ∗ ycP c (oth i) ∗ ∃ W, owes (c : Thread nD τ) 0 W) -∗ K ⟨⟩))
      ⊢ wp frame (wpE (defs₀ (F := F)) Variants.none (c : Thread nD τ) none) Set.univ (stageB i arg3 harg3 arg4 harg4 arg5 harg5 arg6 harg6 arg7 harg7) K := by
  have hc3 : k0_cond3 i = 1#1 := (cond3_iff i).2 h1
  have h0 : 0 < (i 0).val := by omega
  have hc4 : k0_cond4 i = 1#1 := (cond4_iff i).2 h0
  have hc5 : ¬ k0_cond5 i = 1#1 := fun h => by have := (cond5_iff i).1 h; omega
  unfold yFly owns
  iintro ⟨⟨⟨%f, %gy, %hf, HY⟩, HW⟩, Hk⟩
  unfold stageB
  sl_exec (disch := first | sl_exact hc5 | sl_exact hc3 | sl_exact hc4 | sl_exact h0)
  sl_step
  iapply Hk
  isplitl [HY_src]; · iexists f; iexact HY_src
  isplitl [HY_dst]
  · iexists _; isplitr; swap; · iexact HY_dst
    ipureintro; exact (View.read_writes_whole _ _ _).trans hf
  isplitl [HY]; · iexact HY
  iexists _; iexact HW

/-- The second stage at another step does nothing. -/
theorem stageB_skip (h1 : (i 1).val ≠ 1) (E : Set ℕ) (K : PUnit → sProp 𝕄) :
    K ⟨⟩ ⊢ wp frame (wpE (defs₀ (F := F)) Variants.none (c : Thread nD τ) none) E (stageB i arg3 harg3 arg4 harg4 arg5 harg5 arg6 harg6 arg7 harg7) K := by
  have hc1 : ¬ k0_cond3 i = 1#1 := fun h => h1 ((cond3_iff i).1 h)
  unfold stageB
  rw [dif_neg hc1]
  exact le_wp_ret _ _ _ _ _

end StageB

end Cert.Kernel2Ideal.Ffn2
end
-- ==== Proof.Ffn2Acc.lean ====
/- The third stage of the second feed-forward kernel: one step of the product over the hidden features is added to the rows. -/
module

public import proofs.«01_k».proof.Proof.Ffn2Base

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Column slices of 512 -/

abbrev colOff (j : ℕ) : Fin 2 → Nat := ![0, 512 * j]
theorem colOff_inb {n : ℕ} (j : Fin 8) : ∀ a, colOff j.val a + (⟨2, ![n, 512]⟩ : Shape).size a ≤ (⟨2, ![n, 4096]⟩ : Shape).size a := by
  have := j.isLt; intro a; fin_cases a
  · show 0 + n ≤ n; omega
  · show 512 * j.val + 512 ≤ 4096; omega
/-- Column slice `j` of a matrix of 4096 columns. -/
def colSlice {α : Type} {n : ℕ} (X : (⟨2, ![n, 4096]⟩ : Shape).Idx → α) (j : Fin 8) : (⟨2, ![n, 512]⟩ : Shape).Idx → α :=
  VecWindow.window X (colOff j.val) (⟨2, ![n, 512]⟩ : Shape).size (colOff_inb j)
/-- The column slice of a place, and its place in the slice. -/
def colOf (y : S1024x4096.Idx) : Fin 8 := ⟨(y 1).val / 512, by have : (y 1).val < 4096 := (y 1).isLt; omega⟩
def colLoc (y : S1024x4096.Idx) : S1024x512.Idx := fun a => match a with
  | ⟨0, _⟩ => ⟨(y 0).val, (y 0).isLt⟩
  | ⟨1, _⟩ => ⟨(y 1).val % 512, Nat.mod_lt _ (by decide)⟩

/-- The rows `A` after one step: the activation's product with the step's block of the down projection added, slice by slice. -/
def stepv (act : FVec F S1024x256 .bf16) (wd : Vec F S256x4096 .bf16) (A : S1024x4096.Idx → Elt F .f32) : S1024x4096.Idx → Elt F .f32 :=
  fun y => k0_pay8 act (colSlice (n := 1024) A (colOf y)) (colSlice (n := 256) wd (colOf y)) (colLoc y)

theorem colSlice_read {sp : Space} (v : View sig .tc sp S1024x4096 .f32) (f : v.ty.Contents (Elt F)) (A : S1024x4096.Idx → Elt F .f32) (hA : v.read (Elt F) f = A)
    (j : Fin 8) {off : Fin 2 → Nat} (inb : ∀ a, off a + S1024x512.size a ≤ S1024x4096.size a) (h : off = colOff j.val) :
    v.readAt (Elt F) (Rect.unit (s := S1024x4096) off S1024x512.size inb).toLoadRect f = colSlice (n := 1024) A j := by
  subst hA; exact View.readAt_unit v f inb h (colOff_inb j)
theorem colSlice_readW {sp : Space} (v : View sig .tc sp S256x4096 .bf16) (f : v.ty.Contents (Elt F)) (wd : Vec F S256x4096 .bf16) (hA : v.read (Elt F) f = wd)
    (j : Fin 8) {off : Fin 2 → Nat} (inb : ∀ a, off a + S256x512.size a ≤ S256x4096.size a) (h : off = colOff j.val) :
    v.readAt (Elt F) (Rect.unit (s := S256x4096) off S256x512.size inb).toLoadRect f = colSlice (n := 256) wd j := by
  subst hA; exact View.readAt_unit v f inb h (colOff_inb j)

theorem pay6_congr {h h' : Vec F S1024x4096 .bf16} {a a' b b' : Vec F S4096x256 .bf16} (e1 : h = h') (e2 : a = a') (e3 : b = b') : k0_pay6 h a b = k0_pay6 h' a' b' := by
  rw [e1, e2, e3]
theorem pay8_congr {a a' : FVec F S1024x256 .bf16} {b b' : Vec F S1024x512 .f32} {w w' : Vec F S256x512 .bf16} (e1 : a = a') (e2 : b = b') (e3 : w = w') : k0_pay8 a b w = k0_pay8 a' b' w' := by
  rw [e1, e2, e3]

/-- One more slice stored: the slices below it and itself hold the step's value. -/
theorem slices_succ {sp : Space} (v : View sig .tc sp S1024x4096 .f32) (f : v.ty.Contents (Elt F)) (act : FVec F S1024x256 .bf16) (wd : Vec F S256x4096 .bf16) (A : S1024x4096.Idx → Elt F .f32)
    (L : List (View.Piece (Elt F) S1024x4096 .f32)) (j : Fin 8) {off : Fin 2 → Nat} (inb : ∀ a, off a + S1024x512.size a ≤ S1024x4096.size a) (h : off = colOff j.val)
    (w : S1024x512.Idx → Elt F .f32) (hw : w = k0_pay8 act (colSlice (n := 1024) A j) (colSlice (n := 256) wd j))
    (hL : ∀ y : S1024x4096.Idx, (y 1).val < 512 * j.val → v.read (Elt F) (v.writes (Elt F) f L) y = stepv act wd A y) :
    ∀ y : S1024x4096.Idx, (y 1).val < 512 * (j.val + 1) → v.read (Elt F) (v.writes (Elt F) f (⟨Rect.unit (s := S1024x4096) off S1024x512.size inb, w⟩ :: L)) y = stepv act wd A y := by
  intro y hy
  by_cases hlt : (y 1).val < 512 * j.val
  · exact (View.read_writes_cons_unit_of_not_mem v f inb w L y h 1 (Or.inl hlt)).trans (hL y hlt)
  · have hj : colOf y = j := Fin.ext (by show (y 1).val / 512 = j.val; omega)
    refine (View.read_writes_cons_unit_of_mem v f inb w L y (colLoc y) h fun a => ?_).trans ?_
    · fin_cases a
      · show (y 0).val = 0 + (y 0).val; omega
      · show (y 1).val = 512 * j.val + (y 1).val % 512; omega
    · rw [hw, ← hj]; rfl

section StageC
variable (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole)

set_option maxHeartbeats 400000 in
theorem stageC_run (H : Vec F S1024x4096 .bf16) (wg : Vec F S4096x256 .bf16) (wu : Vec F S4096x256 .bf16) (wd : Vec F S256x4096 .bf16) (A : S1024x4096.Idx → Elt F .f32) (E : Set ℕ) (K : PUnit → sProp 𝕄) :
    iprop((owns (c : Thread nD τ) hM fullShare H ∗ owns (c : Thread nD τ) arg4 fullShare wg ∗ owns (c : Thread nD τ) arg5 fullShare wu ∗ owns (c : Thread nD τ) arg6 fullShare wd ∗ owns (c : Thread nD τ) (slot (cur i)) fullShare A)
        ∗ (iprop(owns (c : Thread nD τ) hM fullShare H ∗ owns (c : Thread nD τ) arg4 fullShare wg ∗ owns (c : Thread nD τ) arg5 fullShare wu ∗ owns (c : Thread nD τ) arg6 fullShare wd ∗ owns (c : Thread nD τ) (slot (cur i)) fullShare (stepv (k0_pay6 H wg wu) wd A)) -∗ K ⟨⟩))
      ⊢ wp frame (wpE (defs₀ (F := F)) Variants.none (c : Thread nD τ) none) E (stageC i arg3 harg3 arg4 harg4 arg5 harg5 arg6 harg6 arg7 harg7) K := by
  unfold owns
  iintro ⟨⟨⟨%fh, %hfh, HH⟩, ⟨%f4, %hf4, H4⟩, ⟨%f5, %hf5, H5⟩, ⟨%f6, %hf6, H6⟩, ⟨%fs, %hfs, HS⟩⟩, Hk⟩
  obtain rfl := harg4.eq_unread hf4; obtain rfl := harg5.eq_unread hf5; obtain rfl := harg6.eq_unread hf6
  unfold stageC
  sl_exec
  sl_step
  have hH : hM.view.readAt (Elt F) (Rect.unit (s := S1024x4096) ![0, 0] S1024x4096.size inb_S1024x4096_S1024x4096_0_0).toLoadRect fh = H := by rw [View.readAt_full, hfh]
  have hg : arg4.view.readAt (Elt F) (Rect.unit (s := S4096x256) ![0, 0] S4096x256.size inb_S4096x256_S4096x256_0_0).toLoadRect (harg4.unread wg) = wg := by rw [View.readAt_full, hf4]
  have hu : arg5.view.readAt (Elt F) (Rect.unit (s := S4096x256) ![0, 0] S4096x256.size inb_S4096x256_S4096x256_0_0).toLoadRect (harg5.unread wu) = wu := by rw [View.readAt_full, hf5]
  have h6 := pay6_congr hH hg hu
  iapply Hk
  isplitl [HH]
  · iexists fh; iframe; ipureintro; exact hfh
  isplitl [H4]
  · iexists harg4.unread wg; iframe; ipureintro; exact hf4
  isplitl [H5]
  · iexists harg5.unread wu; iframe; ipureintro; exact hf5
  isplitl [H6]
  · iexists harg6.unread wd; iframe; ipureintro; exact hf6
  iexists _; isplitr; swap; · iexact HS
  ipureintro; funext y
  have hy : (y 1).val < 4096 := (y 1).isLt
  refine slices_succ _ fs (k0_pay6 H wg wu) wd A _ 7 _ rfl _ (pay8_congr h6 (colSlice_read _ fs A hfs 7 _ rfl) (colSlice_readW _ _ wd hf6 7 _ rfl)) ?_ y (by show (y 1).val < 512 * (7 + 1); omega)
  refine slices_succ _ fs (k0_pay6 H wg wu) wd A _ 6 _ rfl _ (pay8_congr h6 (colSlice_read _ fs A hfs 6 _ rfl) (colSlice_readW _ _ wd hf6 6 _ rfl)) ?_
  refine slices_succ _ fs (k0_pay6 H wg wu) wd A _ 5 _ rfl _ (pay8_congr h6 (colSlice_read _ fs A hfs 5 _ rfl) (colSlice_readW _ _ wd hf6 5 _ rfl)) ?_
  refine slices_succ _ fs (k0_pay6 H wg wu) wd A _ 4 _ rfl _ (pay8_congr h6 (colSlice_read _ fs A hfs 4 _ rfl) (colSlice_readW _ _ wd hf6 4 _ rfl)) ?_
  refine slices_succ _ fs (k0_pay6 H wg wu) wd A _ 3 _ rfl _ (pay8_congr h6 (colSlice_read _ fs A hfs 3 _ rfl) (colSlice_readW _ _ wd hf6 3 _ rfl)) ?_
  refine slices_succ _ fs (k0_pay6 H wg wu) wd A _ 2 _ rfl _ (pay8_congr h6 (colSlice_read _ fs A hfs 2 _ rfl) (colSlice_readW _ _ wd hf6 2 _ rfl)) ?_
  refine slices_succ _ fs (k0_pay6 H wg wu) wd A _ 1 _ rfl _ (pay8_congr h6 (colSlice_read _ fs A hfs 1 _ rfl) (colSlice_readW _ _ wd hf6 1 _ rfl)) ?_
  refine slices_succ _ fs (k0_pay6 H wg wu) wd A [] 0 _ rfl _ (pay8_congr h6 (colSlice_read _ fs A hfs 0 _ rfl) (colSlice_readW _ _ wd hf6 0 _ rfl)) ?_
  intro y hy; exact absurd hy (by show ¬ (y 1).val < 512 * 0; omega)

end StageC

end Cert.Kernel2Ideal.Ffn2
end
-- ==== Proof.Ffn2Out.lean ====
/- The last stage of the second feed-forward kernel: the finished rows are normalised in their slot and sent to the output. -/
module

public import proofs.«01_k».proof.Proof.Ffn2Norm

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The statistics, one number per row -/

abbrev statOff (k : ℕ) : Fin 2 → Nat := ![16 * k, 0]
theorem statOff_inb (k : Fin 64) : ∀ a, statOff k.val a + S16x1.size a ≤ S1024x1.size a := by
  have := k.isLt; intro a; fin_cases a
  · show 16 * k.val + 16 ≤ 1024; omega
  · show 0 + 1 ≤ 1; omega
def statOf (y : S1024x1.Idx) : Fin 64 := ⟨(y 0).val / 16, by have : (y 0).val < 1024 := (y 0).isLt; omega⟩
def statLoc (y : S1024x1.Idx) : S16x1.Idx := fun a => match a with
  | ⟨0, _⟩ => ⟨(y 0).val % 16, Nat.mod_lt _ (by decide)⟩
  | ⟨1, _⟩ => ⟨(y 1).val, (y 1).isLt⟩
theorem unitLocal_stat (y : S1024x1.Idx) (k : ℕ) (hk : (y 0).val / 16 = k) (h) :
    Rect.unitLocal (s := S1024x1) (off := statOff k) (size := S16x1.size) y h = statLoc y := by
  funext a; apply Fin.ext; fin_cases a
  · show (y 0).val - 16 * k = (y 0).val % 16; omega
  · show (y 1).val - 0 = (y 1).val; omega

/-- The statistics of the rows `A`, band by band. -/
def rval (A : S1024x4096.Idx → Elt F .f32) : S1024x1.Idx → Elt F .f32 := fun y => k0_pay3 (band A (statOf y)) (statLoc y)
theorem rval_band (A : S1024x4096.Idx → Elt F .f32) (k : Fin 64) :
    VecWindow.window (rval A) (statOff k.val) S16x1.size (statOff_inb k) = k0_pay3 (band A k) := by
  funext z
  have hz : (z 0).val < 16 := (z 0).isLt
  have e : statOf ((Rect.unit (s := S1024x1) (statOff k.val) S16x1.size (statOff_inb k)).emb z) = k :=
    Fin.ext (by show (16 * k.val + 1 * (z 0).val) / 16 = k.val; omega)
  have e' : statLoc ((Rect.unit (s := S1024x1) (statOff k.val) S16x1.size (statOff_inb k)).emb z) = z := by
    funext a; apply Fin.ext; fin_cases a
    · show (16 * k.val + 1 * (z 0).val) % 16 = (z 0).val; omega
    · show 0 + 1 * (z 1).val = (z 1).val; omega
  show k0_pay3 (band A (statOf ((Rect.unit (s := S1024x1) (statOff k.val) S16x1.size (statOff_inb k)).emb z))) (statLoc ((Rect.unit (s := S1024x1) (statOff k.val) S16x1.size (statOff_inb k)).emb z)) = _
  rw [e, e']

/-- The rows `A` normalised under the gain `g`, band by band. -/
def nval (g : Vec F S1x4096 .f32) (A : S1024x4096.Idx → Elt F .f32) : S1024x4096.Idx → Elt F .f32 :=
  fun y => k0_pay4 g (band A (bandOf y)) (k0_pay3 (band A (bandOf y))) (bandLoc y)

section StageD
variable (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole)

/-- The scratch of statistics held at contents `f`. -/
abbrev rP (f : Buf (Elt F) (rM.view.loc (c : Thread nD τ))) : sProp 𝕄 := rM.view.loc (c : Thread nD τ) ↦[rM.view.set]{fullShare} f

/-- Before trip `k` of the statistics: the slot as it was, the first `k` bands' statistics stored. -/
def inv2 (s : Fin 2) (fs : Buf (Elt F) ((slot s).view.loc (c : Thread nD τ))) (k : ℕ) (_ : Unit) : sProp 𝕄 :=
  iprop(slotP c s fs ∗ ∃ fr, ⌜∀ y : S1024x1.Idx, (y 0).val < 16 * k → rM.view.read (Elt F) fr y = rval ((slot s).view.read (Elt F) fs) y⌝ ∗ rP c fr)

/-- The first `k` bands normalised, the others as they were. -/
abbrev part3 (g : Vec F S1x4096 .f32) (A : S1024x4096.Idx → Elt F .f32) (s : Fin 2) (k : ℕ) (fs : Buf (Elt F) ((slot s).view.loc (c : Thread nD τ))) : Prop :=
  ∀ y : S1024x4096.Idx, ((y 0).val < 16 * k → (slot s).view.read (Elt F) fs y = nval g A y) ∧ (16 * k ≤ (y 0).val → (slot s).view.read (Elt F) fs y = A y)

/-- Before trip `k` of the normalisation. -/
def inv3 (s : Fin 2) (g : Vec F S1x4096 .f32) (A : S1024x4096.Idx → Elt F .f32) (fr : Buf (Elt F) (rM.view.loc (c : Thread nD τ))) (k : ℕ) (_ : Unit) : sProp 𝕄 :=
  iprop(rP c fr ∗ ∃ fs, ⌜part3 c g A s k fs⌝ ∗ slotP c s fs)

theorem stat_succ (s : Fin 2) (fs : Buf (Elt F) ((slot s).view.loc (c : Thread nD τ))) (k : Fin k0_t2_loop.trips) (fr) (hh hh')
    (H : ∀ y : S1024x1.Idx, (y 0).val < 16 * k.val → rM.view.read (Elt F) fr y = rval ((slot s).view.read (Elt F) fs) y) :
    ∀ y : S1024x1.Idx, (y 0).val < 16 * (k.val + 1) → rM.view.read (Elt F)
      (rM.view.writes (Elt F) fr [⟨Rect.unit (s := S1024x1) (k0_off15 k) S16x1.size hh,
        k0_pay3 ((slot s).view.readAt (Elt F) (Rect.unit (s := S1024x4096) (k0_off14 k) S16x4096.size hh').toLoadRect fs)⟩]) y = rval ((slot s).view.read (Elt F) fs) y := by
  have hk : k.val < 64 := Nat.lt_of_lt_of_eq k.isLt trips2
  intro y hy
  refine (View.read_writes_cons_rows (v := rM.view) fr hh _ [] y (W := 16) (k0_off15_eq k) rfl rfl).trans ?_
  by_cases hin : 16 * k.val ≤ (y 0).val ∧ (y 0).val < 16 * k.val + 16
  · rw [dif_pos hin]
    have hb : (y 0).val / 16 = k.val := by omega
    rw [View.readAt_unit _ _ _ (k0_off14_eq k) (bandOff_inb ⟨k.val, hk⟩)]
    have e : statOf y = ⟨k.val, hk⟩ := Fin.ext hb
    unfold rval band; rw [e]
    exact congrArg _ (unitLocal_stat y k.val hb _)
  · rw [dif_neg hin]
    exact H y (by omega)

theorem part3_succ (g : Vec F S1x4096 .f32) (A : S1024x4096.Idx → Elt F .f32) (s : Fin 2) (fs : Buf (Elt F) ((slot s).view.loc (c : Thread nD τ))) (k : Fin k0_t3_loop.trips) (fr) (hr : rM.view.read (Elt F) fr = rval A) (hh hh' hh'')
    (H : part3 c g A s k.val fs) :
    part3 c g A s (k.val + 1)
      ((slot s).view.writes (Elt F) fs [⟨Rect.unit (s := S1024x4096) (k0_off17 k) S16x4096.size hh,
        k0_pay4 g ((slot s).view.readAt (Elt F) (Rect.unit (s := S1024x4096) (k0_off17 k) S16x4096.size hh').toLoadRect fs)
          (rM.view.readAt (Elt F) (Rect.unit (s := S1024x1) (k0_off18 k) S16x1.size hh'').toLoadRect fr)⟩]) := by
  have hk : k.val < 64 := Nat.lt_of_lt_of_eq k.isLt trips3
  intro y
  have hrw := View.read_writes_cons_rows (v := (slot s).view) fs hh (k0_pay4 g ((slot s).view.readAt (Elt F) (Rect.unit (s := S1024x4096) (k0_off17 k) S16x4096.size hh').toLoadRect fs)
          (rM.view.readAt (Elt F) (Rect.unit (s := S1024x1) (k0_off18 k) S16x1.size hh'').toLoadRect fr)) [] y (W := 16) (k0_off17_eq k) rfl rfl
  constructor
  · intro hy
    refine hrw.trans ?_
    by_cases hin : 16 * k.val ≤ (y 0).val ∧ (y 0).val < 16 * k.val + 16
    · rw [dif_pos hin]
      have hb : (y 0).val / 16 = k.val := by omega
      have e : bandOf y = ⟨k.val, hk⟩ := Fin.ext hb
      have e1 : (slot s).view.readAt (Elt F) (Rect.unit (s := S1024x4096) (k0_off17 k) S16x4096.size hh').toLoadRect fs = band A ⟨k.val, hk⟩ := by
        rw [View.readAt_unit _ _ _ (k0_off17_eq k) (bandOff_inb ⟨k.val, hk⟩)]
        funext z
        exact (H _).2 (by show 16 * k.val ≤ 16 * k.val + 1 * (z 0).val; omega)
      have e2 : rM.view.readAt (Elt F) (Rect.unit (s := S1024x1) (k0_off18 k) S16x1.size hh'').toLoadRect fr = k0_pay3 (band A ⟨k.val, hk⟩) := by
        rw [View.readAt_unit _ _ _ (k0_off18_eq k) (statOff_inb ⟨k.val, hk⟩), hr]
        exact rval_band A ⟨k.val, hk⟩
      rw [e1, e2]
      unfold nval; rw [e]
      exact congrArg _ (unitLocal_band y k.val hb _)
    · rw [dif_neg hin]
      exact (H y).1 (by omega)
  · intro hy
    refine hrw.trans ?_
    rw [dif_neg (by omega)]
    exact (H y).2 (by omega)

set_option maxHeartbeats 400000 in
theorem step2 (s : Fin 2) (hs : cur i = s) (fs : Buf (Elt F) ((slot s).view.loc (c : Thread nD τ))) (h6 : k0_cond6 i = 1#1) (E : Set ℕ) (k : Fin k0_t2_loop.trips) (u : Unit) :
    inv2 c s fs k.val u ⊢ wp frame (wpE (defs₀ (F := F)) Variants.none (c : Thread nD τ) none) E (k0_t2_body i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 h6 k u) (inv2 c s fs (k.val + 1)) := by
  have hcanon1 : cur i = s := hs
  unfold inv2
  iintro ⟨HS, ⟨%fr, %hfr, HR⟩⟩
  sl_unfold [k0_t2_body]
  sl_exec
  sl_step
  isplitl [HS]; · iexact HS
  iexists _; isplitr; swap; · iexact HR
  ipureintro; exact stat_succ c s fs k fr _ _ hfr

set_option maxHeartbeats 400000 in
theorem step3 (s : Fin 2) (hs : cur i = s) (g : Vec F S1x4096 .f32) (A : S1024x4096.Idx → Elt F .f32) (fr : Buf (Elt F) (rM.view.loc (c : Thread nD τ))) (hr : rM.view.read (Elt F) fr = rval A) (h6 : k0_cond6 i = 1#1) (E : Set ℕ) (k : Fin k0_t3_loop.trips) (u : Unit) :
    inv3 c s g A fr k.val u ⊢ wp frame (wpE (defs₀ (F := F)) Variants.none (c : Thread nD τ) none) E (k0_t3_body i xM (Memref.isWhole_whole _) arg3 harg3 arg4 harg4 arg5 harg5 arg6 harg6 arg7 harg7 yM (Memref.isWhole_whole _) aM (Memref.isWhole_whole _) hM (Memref.isWhole_whole _) rM (Memref.isWhole_whole _) cc0_scratch3 cc0_scratch4 h6 g k u) (inv3 c s g A fr (k.val + 1)) := by
  have hcanon1 : cur i = s := hs
  unfold inv3
  iintro ⟨HR, ⟨%fs, %hfs, HS⟩⟩
  sl_unfold [k0_t3_body]
  sl_exec
  sl_step
  isplitl [HR]; · iexact HR
  iexists _; isplitr; swap; · iexact HS
  ipureintro; exact part3_succ c g A s fs k fr hr _ _ _ hfs

set_option maxHeartbeats 400000 in
/-- The last stage at the end of a block that is not the last: the normalised rows are on their way out. -/
theorem stageD_mid (g : Vec F S1x4096 .f32) (A : S1024x4096.Idx → Elt F .f32) (h1 : (i 1).val = 42) (h2 : (i 0).val < 7) (K : PUnit → sProp 𝕄) :
    iprop((owns (c : Thread nD τ) arg7 fullShare g ∗ owns (c : Thread nD τ) (slot (cur i)) fullShare A ∗ (∃ fr, rP c fr) ∗ ycP c (cur i) ∗ (∃ f, yP c (row i) f))
        ∗ (iprop(owns (c : Thread nD τ) arg7 fullShare g ∗ (∃ fr, rP c fr) ∗ yFly c (cur i) (row i) (nval g A)) -∗ K ⟨⟩))
      ⊢ wp frame (wpE (defs₀ (F := F)) Variants.none (c : Thread nD τ) none) Set.univ (stageD i arg3 harg3 arg4 harg4 arg5 harg5 arg6 harg6 arg7 harg7) K := by
  have hc6 : k0_cond6 i = 1#1 := (cond6_iff i).2 h1
  have hc7 : ¬ k0_cond7 i = 1#1 := fun h => by have := (cond7_iff i).1 h; omega
  unfold yFly owns
  iintro ⟨⟨⟨%g7, %hg7, H7⟩, ⟨%fs, %hfs, HS⟩, ⟨%fr, HR⟩, HC, ⟨%fy, HY⟩⟩, Hk⟩
  obtain rfl := harg7.eq_unread hg7
  unfold stageD
  sl_exec (disch := first | sl_exact hc7 | sl_exact hc6)
  have hg : arg7.view.readAt (Elt F) (Rect.unit (s := S1x4096) ![0, 0] S1x4096.size inb_S1x4096_S1x4096_0_0).toLoadRect (harg7.unread g) = g := by rw [View.readAt_full, hg7]
  sl_for (inv2 c (cur i) fs) $$ [HS HR]
  · intro k u; exact step2 c i arg3 harg3 arg4 harg4 arg5 harg5 arg6 harg6 arg7 harg7 (cur i) rfl fs hc6 Set.univ k u
  · unfold inv2
    isplitl [HS]; · iexact HS
    iexists _; isplitr; swap; · iexact HR
    ipureintro; intro y hy; omega
  iintro %u HI
  unfold inv2
  icases HI with ⟨HS, ⟨%fr', %hfr, HR⟩⟩
  have hr : rM.view.read (Elt F) fr' = rval A := by
    funext y
    have hy : (y 0).val < 1024 := (y 0).isLt
    rw [← hfs]; exact hfr y (by show (y 0).val < 16 * k0_t2_loop.trips; rw [trips2]; omega)
  sl_exec
  sl_rw [hg]
  sl_for (inv3 c (cur i) g A fr') $$ [HS HR]
  · intro k u; exact step3 c i arg3 harg3 arg4 harg4 arg5 harg5 arg6 harg6 arg7 harg7 (cur i) rfl g A fr' hr hc6 Set.univ k u
  · unfold inv3
    isplitl [HR]; · iexact HR
    iexists fs; isplitr; swap; · iexact HS
    ipureintro; intro y; exact ⟨fun h => by omega, fun _ => congrFun hfs y⟩
  iintro %u2 HI
  unfold inv3
  icases HI with ⟨HR, ⟨%fn, %hfn, HS⟩⟩
  have hn : (slot (cur i)).view.read (Elt F) fn = nval g A := by
    funext y
    have hy : (y 0).val < 1024 := (y 0).isLt
    exact (hfn y).1 (by show (y 0).val < 16 * k0_t3_loop.trips; rw [trips3]; omega)
  sl_exec (disch := first | sl_exact hc7 | sl_exact hc6)
  sl_step
  iapply Hk
  isplitl [H7]
  · iexists harg7.unread g; iframe; ipureintro; exact hg7
  isplitl [HR]; · iexists fr'; iexact HR
  iexists fn, fy; isplitr; swap; · iexact HC
  ipureintro; exact hn

set_option maxHeartbeats 400000 in
/-- The last stage at the end of the last block: the normalised rows are sent out and awaited. -/
theorem stageD_last (g : Vec F S1x4096 .f32) (A : S1024x4096.Idx → Elt F .f32) (h1 : (i 1).val = 42) (h2 : (i 0).val = 7) (W : Waits sig Unit) (K : PUnit → sProp 𝕄) :
    iprop((owns (c : Thread nD τ) arg7 fullShare g ∗ owns (c : Thread nD τ) (slot (cur i)) fullShare A ∗ (∃ fr, rP c fr) ∗ ycP c (cur i) ∗ (∃ f, yP c (row i) f) ∗ owes (c : Thread nD τ) 0 W)
        ∗ (iprop(owns (c : Thread nD τ) arg7 fullShare g ∗ (∃ fr, rP c fr) ∗ owns (c : Thread nD τ) (yT (row i)) fullShare (nval g A) ∗ (∃ f, slotP c (cur i) f) ∗ ycP c (cur i) ∗ ∃ W, owes (c : Thread nD τ) 0 W) -∗ K ⟨⟩))
      ⊢ wp frame (wpE (defs₀ (F := F)) Variants.none (c : Thread nD τ) none) Set.univ (stageD i arg3 harg3 arg4 harg4 arg5 harg5 arg6 harg6 arg7 harg7) K := by
  have hc6 : k0_cond6 i = 1#1 := (cond6_iff i).2 h1
  have hc7 : k0_cond7 i = 1#1 := (cond7_iff i).2 h2
  unfold owns
  iintro ⟨⟨⟨%g7, %hg7, H7⟩, ⟨%fs, %hfs, HS⟩, ⟨%fr, HR⟩, HC, ⟨%fy, HY⟩, HW⟩, Hk⟩
  obtain rfl := harg7.eq_unread hg7
  unfold stageD
  sl_exec (disch := first | sl_exact hc7 | sl_exact hc6)
  have hg : arg7.view.readAt (Elt F) (Rect.unit (s := S1x4096) ![0, 0] S1x4096.size inb_S1x4096_S1x4096_0_0).toLoadRect (harg7.unread g) = g := by rw [View.readAt_full, hg7]
  sl_for (inv2 c (cur i) fs) $$ [HS HR]
  · intro k u; exact step2 c i arg3 harg3 arg4 harg4 arg5 harg5 arg6 harg6 arg7 harg7 (cur i) rfl fs hc6 Set.univ k u
  · unfold inv2
    isplitl [HS]; · iexact HS
    iexists _; isplitr; swap; · iexact HR
    ipureintro; intro y hy; omega
  iintro %u HI
  unfold inv2
  icases HI with ⟨HS, ⟨%fr', %hfr, HR⟩⟩
  have hr : rM.view.read (Elt F) fr' = rval A := by
    funext y
    have hy : (y 0).val < 1024 := (y 0).isLt
    rw [← hfs]; exact hfr y (by show (y 0).val < 16 * k0_t2_loop.trips; rw [trips2]; omega)
  sl_exec
  sl_rw [hg]
  sl_for (inv3 c (cur i) g A fr') $$ [HS HR]
  · intro k u; exact step3 c i arg3 harg3 arg4 harg4 arg5 harg5 arg6 harg6 arg7 harg7 (cur i) rfl g A fr' hr hc6 Set.univ k u
  · unfold inv3
    isplitl [HR]; · iexact HR
    iexists fs; isplitr; swap; · iexact HS
    ipureintro; intro y; exact ⟨fun h => by omega, fun _ => congrFun hfs y⟩
  iintro %u2 HI
  unfold inv3
  icases HI with ⟨HR, ⟨%fn, %hfn, HS⟩⟩
  have hn : (slot (cur i)).view.read (Elt F) fn = nval g A := by
    funext y
    have hy : (y 0).val < 1024 := (y 0).isLt
    exact (hfn y).1 (by show (y 0).val < 16 * k0_t3_loop.trips; rw [trips3]; omega)
  sl_exec (disch := first | sl_exact hc7 | sl_exact hc6)
  sl_step

  iapply Hk
  isplitl [H7]
  · iexists harg7.unread g; iframe; ipureintro; exact hg7
  isplitl [HR]; · iexists fr'; iexact HR
  isplitl [HY]
  · iexists _; isplitr; swap; · iexact HY
    ipureintro; exact (View.read_writes_whole _ _ _).trans hn
  isplitl [HS]; · iexists _; iexact HS
  isplitl [HC]; · iexact HC
  iexists _; iexact HW

/-- The last stage at another step does nothing. -/
theorem stageD_skip (h1 : (i 1).val ≠ 42) (E : Set ℕ) (K : PUnit → sProp 𝕄) :
    K ⟨⟩ ⊢ wp frame (wpE (defs₀ (F := F)) Variants.none (c : Thread nD τ) none) E (stageD i arg3 harg3 arg4 harg4 arg5 harg5 arg6 harg6 arg7 harg7) K := by
  have hc1 : ¬ k0_cond6 i = 1#1 := fun h => h1 ((cond6_iff i).1 h)
  unfold stageD
  rw [dif_neg hc1]
  exact le_wp_ret _ _ _ _ _

end StageD

end Cert.Kernel2Ideal.Ffn2
end
-- ==== Proof.Ffn2State.lean ====
/- The state of the second feed-forward kernel between two grid steps, and one grid step from state to state. -/
module

public import proofs.«01_k».proof.Proof.Ffn2Norm
public import proofs.«01_k».proof.Proof.Ffn2Swap
public import proofs.«01_k».proof.Proof.Ffn2Acc
public import proofs.«01_k».proof.Proof.Ffn2Out

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Blocks and slots by number -/

def blk (b : ℕ) : Fin 8 := ⟨b % 8, Nat.mod_lt _ (by decide)⟩
def sl (b : ℕ) : Fin 2 := ⟨b % 2, Nat.mod_lt _ (by decide)⟩

theorem row_eq (i : grid0.Coords) : row i = blk (i 0).val := Fin.ext (by have : (i 0).val < 8 := (i 0).isLt; show (i 0).val = (i 0).val % 8; omega)
theorem prv_eq (i : grid0.Coords) : prv i = blk ((i 0).val - 1) := Fin.ext (by have : (i 0).val < 8 := (i 0).isLt; show (i 0).val - 1 = ((i 0).val - 1) % 8; omega)
theorem nxt_eq (i : grid0.Coords) : nxt i = blk ((i 0).val + 1) := rfl
theorem cur_eq (i : grid0.Coords) : cur i = sl (i 0).val := rfl
theorem oth_eq (i : grid0.Coords) : oth i = sl ((i 0).val + 1) := Fin.ext (by show 1 - (i 0).val % 2 = ((i 0).val + 1) % 2; omega)
theorem sl_two (b : ℕ) : sl (b + 1 + 1) = sl b := Fin.ext (by show (b + 1 + 1) % 2 = b % 2; omega)

section State
variable (c : Dev nD) (X : Buf (Elt F) (xM.view.loc (c : Thread nD τ))) (G1 G2 : Vec F S1x4096 .f32) (WG WU : ℕ → Vec F S4096x256 .bf16) (WD : ℕ → Vec F S256x4096 .bf16)

/-- The normalised rows of block `b`. -/
abbrev hOf (b : ℕ) : Vec F S1024x4096 .bf16 := hval G1 (xRows c X (blk b))
/-- The rows of block `b` after `k` steps. -/
def acc (b : ℕ) : ℕ → S1024x4096.Idx → Elt F .f32
  | 0 => xRows c X (blk b)
  | k + 1 => stepv (k0_pay6 (hOf c X G1 b) (WG k) (WU k)) (WD k) (acc b k)
/-- The finished rows of block `b`. -/
def fin (b : ℕ) : S1024x4096.Idx → Elt F .f32 := nval G2 (acc c X G1 WG WU WD b 43)

/-- A slot at rest. -/
def free (s : Fin 2) : sProp 𝕄 := iprop((∃ f, slotP c s f) ∗ xcP c s ∗ ycP c s)
/-- A slot block `b` of the input is on its way into. -/
def inn (s : Fin 2) (b : ℕ) : sProp 𝕄 := iprop(xFly c X s (blk b) ∗ ycP c s)
/-- A slot the finished block `b` is leaving. -/
def out (s : Fin 2) (b : ℕ) : sProp 𝕄 := iprop(yFly c s (blk b) (fin c X G1 G2 WG WU WD b) ∗ xcP c s)
/-- The input's row blocks but block `k`. -/
def xs (k : ℕ) : sProp 𝕄 := bigSep (Finset.univ.filter fun j : Fin 8 => j.val ≠ k) fun j => xP c X j
/-- The output's row blocks: those below `d` finished, those from `r` on at anything. -/
def ysDone (d : ℕ) : sProp 𝕄 := bigSep (Finset.univ.filter fun j : Fin 8 => j.val < d) fun j => owns (c : Thread nD τ) (yT j) fullShare (fin c X G1 G2 WG WU WD j.val)
def ysRaw (r : ℕ) : sProp 𝕄 := bigSep (Finset.univ.filter fun j : Fin 8 => r ≤ j.val) fun j => iprop(∃ f, yP (F := F) c j f)
abbrev hAny : sProp 𝕄 := iprop(∃ fh, hP c fh)
abbrev rAny : sProp 𝕄 := iprop(∃ fr, rP c fr)
/-- Block `b` in work, `k` steps done. -/
def held (b k : ℕ) : sProp 𝕄 :=
  iprop(owns (c : Thread nD τ) (slot (sl b)) fullShare (acc c X G1 WG WU WD b k) ∗ (xcP c (sl b) ∗ ycP c (sl b)) ∗ owns (c : Thread nD τ) hM fullShare (hOf c X G1 b))
/-- The rest while block `b` is in work: before the other slot is exchanged, and after. -/
def rest0 (b : ℕ) : sProp 𝕄 :=
  iprop((if b = 0 then free c (sl (b + 1)) else out c X G1 G2 WG WU WD (sl (b + 1)) (b - 1)) ∗ xs c X 8 ∗ ysDone c X G1 G2 WG WU WD (b - 1) ∗ ysRaw c b)
def rest1 (b : ℕ) : sProp 𝕄 :=
  iprop((if b = 7 then free c (sl (b + 1)) else inn c X (sl (b + 1)) (b + 1)) ∗ xs c X (b + 1) ∗ ysDone c X G1 G2 WG WU WD b ∗ ysRaw c b)
/-- The state at the start of block `b`. -/
def start (b : ℕ) : sProp 𝕄 :=
  if b = 0 then iprop(free c (sl 0) ∗ free c (sl 1) ∗ xs c X 8 ∗ ysDone c X G1 G2 WG WU WD 0 ∗ ysRaw c 0)
  else if b = 8 then iprop(free c (sl 0) ∗ free c (sl 1) ∗ xs c X 8 ∗ ysDone c X G1 G2 WG WU WD 8 ∗ ysRaw c 8)
  else iprop(inn c X (sl b) b ∗ out c X G1 G2 WG WU WD (sl (b + 1)) (b - 1) ∗ xs c X b ∗ ysDone c X G1 G2 WG WU WD (b - 1) ∗ ysRaw c b)
/-- The state before step `f` of block `b`. -/
def state (b f : ℕ) : sProp 𝕄 :=
  if f = 0 then iprop(start c X G1 G2 WG WU WD b ∗ hAny c ∗ rAny c)
  else iprop(held c X G1 WG WU WD b f ∗ rAny c ∗ (if f = 1 then rest0 c X G1 G2 WG WU WD b else rest1 c X G1 G2 WG WU WD b))

/-! ## One block taken or put back -/

theorem xs_take (b : ℕ) (hb : b < 8) : (xs c X 8 : sProp 𝕄) = iprop(xP c X (blk b) ∗ xs c X b) := by
  unfold xs
  rw [show (Finset.univ.filter fun j : Fin 8 => j.val ≠ 8) = insert (blk b) (Finset.univ.filter fun j : Fin 8 => j.val ≠ b) from by
    ext j; have := j.isLt; simp only [Finset.mem_filter, Finset.mem_univ, true_and, Finset.mem_insert, Fin.ext_iff, blk]; omega]
  exact bigSep_insert (by simp only [Finset.mem_filter, Finset.mem_univ, true_and, blk]; omega)
theorem xs_none (b : ℕ) (hb : 8 ≤ b) : (xs c X b : sProp 𝕄) = xs c X 8 := by
  unfold xs
  rw [show (Finset.univ.filter fun j : Fin 8 => j.val ≠ b) = (Finset.univ.filter fun j : Fin 8 => j.val ≠ 8) from by
    ext j; have := j.isLt; simp only [Finset.mem_filter, Finset.mem_univ, true_and]; omega]
theorem ysDone_put (b : ℕ) (hb : b < 8) :
    (ysDone c X G1 G2 WG WU WD (b + 1) : sProp 𝕄) = iprop(owns (c : Thread nD τ) (yT (blk b)) fullShare (fin c X G1 G2 WG WU WD b) ∗ ysDone c X G1 G2 WG WU WD b) := by
  unfold ysDone
  rw [show (Finset.univ.filter fun j : Fin 8 => j.val < b + 1) = insert (blk b) (Finset.univ.filter fun j : Fin 8 => j.val < b) from by
    ext j; have := j.isLt; simp only [Finset.mem_filter, Finset.mem_univ, true_and, Finset.mem_insert, Fin.ext_iff, blk]; omega]
  rw [bigSep_insert (by simp only [Finset.mem_filter, Finset.mem_univ, true_and, blk]; omega), show (blk b).val = b from Nat.mod_eq_of_lt hb]
  rfl
theorem ysRaw_take (b : ℕ) (hb : b < 8) : (ysRaw c b : sProp 𝕄) = iprop((∃ f, yP (F := F) c (blk b) f) ∗ ysRaw c (b + 1)) := by
  unfold ysRaw
  rw [show (Finset.univ.filter fun j : Fin 8 => b ≤ j.val) = insert (blk b) (Finset.univ.filter fun j : Fin 8 => b + 1 ≤ j.val) from by
    ext j; have := j.isLt; simp only [Finset.mem_filter, Finset.mem_univ, true_and, Finset.mem_insert, Fin.ext_iff, blk]; omega]
  exact bigSep_insert (by simp only [Finset.mem_filter, Finset.mem_univ, true_and, blk]; omega)

variable (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole)

/-- The first stage, at any step. -/
theorem stageA_all (W : Waits sig Unit) (K : PUnit → sProp 𝕄) :
    iprop((owns (c : Thread nD τ) arg3 fullShare G1 ∗ state c X G1 G2 WG WU WD (i 0).val (i 1).val ∗ owes (c : Thread nD τ) 0 W)
        ∗ (iprop(owns (c : Thread nD τ) arg3 fullShare G1 ∗ held c X G1 WG WU WD (i 0).val (i 1).val ∗ rAny c
            ∗ (if (i 1).val ≤ 1 then rest0 c X G1 G2 WG WU WD (i 0).val else rest1 c X G1 G2 WG WU WD (i 0).val) ∗ ∃ W, owes (c : Thread nD τ) 0 W) -∗ K ⟨⟩))
      ⊢ wp frame (wpE (defs₀ (F := F)) Variants.none (c : Thread nD τ) none) Set.univ (stageA i arg3 harg3 arg4 harg4 arg5 harg5 arg6 harg6 arg7 harg7) K := by
  have hb8 : (i 0).val < 8 := (i 0).isLt
  by_cases h1 : (i 1).val = 0
  · rw [if_pos (show (i 1).val ≤ 1 by omega), h1]
    unfold state; rw [if_pos rfl]
    unfold start held
    by_cases h2 : (i 0).val = 0
    · have e0 : row i = 0 := Fin.ext h2
      rw [if_pos h2, h2]
      unfold rest0; rw [if_pos rfl]
      rw [xs_take c X 0 (by omega)]
      unfold free
      iintro ⟨⟨H3, ⟨⟨⟨HS0, HX0, HY0⟩, HF1, ⟨HXP, HXS⟩, HD, HR⟩, HH, HRr⟩, HW⟩, Hk⟩
      iapply (stageA_first c X i arg3 harg3 arg4 harg4 arg5 harg5 arg6 harg6 arg7 harg7 G1 h1 h2 W K)
      isplitl [H3 HXP HS0 HX0 HH HW]
      · isplitl [H3]; · iexact H3
        isplitl [HXP]; · iexact HXP
        isplitl [HS0]; · iexact HS0
        isplitl [HX0]; · iexact HX0
        isplitl [HH]; · iexact HH
        iexact HW
      iintro ⟨H3, HXP, HS0, HX0, HH, HW⟩
      iapply Hk
      isplitl [H3]; · iexact H3
      isplitl [HS0 HX0 HY0 HH]
      · isplitl [HS0]; · iexact HS0
        isplitl [HX0 HY0]
        · isplitl [HX0]; · iexact HX0
          iexact HY0
        iexact HH
      isplitl [HRr]; · iexact HRr
      isplitl [HF1 HXP HXS HD HR]
      · isplitl [HF1]; · iexact HF1
        isplitl [HXP HXS]
        · isplitl [HXP]; · iexact HXP
          iexact HXS
        isplitl [HD]; · iexact HD
        iexact HR
      iexact HW
    · rw [if_neg h2, if_neg (show (i 0).val ≠ 8 by omega)]
      unfold rest0; rw [if_neg h2]
      rw [xs_take c X (i 0).val hb8]
      unfold inn
      rw [← row_eq, ← cur_eq]
      iintro ⟨⟨H3, ⟨⟨⟨HF, HY0⟩, HF1, HXS, HD, HR⟩, HH, HRr⟩, HW⟩, Hk⟩
      iapply (stageA_later c X i arg3 harg3 arg4 harg4 arg5 harg5 arg6 harg6 arg7 harg7 G1 h1 (by omega) W K)
      isplitl [H3 HF HH HW]
      · isplitl [H3]; · iexact H3
        isplitl [HF]; · iexact HF
        isplitl [HH]; · iexact HH
        iexact HW
      iintro ⟨H3, HXP, HS0, HX0, HH, HW⟩
      iapply Hk
      isplitl [H3]; · iexact H3
      isplitl [HS0 HX0 HY0 HH]
      · isplitl [HS0]; · unfold acc; rw [← row_eq]; iexact HS0
        isplitl [HX0 HY0]
        · isplitl [HX0]; · iexact HX0
          iexact HY0
        unfold hOf; rw [← row_eq]; iexact HH
      isplitl [HRr]; · iexact HRr
      isplitl [HF1 HXP HXS HD HR]
      · isplitl [HF1]; · iexact HF1
        isplitl [HXP HXS]
        · isplitl [HXP]; · iexact HXP
          iexact HXS
        isplitl [HD]; · iexact HD
        iexact HR
      iexact HW
  · refine BIBase.Entails.trans ?_ (stageA_skip c i arg3 harg3 arg4 harg4 arg5 harg5 arg6 harg6 arg7 harg7 h1 Set.univ K)
    unfold state; rw [if_neg h1]
    have e : (if (i 1).val ≤ 1 then rest0 c X G1 G2 WG WU WD (i 0).val else rest1 c X G1 G2 WG WU WD (i 0).val : sProp 𝕄)
        = if (i 1).val = 1 then rest0 c X G1 G2 WG WU WD (i 0).val else rest1 c X G1 G2 WG WU WD (i 0).val := by
      by_cases h : (i 1).val = 1
      · rw [if_pos h, if_pos (by omega)]
      · rw [if_neg h, if_neg (by omega)]
    rw [e]
    iintro ⟨⟨H3, ⟨HH, HRr, HR⟩, HW⟩, Hk⟩
    iapply Hk
    isplitl [H3]; · iexact H3
    isplitl [HH]; · iexact HH
    isplitl [HRr]; · iexact HRr
    isplitl [HR]; · iexact HR
    iexists W; iexact HW

/-- The second stage, at any step. -/
theorem stageB_all (W : Waits sig Unit) (K : PUnit → sProp 𝕄) :
    iprop(((if (i 1).val ≤ 1 then rest0 c X G1 G2 WG WU WD (i 0).val else rest1 c X G1 G2 WG WU WD (i 0).val) ∗ owes (c : Thread nD τ) 0 W)
        ∗ (iprop((if (i 1).val = 0 then rest0 c X G1 G2 WG WU WD (i 0).val else rest1 c X G1 G2 WG WU WD (i 0).val) ∗ ∃ W, owes (c : Thread nD τ) 0 W) -∗ K ⟨⟩))
      ⊢ wp frame (wpE (defs₀ (F := F)) Variants.none (c : Thread nD τ) none) Set.univ (stageB i arg3 harg3 arg4 harg4 arg5 harg5 arg6 harg6 arg7 harg7) K := by
  have hb8 : (i 0).val < 8 := (i 0).isLt
  by_cases h1 : (i 1).val = 1
  · rw [if_pos (show (i 1).val ≤ 1 by omega), if_neg (show (i 1).val ≠ 0 by omega)]
    unfold rest0 rest1
    by_cases h0 : (i 0).val = 0
    · rw [if_pos h0, if_neg (show (i 0).val ≠ 7 by omega), xs_take c X ((i 0).val + 1) (by omega), show (i 0).val - 1 = (i 0).val by omega]
      unfold free inn
      rw [← nxt_eq, ← oth_eq]
      iintro ⟨⟨⟨⟨HS, HX, HY⟩, ⟨HXP, HXS⟩, HD, HR⟩, HW⟩, Hk⟩
      iapply (stageB_first c X i arg3 harg3 arg4 harg4 arg5 harg5 arg6 harg6 arg7 harg7 h1 h0 Set.univ K)
      isplitl [HS HX HXP]
      · isplitl [HXP]; · iexact HXP
        isplitl [HS]; · iexact HS
        iexact HX
      iintro HF
      iapply Hk
      isplitr [HW]
      · isplitl [HF HY]
        · isplitl [HF]; · iexact HF
          iexact HY
        isplitl [HXS]; · iexact HXS
        isplitl [HD]; · iexact HD
        iexact HR
      iexists W; iexact HW
    · have ed := ysDone_put c X G1 G2 WG WU WD ((i 0).val - 1) (by omega)
      rw [Nat.sub_add_cancel (show 1 ≤ (i 0).val by omega)] at ed
      rw [if_neg h0, ed]
      by_cases h7 : (i 0).val = 7
      · rw [if_pos h7, xs_none c X ((i 0).val + 1) (by omega)]
        unfold free out
        rw [← prv_eq, ← oth_eq]
        iintro ⟨⟨⟨⟨HF, HX⟩, HXS, HD, HR⟩, HW⟩, Hk⟩
        iapply (stageB_last c i arg3 harg3 arg4 harg4 arg5 harg5 arg6 harg6 arg7 harg7 _ h1 h7 W K)
        isplitl [HF HW]
        · isplitl [HF]; · iexact HF
          iexact HW
        iintro ⟨HS, HO, HY, HW⟩
        iapply Hk
        isplitr [HW]
        · isplitl [HS HX HY]
          · isplitl [HS]; · iexact HS
            isplitl [HX]; · iexact HX
            iexact HY
          isplitl [HXS]; · iexact HXS
          isplitl [HO HD]
          · isplitl [HO]; · iexact HO
            iexact HD
          iexact HR
        iexact HW
      · rw [if_neg h7, xs_take c X ((i 0).val + 1) (by omega)]
        unfold inn out
        rw [← prv_eq, ← oth_eq, ← nxt_eq]
        iintro ⟨⟨⟨⟨HF, HX⟩, ⟨HXP, HXS⟩, HD, HR⟩, HW⟩, Hk⟩
        iapply (stageB_mid c X i arg3 harg3 arg4 harg4 arg5 harg5 arg6 harg6 arg7 harg7 _ h1 (by omega) (by omega) W K)
        isplitl [HF HW HXP HX]
        · isplitl [HXP]; · iexact HXP
          isplitl [HF]; · iexact HF
          isplitl [HX]; · iexact HX
          iexact HW
        iintro ⟨HI, HO, HY, HW⟩
        iapply Hk
        isplitr [HW]
        · isplitl [HI HY]
          · isplitl [HI]; · iexact HI
            iexact HY
          isplitl [HXS]; · iexact HXS
          isplitl [HO HD]
          · isplitl [HO]; · iexact HO
            iexact HD
          iexact HR
        iexact HW
  · refine BIBase.Entails.trans ?_ (stageB_skip c i arg3 harg3 arg4 harg4 arg5 harg5 arg6 harg6 arg7 harg7 h1 Set.univ K)
    have e : (if (i 1).val ≤ 1 then rest0 c X G1 G2 WG WU WD (i 0).val else rest1 c X G1 G2 WG WU WD (i 0).val : sProp 𝕄)
        = if (i 1).val = 0 then rest0 c X G1 G2 WG WU WD (i 0).val else rest1 c X G1 G2 WG WU WD (i 0).val := by
      by_cases h : (i 1).val = 0
      · rw [if_pos h, if_pos (by omega)]
      · rw [if_neg h, if_neg (by omega)]
    rw [e]
    iintro ⟨⟨HR, HW⟩, Hk⟩
    iapply Hk
    isplitl [HR]; · iexact HR
    iexists W; iexact HW

/-- The state after step `f` of block `b`. -/
def next (b f : ℕ) : sProp 𝕄 := if f = 42 then state c X G1 G2 WG WU WD (b + 1) 0 else state c X G1 G2 WG WU WD b (f + 1)

/-- The last stage, at any step. -/
theorem stageD_all (W : Waits sig Unit) (K : PUnit → sProp 𝕄) :
    iprop((owns (c : Thread nD τ) arg7 fullShare G2 ∗ held c X G1 WG WU WD (i 0).val ((i 1).val + 1) ∗ rAny c
          ∗ (if (i 1).val = 0 then rest0 c X G1 G2 WG WU WD (i 0).val else rest1 c X G1 G2 WG WU WD (i 0).val) ∗ owes (c : Thread nD τ) 0 W)
        ∗ (iprop(owns (c : Thread nD τ) arg7 fullShare G2 ∗ next c X G1 G2 WG WU WD (i 0).val (i 1).val ∗ ∃ W, owes (c : Thread nD τ) 0 W) -∗ K ⟨⟩))
      ⊢ wp frame (wpE (defs₀ (F := F)) Variants.none (c : Thread nD τ) none) Set.univ (stageD i arg3 harg3 arg4 harg4 arg5 harg5 arg6 harg6 arg7 harg7) K := by
  have hb8 : (i 0).val < 8 := (i 0).isLt
  by_cases h1 : (i 1).val = 42
  · unfold next; rw [if_pos h1, if_neg (show (i 1).val ≠ 0 by omega)]
    unfold state; rw [if_pos rfl]
    unfold rest1 start held; rw [if_neg (show (i 0).val + 1 ≠ 0 by omega), ysRaw_take c (i 0).val hb8]
    rw [show (i 1).val + 1 = 43 by omega]
    by_cases h7 : (i 0).val = 7
    · rw [if_pos h7, if_pos (show (i 0).val + 1 = 8 by omega), show (8 : ℕ) = (i 0).val + 1 by omega, ysDone_put c X G1 G2 WG WU WD (i 0).val hb8]
      rw [show sl 1 = sl (i 0).val from Fin.ext (by show 1 % 2 = (i 0).val % 2; omega), show sl 0 = sl ((i 0).val + 1) from Fin.ext (by show 0 % 2 = ((i 0).val + 1) % 2; omega)]
      unfold free
      rw [← row_eq, ← cur_eq]
      iintro ⟨⟨H7, ⟨HS, ⟨HX, HY⟩, HH⟩, HRr, ⟨HF, HXS, HD, HYP, HR⟩, HW⟩, Hk⟩
      iapply (stageD_last c i arg3 harg3 arg4 harg4 arg5 harg5 arg6 harg6 arg7 harg7 G2 _ h1 h7 W K)
      isplitl [H7 HS HRr HY HYP HW]
      · isplitl [H7]; · iexact H7
        isplitl [HS]; · iexact HS
        isplitl [HRr]; · iexact HRr
        isplitl [HY]; · iexact HY
        isplitl [HYP]; · iexact HYP
        iexact HW
      iintro ⟨H7, HRr, HO, HS, HY, HW⟩
      iapply Hk
      isplitl [H7]; · iexact H7
      isplitr [HW]
      · isplitr [HH HRr]
        · isplitl [HF]; · iexact HF
          isplitl [HS HX HY]
          · isplitl [HS]; · iexact HS
            isplitl [HX]; · iexact HX
            iexact HY
          isplitl [HXS]; · iexact HXS
          isplitl [HO HD]
          · isplitl [HO]; · iexact HO
            iexact HD
          iexact HR
        isplitl [HH]
        · unfold owns; icases HH with ⟨%fh, -, HH⟩; iexists fh; iexact HH
        iexact HRr
      iexact HW
    · rw [if_neg h7, if_neg (show (i 0).val + 1 ≠ 8 by omega), sl_two, Nat.add_sub_cancel]
      unfold out
      rw [← row_eq, ← cur_eq]
      iintro ⟨⟨H7, ⟨HS, ⟨HX, HY⟩, HH⟩, HRr, ⟨HF, HXS, HD, HYP, HR⟩, HW⟩, Hk⟩
      iapply (stageD_mid c i arg3 harg3 arg4 harg4 arg5 harg5 arg6 harg6 arg7 harg7 G2 _ h1 (by omega) K)
      isplitl [H7 HS HRr HY HYP]
      · isplitl [H7]; · iexact H7
        isplitl [HS]; · iexact HS
        isplitl [HRr]; · iexact HRr
        isplitl [HY]; · iexact HY
        iexact HYP
      iintro ⟨H7, HRr, HO⟩
      iapply Hk
      isplitl [H7]; · iexact H7
      isplitr [HW]
      · isplitr [HH HRr]
        · isplitl [HF]; · iexact HF
          isplitl [HO HX]
          · isplitl [HO]; · iexact HO
            iexact HX
          isplitl [HXS]; · iexact HXS
          isplitl [HD]; · iexact HD
          iexact HR
        isplitl [HH]
        · unfold owns; icases HH with ⟨%fh, -, HH⟩; iexists fh; iexact HH
        iexact HRr
      iexists W; iexact HW
  · refine BIBase.Entails.trans ?_ (stageD_skip c i arg3 harg3 arg4 harg4 arg5 harg5 arg6 harg6 arg7 harg7 h1 Set.univ K)
    unfold next; rw [if_neg h1]
    unfold state; rw [if_neg (Nat.succ_ne_zero _)]
    have e : (if (i 1).val + 1 = 1 then rest0 c X G1 G2 WG WU WD (i 0).val else rest1 c X G1 G2 WG WU WD (i 0).val : sProp 𝕄)
        = if (i 1).val = 0 then rest0 c X G1 G2 WG WU WD (i 0).val else rest1 c X G1 G2 WG WU WD (i 0).val := by
      by_cases h : (i 1).val = 0
      · rw [if_pos h, if_pos (by omega)]
      · rw [if_neg h, if_neg (by omega)]
    rw [e]
    iintro ⟨⟨H7, HH, HRr, HR, HW⟩, Hk⟩
    iapply Hk
    isplitl [H7]; · iexact H7
    isplitr [HW]
    · isplitl [HH]; · iexact HH
      isplitl [HRr]; · iexact HRr
      iexact HR
    iexists W; iexact HW

/-- One grid step. -/
theorem body_all (W : Waits sig Unit) (K : PUnit → sProp 𝕄) :
    iprop((owns (c : Thread nD τ) arg3 fullShare G1 ∗ owns (c : Thread nD τ) arg4 fullShare (WG (i 1).val) ∗ owns (c : Thread nD τ) arg5 fullShare (WU (i 1).val) ∗ owns (c : Thread nD τ) arg6 fullShare (WD (i 1).val) ∗ owns (c : Thread nD τ) arg7 fullShare G2
          ∗ state c X G1 G2 WG WU WD (i 0).val (i 1).val ∗ owes (c : Thread nD τ) 0 W)
        ∗ (iprop(owns (c : Thread nD τ) arg3 fullShare G1 ∗ owns (c : Thread nD τ) arg4 fullShare (WG (i 1).val) ∗ owns (c : Thread nD τ) arg5 fullShare (WU (i 1).val) ∗ owns (c : Thread nD τ) arg6 fullShare (WD (i 1).val) ∗ owns (c : Thread nD τ) arg7 fullShare G2
          ∗ next c X G1 G2 WG WU WD (i 0).val (i 1).val ∗ ∃ W, owes (c : Thread nD τ) 0 W) -∗ K ⟨⟩))
      ⊢ wp frame (wpE (defs₀ (F := F)) Variants.none (c : Thread nD τ) none) Set.univ (bodyG i arg3 harg3 arg4 harg4 arg5 harg5 arg6 harg6 arg7 harg7) K := by
  rw [bodyG_stages, wp_bind]
  iintro ⟨⟨H3, H4, H5, H6, H7, HΦ, HW⟩, Hk⟩
  iapply (stageA_all c X G1 G2 WG WU WD i arg3 harg3 arg4 harg4 arg5 harg5 arg6 harg6 arg7 harg7 W _)
  isplitl [H3 HΦ HW]
  · isplitl [H3]; · iexact H3
    isplitl [HΦ]; · iexact HΦ
    iexact HW
  iintro ⟨H3, HH, HRr, HR, ⟨%W1, HW⟩⟩
  irw [wp_bind]
  iapply (stageB_all c X G1 G2 WG WU WD i arg3 harg3 arg4 harg4 arg5 harg5 arg6 harg6 arg7 harg7 W1 _)
  isplitl [HR HW]
  · isplitl [HR]; · iexact HR
    iexact HW
  iintro ⟨HR, ⟨%W2, HW⟩⟩
  irw [wp_bind]
  unfold held
  icases HH with ⟨HS, HC, HH⟩
  iapply (stageC_run c i arg3 harg3 arg4 harg4 arg5 harg5 arg6 harg6 arg7 harg7 (hOf c X G1 (i 0).val) (WG (i 1).val) (WU (i 1).val) (WD (i 1).val) (acc c X G1 WG WU WD (i 0).val (i 1).val) Set.univ _)
  isplitl [HH H4 H5 H6 HS]
  · isplitl [HH]; · iexact HH
    isplitl [H4]; · iexact H4
    isplitl [H5]; · iexact H5
    isplitl [H6]; · iexact H6
    iexact HS
  iintro ⟨HH, H4, H5, H6, HS⟩
  iapply (stageD_all c X G1 G2 WG WU WD i arg3 harg3 arg4 harg4 arg5 harg5 arg6 harg6 arg7 harg7 W2 _)
  isplitl [H7 HS HC HH HRr HR HW]
  · isplitl [H7]; · iexact H7
    isplitl [HS HC HH]
    · unfold held
      isplitl [HS]; · iexact HS
      isplitl [HC]; · iexact HC
      iexact HH
    isplitl [HRr]; · iexact HRr
    isplitl [HR]; · iexact HR
    iexact HW
  iintro ⟨H7, HΦ, HW⟩
  iapply Hk
  isplitl [H3]; · iexact H3
  isplitl [H4]; · iexact H4
  isplitl [H5]; · iexact H5
  isplitl [H6]; · iexact H6
  isplitl [H7]; · iexact H7
  isplitl [HΦ]; · iexact HΦ
  iexact HW

end State

end Cert.Kernel2Ideal.Ffn2
end
-- ==== Proof.Ffn2Run.lean ====
/- The second feed-forward kernel run over its grid: what it leaves in its output, and that its inputs are unchanged. -/
module

public import proofs.«01_k».proof.Proof.Ffn2State
public import proofs.«01_k».proof.Proof.Gen.Kernel2Ideal.Frame
public import Idealize.ShloMosaic.Lib.Pipeline.KitQuiescent
public import Idealize.ShloMosaic.Lib.Pipeline.Value
public import Idealize.ShloMosaic.Lib.Pipeline.ValueKit

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The operands as the steps read them -/

abbrev xOf (c : Dev nD) : Buf (Elt F) (xM.view.loc (c : Thread nD τ)) := V m c main_arg0
abbrev g1Of (c : Dev nD) : Vec F S1x4096 .f32 := V m c main_v1
abbrev g2Of (c : Dev nD) : Vec F S1x4096 .f32 := V m c main_v2
theorem upOff_inb (k : ℕ) : ∀ a, (![0, 256 * (k % 43)] : Fin 2 → Nat) a + S4096x256.size a ≤ S4096x11008.size a := by
  intro a; fin_cases a
  · show 0 + 4096 ≤ 4096; omega
  · show 256 * (k % 43) + 256 ≤ 11008; omega
theorem downOff_inb (k : ℕ) : ∀ a, (![256 * (k % 43), 0] : Fin 2 → Nat) a + S256x4096.size a ≤ S11008x4096.size a := by
  intro a; fin_cases a
  · show 256 * (k % 43) + 256 ≤ 11008; omega
  · show 0 + 4096 ≤ 4096; omega
/-- The columns of the gate and of the up projection for step `k`, and the rows of the down projection. -/
def wgOf (c : Dev nD) (k : ℕ) : Vec F S4096x256 .bf16 := VecWindow.window (V m c main_arg2 : S4096x11008.Idx → Elt F .bf16) ![0, 256 * (k % 43)] S4096x256.size (upOff_inb k)
def wuOf (c : Dev nD) (k : ℕ) : Vec F S4096x256 .bf16 := VecWindow.window (V m c main_arg3 : S4096x11008.Idx → Elt F .bf16) ![0, 256 * (k % 43)] S4096x256.size (upOff_inb k)
def wdOf (c : Dev nD) (k : ℕ) : Vec F S256x4096 .bf16 := VecWindow.window (V m c main_arg4 : S11008x4096.Idx → Elt F .bf16) ![256 * (k % 43), 0] S256x4096.size (downOff_inb k)

theorem idx_all : ∀ t : Fin cfg0.N, win0_0.index t = ![0, 0] ∧ win0_1.index t = ![0, t.val % 43] ∧ win0_2.index t = ![0, t.val % 43] ∧ win0_3.index t = ![t.val % 43, 0] ∧ win0_4.index t = ![0, 0] :=
  (by decide +kernel : ∀ t : Fin grid0.N, win0_0.index t = ![0, 0] ∧ win0_1.index t = ![0, t.val % 43] ∧ win0_2.index t = ![0, t.val % 43] ∧ win0_3.index t = ![t.val % 43, 0] ∧ win0_4.index t = ![0, 0])
theorem coords_all : ∀ t : Fin cfg0.N, ((grid0.coords t) 0).val = t.val / 43 ∧ ((grid0.coords t) 1).val = t.val % 43 :=
  (by decide +kernel : ∀ t : Fin grid0.N, ((grid0.coords t) 0).val = t.val / 43 ∧ ((grid0.coords t) 1).val = t.val % 43)

theorem iblk_0 (c : Dev nD) (t : Fin cfg0.N) : iblk m c 0 t = g1Of m c := by
  funext y; blk_ext [iblk, (idx_all t).1]
theorem iblk_4 (c : Dev nD) (t : Fin cfg0.N) : iblk m c 4 t = g2Of m c := by
  funext y; blk_ext [iblk, (idx_all t).2.2.2.2]
theorem iblk_1 (c : Dev nD) (t : Fin cfg0.N) : iblk m c 1 t = wgOf m c (t.val % 43) := by
  funext y; unfold wgOf VecWindow.window; blk_ext [iblk, (idx_all t).2.1]
theorem iblk_2 (c : Dev nD) (t : Fin cfg0.N) : iblk m c 2 t = wuOf m c (t.val % 43) := by
  funext y; unfold wuOf VecWindow.window; blk_ext [iblk, (idx_all t).2.2.1]
theorem iblk_3 (c : Dev nD) (t : Fin cfg0.N) : iblk m c 3 t = wdOf m c (t.val % 43) := by
  funext y; unfold wdOf VecWindow.window; blk_ext [iblk, (idx_all t).2.2.2.1]

/-! ## The proof data -/

/-- The state with the operands put in. -/
abbrev stateOf (c : Dev nD) (b f : ℕ) : sProp 𝕄 := state c (xOf m c) (g1Of m c) (g2Of m c) (wgOf m c) (wuOf m c) (wdOf m c) b f
/-- The finished rows of block `b`. -/
abbrev finOf (c : Dev nD) (b : ℕ) : S1024x4096.Idx → Elt F .f32 := fin c (xOf m c) (g1Of m c) (g2Of m c) (wgOf m c) (wuOf m c) (wdOf m c) b

def dats (_ : Fin 1) (c : Dev nD) : Dat τ (Elt F) Unit ℕ (UU nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
  Φ t := stateOf m c (t.val / 43) (t.val % 43)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The data's states step as one grid step does. -/
theorem next_eq (c : Dev nD) (t : Fin cfg0.N) :
    next c (xOf m c) (g1Of m c) (g2Of m c) (wgOf m c) (wuOf m c) (wdOf m c) (t.val / 43) (t.val % 43) = stateOf m c ((t.val + 1) / 43) ((t.val + 1) % 43) := by
  unfold next
  by_cases h : t.val % 43 = 42
  · rw [if_pos h, show (t.val + 1) / 43 = t.val / 43 + 1 by omega, show (t.val + 1) % 43 = 0 by omega]
  · rw [if_neg h, show (t.val + 1) / 43 = t.val / 43 by omega, show (t.val + 1) % 43 = t.val % 43 + 1 by omega]

theorem prog_eq (t : Fin cfg0.N) : defs₀ (F := F) .tc cfg0.body (cfg0.bodyArgs t (cfg0.slots t)) = bodyAt0 t := by
  unfold defs₀; rw [Defs.onTc_tc]

set_option backward.isDefEq.respectTransparency.types false in
set_option maxHeartbeats 400000 in
theorem body_obligation (c : Dev nD) : BodyObligation (dats (F := F) m 0 c) (defs₀ (F := F)) Variants.none () Set.univ := fun t => by
  rw [bigSep_W0, bigSep_W0, prog_eq]
  dsimp only
  simp only [before_0, before_1, before_2, before_3, before_4, after_0, after_1, after_2, after_3, after_4, iblk_0, iblk_1, iblk_2, iblk_3, iblk_4]
  rw [show (dats m 0 c).Φ t.castSucc = stateOf m c (t.val / 43) (t.val % 43) from rfl, show (dats m 0 c).Φ t.succ = stateOf m c ((t.val + 1) / 43) ((t.val + 1) % 43) from rfl]
  unfold Dat.owesAt Pipeline.owesWithin
  rw [show (dats m 0 c).owed t.castSucc = 0 from rfl, show (dats m 0 c).owed t.succ = 0 from rfl]
  have hbody := body_all c (xOf m c) (g1Of m c) (g2Of m c) (wgOf m c) (wuOf m c) (wdOf m c) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
  rw [(coords_all t).1, (coords_all t).2, next_eq] at hbody
  iintro ⟨HΦ, ⟨%W, -, HW⟩, ⟨%d0, H3⟩, ⟨%d1, H4⟩, ⟨%d2, H5⟩, ⟨%d3, H6⟩, ⟨%d4, H7⟩⟩
  iapply (hbody W _)
  isplitl [H3 H4 H5 H6 H7 HΦ HW]
  · isplitl [H3]; · iexact H3
    isplitl [H4]; · iexact H4
    isplitl [H5]; · iexact H5
    isplitl [H6]; · iexact H6
    isplitl [H7]; · iexact H7
    isplitl [HΦ]; · iexact HΦ
    iexact HW
  iintro ⟨H3, H4, H5, H6, H7, HΦ, ⟨%W', HW⟩⟩
  isplitl [HΦ]; · iexact HΦ
  isplitl [HW]
  · iexists W'; isplitr; · ipureintro; exact fun _ _ => Or.inl trivial
    iexact HW
  isplitl [H3]; · iexact H3
  isplitl [H4]; · iexact H4
  isplitl [H5]; · iexact H5
  isplitl [H6]; · iexact H6
  iexact H7

/-! ## Element sets: the row blocks, the two slots -/

abbrev R8 (b : Fin 8) : Finset S8192x4096.Idx := (Rect.unit (s := S8192x4096) (rowOff b) S1024x4096.size (rowOff_inb b)).set
abbrev S2s (s : Fin 2) : Finset S2x1024x4096.Idx := (Rect.unit (s := S2x1024x4096) (slotOff s) S1x1024x4096.size (slotOff_inb s)).set

omit [FloatOps F] in
theorem xT_set (b : Fin 8) : (xT b).view.set = R8 b := View.set_slice_whole _ _
omit [FloatOps F] in
theorem yT_set (b : Fin 8) : (yT b).view.set = R8 b := View.set_slice_whole _ _
omit [FloatOps F] in
theorem slot_set (s : Fin 2) : (slot s).view.set = S2s s := (View.set_reshape _ _).trans (View.set_slice_whole _ _)

theorem mem_R8 (b : Fin 8) (y : S8192x4096.Idx) : y ∈ R8 b ↔ (y 0).val / 1024 = b.val := by
  rw [Rect.mem_set_unit]
  have h1 : (y 1).val < 4096 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 4096; omega
theorem mem_S2s (s : Fin 2) (y : S2x1024x4096.Idx) : y ∈ S2s s ↔ (y 0).val = s.val := by
  rw [Rect.mem_set_unit]
  have h1 : (y 1).val < 1024 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4096; omega
theorem R8_disjoint : ∀ b b' : Fin 8, b ≠ b' → Disjoint (R8 b) (R8 b') := by
  intro b b' hne; rw [Finset.disjoint_left]; intro y hy hy'; rw [mem_R8] at hy hy'; exact hne (Fin.ext (hy.symm.trans hy'))
theorem R8_cover : (Finset.univ : Finset (Fin 8)).biUnion R8 = Finset.univ := by
  ext y; simp only [Finset.mem_biUnion, Finset.mem_univ, true_and, iff_true]
  exact ⟨⟨(y 0).val / 1024, by have : (y 0).val < 8192 := (y 0).isLt; omega⟩, by rw [mem_R8]⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]
  exact ⟨⟨(y 0).val, (y 0).isLt⟩, by rw [mem_S2s]⟩

/-! ## Whole buffers from their pieces -/

omit [FloatOps F] in
theorem of_eq {P Q : sProp 𝕄} (e : P = Q) : P ⊢ Q := by rw [e]

omit [FloatOps F] in
theorem sep2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem sep4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

omit [FloatOps F] in
theorem slot_eq (c : Dev nD) (s : Fin 2) (f) : slotP c s f = (((c : Thread nD τ).loc cc0_scratch0) ↦[S2s s]{fullShare} f : sProp 𝕄) :=
  congrArg (fun S => (_ ↦[S]{fullShare} f : sProp 𝕄)) (slot_set s)
omit [FloatOps F] in
theorem slots_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scratch0) S2s S2s_disjoint S2s_cover f).trans (sep2 _))) $$ H
  icases H2 with ⟨H0, H1⟩
  isplitl [H0]
  · iexists f; iapply (of_eq (slot_eq c 0 f).symm); iexact H0
  · iexists f; iapply (of_eq (slot_eq c 1 f).symm); iexact H1
theorem slots_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) S2s S2s_disjoint S2s_cover f0)
  irw [sep2]
  isplitl [H0]
  · iexists f0; iapply (of_eq (slot_eq c 0 f0)); iexact H0
  · iexists f1; iapply (of_eq (slot_eq c 1 f1)); iexact H1

/-- The input whole is its eight row blocks. -/
theorem xs_whole (c : Dev nD) : (((c : Thread nD τ).loc main_arg0) ↦{fullShare} V m c main_arg0 : sProp 𝕄) = xs c (xOf m c) 8 := by
  rw [Ring.pointsTo_blocks (ℓ := (c : Thread nD τ).loc main_arg0) R8 R8_disjoint R8_cover]
  unfold xs
  rw [show (Finset.univ.filter fun j : Fin 8 => j.val ≠ 8) = Finset.univ from Finset.filter_true_of_mem fun j _ => by have := j.isLt; omega]
  exact bigSep_congr fun b _ => by rw [← xT_set]; rfl

/-- The output: each row block its finished rows. -/
def Yfull (c : Dev nD) : Buf (Elt F) ((c : Thread nD τ).loc main_v3) := fun y : S8192x4096.Idx =>
  finOf m c ((y 0).val / 1024) fun a => match a with
    | ⟨0, _⟩ => ⟨(y 0).val % 1024, Nat.mod_lt _ (by decide)⟩
    | ⟨1, _⟩ => ⟨(y 1).val, (y 1).isLt⟩

theorem Yfull_read (c : Dev nD) (b : Fin 8) : (yT b).view.read (Elt F) (Yfull m c) = finOf m c b.val := by
  funext y
  have h0 : (y 0).val < 1024 := (y 0).isLt
  show finOf m c ((1024 * b.val + 1 * (y 0).val) / 1024) _ = _
  rw [show (1024 * b.val + 1 * (y 0).val) / 1024 = b.val by omega]
  refine congrArg (finOf m c b.val) (funext fun a => Fin.ext ?_)
  match a with
  | ⟨0, _⟩ => show (1024 * b.val + 1 * (y 0).val) % 1024 = (y 0).val; omega
  | ⟨1, _⟩ => show 0 + 1 * (y 1).val = (y 1).val; omega

theorem y_same (c : Dev nD) (b : Fin 8) (f g : Buf (Elt F) ((yT b).view.loc (c : Thread nD τ))) (h : (yT b).view.read (Elt F) f = (yT b).view.read (Elt F) g) :
    (yP c b f : sProp 𝕄) = yP c b g := by
  unfold yP
  rw [pointsTo_rep (c : Thread nD τ) (yT b) f fullShare, pointsTo_rep (c : Thread nD τ) (yT b) g fullShare, h]
theorem y_done (c : Dev nD) (b : Fin 8) : owns (c : Thread nD τ) (yT b) fullShare (finOf m c b.val) ⊢ (yP c b (Yfull m c) : sProp 𝕄) := by
  unfold owns
  iintro ⟨%g, %hg, H⟩
  iapply (of_eq (y_same c b g (Yfull m c) (hg.trans (Yfull_read m c b).symm)))
  iexact H

omit [FloatOps F] in
theorem y_any (c : Dev nD) (b : Fin 8) (f) : (yP c b f : sProp 𝕄) ⊢ iprop(∃ f, yP (F := F) c b f) := by
  iintro H; iexists f; iexact H
theorem ys_start (c : Dev nD) : (((c : Thread nD τ).loc main_v3) ↦{fullShare} V m c main_v3 : sProp 𝕄) ⊢ ysRaw c 0 := by
  rw [Ring.pointsTo_blocks (ℓ := (c : Thread nD τ).loc main_v3) R8 R8_disjoint R8_cover]
  unfold ysRaw
  rw [show (Finset.univ.filter fun j : Fin 8 => 0 ≤ j.val) = Finset.univ from Finset.filter_true_of_mem fun j _ => Nat.zero_le _]
  refine bigSep_mono fun b _ => ?_
  rw [← yT_set]
  exact y_any c b (V m c main_v3)
theorem ys_end (c : Dev nD) : ysDone c (xOf m c) (g1Of m c) (g2Of m c) (wgOf m c) (wuOf m c) (wdOf m c) 8 ⊢ (((c : Thread nD τ).loc main_v3) ↦{fullShare} Yfull m c : sProp 𝕄) := by
  rw [Ring.pointsTo_blocks (ℓ := (c : Thread nD τ).loc main_v3) R8 R8_disjoint R8_cover]
  unfold ysDone
  rw [show (Finset.univ.filter fun j : Fin 8 => j.val < 8) = Finset.univ from Finset.filter_true_of_mem fun j _ => j.isLt]
  refine bigSep_mono fun b _ => ?_
  rw [← yT_set]
  exact y_done m c b
theorem ysDone_nil (c : Dev nD) : (ysDone c (xOf m c) (g1Of m c) (g2Of m c) (wgOf m c) (wuOf m c) (wdOf m c) 0 : sProp 𝕄) = BI.emp := by
  unfold ysDone
  rw [show (Finset.univ.filter fun j : Fin 8 => j.val < 0) = ∅ from Finset.filter_false_of_mem fun j _ => by omega, bigSep_empty]

/-! ## The run -/

def osem : Fin 4 → SemLoc sig := ![.dma (xc 0).sem, .dma (xc 1).sem, .dma (yc 0).sem, .dma (yc 1).sem]
theorem ownSemFacts : Pipeline.OwnSemFacts spec0 osem := by decide
omit [FloatOps F] in
theorem ownSems0_eq (c : Dev nD) : (Pipeline.ownSems0 (Ix := Unit) (Name := ℕ) (U := UU nD τ) (Lvl := ℕ) (Val := Elt F) (τ := τ) osem c : sProp 𝕄)
    = iprop(xcP c 0 ∗ xcP c 1 ∗ ycP c 0 ∗ ycP c 1) := by
  unfold Pipeline.ownSems0; rw [sep4]; rfl

def intoΦ (c : Dev nD) : sProp 𝕄 := iprop(xs c (xOf m c) 8 ∗ ysRaw c 0 ∗ Pipeline.ownSems0 osem c)
def outOfΦ (c : Dev nD) : sProp 𝕄 := iprop((((c : Thread nD τ).loc main_arg0) ↦{fullShare} V m c main_arg0) ∗ (((c : Thread nD τ).loc main_v3) ↦{fullShare} Yfull m c))
def restZ (c : Dev nD) : sProp 𝕄 := iprop((((c : Thread nD τ).loc main_arg1) ↦{fullShare} V m c main_arg1) ∗ (((c : Thread nD τ).loc main_arg5) ↦{fullShare} V m c main_arg5))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_v3) = Yfull m c ∧ s.mem ((c : Thread nD τ).loc main_arg0) = V m c main_arg0
    ∧ s.mem ((c : Thread nD τ).loc main_arg1) = V m c main_arg1 ∧ s.mem ((c : Thread nD τ).loc main_arg5) = V m c main_arg5
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem state_first (c : Dev nD) : (dats m 0 c).Φ 0 = iprop((free c 0 ∗ free c 1 ∗ xs c (xOf m c) 8 ∗ ysDone c (xOf m c) (g1Of m c) (g2Of m c) (wgOf m c) (wuOf m c) (wdOf m c) 0 ∗ ysRaw c 0) ∗ hAny c ∗ rAny c) := rfl
theorem state_last (c : Dev nD) : (dats m 0 c).Φ (Fin.last cfg0.N) = iprop((free c 0 ∗ free c 1 ∗ xs c (xOf m c) 8 ∗ ysDone c (xOf m c) (g1Of m c) (g2Of m c) (wgOf m c) (wuOf m c) (wdOf m c) 8 ∗ ysRaw c 8) ∗ hAny c ∗ rAny c) := by
  show stateOf m c 8 0 = _
  unfold stateOf state start
  rw [if_pos rfl, if_neg (by decide), if_pos rfl]; rfl

omit [FloatOps F] in
theorem h_eq (c : Dev nD) (f : Buf (Elt F) ((c : Thread nD τ).loc cc0_scratch1)) : (((c : Thread nD τ).loc cc0_scratch1) ↦{fullShare} f : sProp 𝕄) = hP c f := by
  unfold hP; rw [show hM.view.set = Finset.univ from View.set_whole _]
omit [FloatOps F] in
theorem r_eq (c : Dev nD) (f : Buf (Elt F) ((c : Thread nD τ).loc cc0_scratch2)) : (((c : Thread nD τ).loc cc0_scratch2) ↦{fullShare} f : sProp 𝕄) = rP c f := by
  unfold rP; rw [show rM.view.set = Finset.univ from View.set_whole _]

set_option backward.isDefEq.respectTransparency.types false in
/-- Every fair execution ends, with the output at `Yfull`, the arrays the windows read and the other inputs as they
    were, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts embL defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ _ => rfl)
    (X := intoΦ m) (Y := outOfΦ m) (Z := restZ m)
    (hX := fun c => by
      rw [unscopedRest0_eq, xs_whole m c]
      unfold intoΦ restZ
      iintro ⟨⟨H0, H1, H5, -, H3⟩, HS, -, -, -⟩; imodintro
      isplitl [H0 H3 HS]
      · isplitl [H0]; · iexact H0
        isplitl [H3]; · iapply (ys_start m c); iexact H3
        iexact HS
      isplitl [H1]; · iexact H1
      iexact H5)
    (hin := fun c => by
      rw [scopedRest0_eq, state_first, ysDone_nil]
      unfold intoΦ free; rw [ownSems0_eq]
      iintro ⟨⟨H0, H3, Hx0, Hx1, Hy0, Hy1⟩, Ha, ⟨%fh, Hh⟩, ⟨%fr, Hr⟩⟩
      ihave Hs := (slots_split c) $$ Ha
      icases Hs with ⟨Hs0, Hs1⟩
      isplitl [H0 H3 Hx0 Hx1 Hy0 Hy1 Hs0 Hs1]
      · isplitl [Hs0 Hx0 Hy0]
        · isplitl [Hs0]; · iexact Hs0
          isplitl [Hx0]; · iexact Hx0
          iexact Hy0
        isplitl [Hs1 Hx1 Hy1]
        · isplitl [Hs1]; · iexact Hs1
          isplitl [Hx1]; · iexact Hx1
          iexact Hy1
        isplitl [H0]; · iexact H0
        isplitr; · iempintro
        iexact H3
      isplitl [Hh]
      · iexists fh; iapply (of_eq (h_eq c fh)); iexact Hh
      · iexists fr; iapply (of_eq (r_eq c fr)); iexact Hr)
    (hout := fun c => by
      rw [scopedRest0_eq, state_last, ownSems0_eq]
      unfold outOfΦ free; rw [xs_whole m c]
      iintro ⟨⟨⟨Hs0, Hx0, Hy0⟩, ⟨Hs1, Hx1, Hy1⟩, H0, H3, -⟩, ⟨%fh, Hh⟩, ⟨%fr, Hr⟩⟩
      isplitl [H0 H3]
      · isplitl [H0]; · iexact H0
        iapply (ys_end m c); iexact H3
      isplitl [Hx0 Hx1 Hy0 Hy1]
      · isplitl [Hx0]; · iexact Hx0
        isplitl [Hx1]; · iexact Hx1
        isplitl [Hy0]; · iexact Hy0
        iexact Hy1
      isplitl [Hs0 Hs1]
      · iapply (slots_join c)
        isplitl [Hs0]; · iexact Hs0
        iexact Hs1
      isplitl [Hh]
      · iexists fh; iapply (of_eq (h_eq c fh).symm); iexact Hh
      · iexists fr; iapply (of_eq (r_eq c fr).symm); iexact Hr)
    (QY := QY m)
    (hY := fun c s' => by
      unfold outOfΦ restZ
      iintro ⟨⟨H0, H3⟩, ⟨H1, H5⟩, HSI⟩
      icombine HSI H0 gives %h0
      icombine HSI H3 gives %h3
      icombine HSI H1 gives %h1
      icombine HSI H5 gives %h5
      imodintro
      isplitr
      · ipureintro
        exact ⟨Buf.eq_of_forall_mem_univ h3, Buf.eq_of_forall_mem_univ h0, Buf.eq_of_forall_mem_univ h1, Buf.eq_of_forall_mem_univ h5⟩
      iexact HSI)
    (hQ := fun _ hh hz => ⟨hh, hz⟩)

/-- The run, read at the program's arrays: the output at `Yfull`, every argument unchanged, every counter at zero. -/
theorem run : θ_run defs (onTc (τ := τ) (main (F := F))) ⟨m, fun _ => 0, ρ⟩ (fun r => (∀ c : Dev nD,
      r.2.mem ((c.tc : Thread nD τ).loc main_v3) = Yfull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => by
    obtain ⟨hw, h3, h0, h1, h5⟩ := h.1 c
    exact ⟨h3, h0.trans (V_main_arg0 m c), h1.trans (V_main_arg1 m c),
      (hw 1).trans (((dats m 0 c).arrAt_in 1 rfl _).trans ((A_eq m c 1).trans (V_main_arg2 m c))),
      (hw 2).trans (((dats m 0 c).arrAt_in 2 rfl _).trans ((A_eq m c 2).trans (V_main_arg3 m c))),
      (hw 3).trans (((dats m 0 c).arrAt_in 3 rfl _).trans ((A_eq m c 3).trans (V_main_arg4 m c))),
      h5.trans (V_main_arg5 m c)⟩, h.2⟩) (run_main m ρ)

/-- The frame: every argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ)

/-- The contents alone. -/
theorem run_values : θ_run defs (onTc (τ := τ) (main (F := F))) ⟨m, fun _ => 0, ρ⟩ (fun r => ∀ c : Dev nD,
      r.2.mem ((c.tc : Thread nD τ).loc main_v3) = Yfull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (run m ρ)

end Cert.Kernel2Ideal.Ffn2
end
-- ==== Proof.Ffn2Ref.lean ====
/- The reference of the second feed-forward half, in stages, and each stage read at a place. -/
module

public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Reference2Ideal.Ffn2

open Cert.Reference2Ideal Cert.Reference2Ideal.Gen
open Idealize.ShloMosaic Idealize.ShloMosaic.TcCoe Idealize.ShloMosaic.Tactic
open Idealize.SL.Sem

/-! ## The mathematics of a row -/

/-- The half, the mean's divisor and the small addend, as the programs' words denote them. -/
abbrev half : EReal := Ideal.ofBits .f32 0x3F000000#32
abbrev divisor : EReal := Ideal.ofBits .f32 0x45800000#32
abbrev addend : EReal := Ideal.ofBits .f32 0x358637BD#32

/-- A row normed by the root of its mean square, at a place, times `g`. -/
def nrm (x : Fin 4096 → EReal) (g : EReal) (q : Fin 4096) : EReal :=
  x q * Ideal.rsqrt (Ideal.div (∑ k, x k * x k) divisor + addend) * g
/-- The gated activation of a gate and an up value. -/
def gated (g u : EReal) : EReal := g * Ideal.logistic g * u

theorem half_eq : half = ((1 / 2 : ℝ) : EReal) := by
  unfold half
  simp [Ideal.ofBits, Ideal.ieee, -EReal.coe_mul]
  norm_num

/-- A half out of a sum: it is a nonnegative finite number, so it distributes over any extended reals. -/
theorem half_sum {n : ℕ} (a w : Fin n → EReal) : ∑ l, (half * a l) * w l = half * ∑ l, a l * w l := by
  have h0 : (0 : EReal) ≤ half := by rw [half_eq]; exact_mod_cast (by norm_num : (0 : ℝ) ≤ 1 / 2)
  have ht : half ≠ ⊤ := by rw [half_eq]; exact EReal.coe_ne_top _
  have H : ∀ s : Finset (Fin n), ∑ l ∈ s, (half * a l) * w l = half * ∑ l ∈ s, a l * w l := fun s => by
    induction s using Finset.induction_on with
    | empty => simp
    | insert l s hl ih =>
      rw [Finset.sum_insert hl, Finset.sum_insert hl, ih, EReal.left_distrib_of_nonneg_of_ne_top h0 ht, mul_assoc]
  exact H _

/-! ## The stages -/

def normR (X : FVec Ideal S8192x4096 .f32) (g : FVec Ideal S4096 .f32) : FVec Ideal S8192x4096 .f32 :=
  mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))
def projR (H : FVec Ideal S8192x4096 .f32) (W : FVec Ideal S4096x11008 .bf16) : FVec Ideal S8192x11008 .f32 :=
  Host.dotGeneral dot_S8192x4096_S4096x11008_S8192x11008_1_0_0_1_n_n none H (extf .f32 W bitsLt_bf16_f32)
def actR (G U : FVec Ideal S8192x11008 .f32) : FVec Ideal S8192x11008 .f32 :=
  mulf (mulf G (Host.divf (broadcastInDim S8192x11008 ![] bcast_S_S8192x11008 (constant S_ .f32 0x3F800000#32)) (addf (broadcastInDim S8192x11008 ![] bcast_S_S8192x11008 (constant S_ .f32 0x3F800000#32)) (Host.exp (Host.negf G))))) U
def sumR (X : FVec Ideal S8192x4096 .f32) (A : FVec Ideal S8192x11008 .f32) (W : FVec Ideal S11008x4096 .bf16) : FVec Ideal S8192x4096 .f32 :=
  addf X (mulf (broadcastInDim S8192x4096 ![] bcast_S_S8192x4096 (constant S_ .f32 0x3F000000#32)) (Host.dotGeneral dot_S8192x11008_S11008x4096_S8192x4096_1_0_0_1_n_n none A (extf .f32 W bitsLt_bf16_f32)))

theorem normR_at (X : FVec Ideal S8192x4096 .f32) (g : FVec Ideal S4096 .f32) (i : Fin 8192) (q : Fin 4096) :
    normR X g (ix2 i q) = nrm (fun k => X (ix2 i k)) (g (ix1 q)) q := by
  unfold nrm; pointwise! [normR]
theorem projR_at (H : FVec Ideal S8192x4096 .f32) (W : FVec Ideal S4096x11008 .bf16) (i : Fin 8192) (l : Fin 11008) :
    projR H W (ix2 i l) = ∑ k, H (ix2 i k) * W (ix2 k l) := by
  pointwise! [projR]
theorem actR_at (G U : FVec Ideal S8192x11008 .f32) (i : Fin 8192) (l : Fin 11008) :
    actR G U (ix2 i l) = gated (G (ix2 i l)) (U (ix2 i l)) := by
  unfold gated Ideal.logistic; pointwise! [actR]
theorem sumR_at (X : FVec Ideal S8192x4096 .f32) (A : FVec Ideal S8192x11008 .f32) (W : FVec Ideal S11008x4096 .bf16) (i : Fin 8192) (q : Fin 4096) :
    sumR X A W (ix2 i q) = X (ix2 i q) + half * ∑ l, A (ix2 i l) * W (ix2 l q) := by
  pointwise! [sumR]

/-! ## The layer's last half, at a place -/

variable (X : Fin 8192 → Fin 4096 → EReal) (g1 g2 : Fin 4096 → EReal) (WG WU : Fin 4096 → Fin 11008 → EReal) (WD : Fin 11008 → Fin 4096 → EReal)

/-- Row `i`'s activation at column `l`. -/
def actAt (i : Fin 8192) (l : Fin 11008) : EReal :=
  gated (∑ k, nrm (X i) (g1 k) k * WG k l) (∑ k, nrm (X i) (g1 k) k * WU k l)
/-- The row with half of the feed-forward added. -/
def sumAt (i : Fin 8192) (q : Fin 4096) : EReal := X i q + half * ∑ l, actAt X g1 WG WU i l * WD l q
/-- The result. -/
def outAt (i : Fin 8192) (q : Fin 4096) : EReal := nrm (sumAt X g1 WG WU WD i) (g2 q) q

/-- The reference's term. -/
def layerR (X : FVec Ideal S8192x4096 .f32) (g1 : FVec Ideal S1x4096 .f32) (WG WU : FVec Ideal S4096x11008 .bf16) (WD : FVec Ideal S11008x4096 .bf16) (g2 : FVec Ideal S4096 .f32) : FVec Ideal S8192x4096 .f32 :=
  normR (sumR X (actR (projR (normR X (shapeCast S4096 g1 shapeCasts_S1x4096_S4096)) WG) (projR (normR X (shapeCast S4096 g1 shapeCasts_S1x4096_S4096)) WU)) WD) g2

theorem flat_at (g : FVec Ideal S1x4096 .f32) (k : Fin 4096) : shapeCast S4096 g shapeCasts_S1x4096_S4096 (ix1 k) = g (ix2 0 k) := by
  pointwise

theorem layerR_at (X : FVec Ideal S8192x4096 .f32) (g1 : FVec Ideal S1x4096 .f32) (WG WU : FVec Ideal S4096x11008 .bf16) (WD : FVec Ideal S11008x4096 .bf16) (g2 : FVec Ideal S4096 .f32)
    (i : Fin 8192) (q : Fin 4096) :
    layerR X g1 WG WU WD g2 (ix2 i q) = outAt (fun i k => X (ix2 i k)) (fun k => g1 (ix2 0 k)) (fun k => g2 (ix1 k)) (fun k l => WG (ix2 k l)) (fun k l => WU (ix2 k l)) (fun l k => WD (ix2 l k)) i q := by
  unfold layerR outAt sumAt actAt
  simp only [normR_at, sumR_at, actR_at, projR_at, flat_at]

theorem res_eq (m : (ℓ : Loc nD τ sig) → Buf (Elt Ideal) ℓ) (c : Dev nD) :
    Value.res_main_v37 m c = layerR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v37 layerR normR sumR actR projR; rfl

end Cert.Reference2Ideal.Ffn2
end
-- ==== Proof.Ffn2Value.lean ====
/- The values of the second feed-forward kernel: its output array is the reference's term of the arguments. -/
module

public import proofs.«01_k».proof.Proof.Ffn2Run
public import proofs.«01_k».proof.Proof.Ffn2Ref
public import Idealize.ShloMosaic.Lib.Pointwise
public import Idealize.ShloMosaic.Lib.Pipeline.ValueKit

@[expose] public section

set_option maxRecDepth 16384

noncomputable section

namespace Cert.Kernel2Ideal.Ffn2

open Cert.Kernel2Ideal Cert.Kernel2Ideal.Gen
open Idealize.ShloMosaic Idealize.ShloMosaic.TcCoe Idealize.ShloMosaic.Tactic
open Idealize.SL.Sem

open Cert.Reference2Ideal.Ffn2 (half nrm gated half_sum actAt sumAt outAt layerR layerR_at)

/-! ## The body's values, at a place -/

theorem pay6_at (h : FVec Ideal S1024x4096 .bf16) (wg wu : FVec Ideal S4096x256 .bf16) (r : Fin 1024) (q : Fin 256) :
    k0_pay6 (F := Ideal) h wg wu (ix2 r q) = half * gated (∑ x, h (ix2 r x) * wg (ix2 x q)) (∑ x, h (ix2 r x) * wu (ix2 x q)) := by
  unfold gated; pointwise! [k0_pay6]
theorem pay8_at (act : FVec Ideal S1024x256 .bf16) (A : FVec Ideal S1024x512 .f32) (wd : FVec Ideal S256x512 .bf16) (r : Fin 1024) (q : Fin 512) :
    k0_pay8 (F := Ideal) act A wd (ix2 r q) = A (ix2 r q) + ∑ x, act (ix2 r x) * wd (ix2 x q) := by
  pointwise! [k0_pay8]
theorem pay5_at (g : FVec Ideal S1x4096 .f32) (x : FVec Ideal S16x4096 .f32) (r : Fin 16) (q : Fin 4096) :
    k0_pay5 (F := Ideal) g x (ix2 r q) = nrm (fun k => x (ix2 r k)) (g (ix2 0 q)) q := by
  unfold nrm; pointwise! [k0_pay5]
theorem pay4_at (g : FVec Ideal S1x4096 .f32) (x : FVec Ideal S16x4096 .f32) (r : Fin 16) (q : Fin 4096) :
    k0_pay4 (F := Ideal) g x (k0_pay3 (F := Ideal) x : FVec Ideal S16x1 .f32) (ix2 r q) = nrm (fun k => x (ix2 r k)) (g (ix2 0 q)) q := by
  unfold nrm; pointwise! [k0_pay4, k0_pay3]

theorem bandLoc_ix (r : Fin 1024) (q : Fin 4096) : bandLoc (ix2 r q) = ix2 ⟨r.val % 16, Nat.mod_lt _ (by decide)⟩ q := by
  funext a
  match a with
  | ⟨0, _⟩ => rfl
  | ⟨1, _⟩ => rfl
theorem band_at (A : S1024x4096.Idx → EReal) (r : Fin 1024) (q k : Fin 4096) :
    band A (bandOf (ix2 r q)) (ix2 ⟨r.val % 16, Nat.mod_lt _ (by decide)⟩ k) = A (ix2 r k) := by
  refine congrArg A (funext fun a => Fin.ext ?_)
  match a with
  | ⟨0, _⟩ => show 16 * (r.val / 16) + 1 * (r.val % 16) = r.val; omega
  | ⟨1, _⟩ => show 0 + 1 * k.val = k.val; omega
theorem colLoc_ix (r : Fin 1024) (q : Fin 4096) : colLoc (ix2 r q) = ix2 r ⟨q.val % 512, Nat.mod_lt _ (by decide)⟩ := by
  funext a
  match a with
  | ⟨0, _⟩ => rfl
  | ⟨1, _⟩ => rfl
theorem colSlice_at {n : ℕ} (A : (⟨2, ![n, 4096]⟩ : Shape).Idx → EReal) (r : Fin n) (r' : Fin 1024) (q : Fin 4096) :
    colSlice (n := n) A (colOf (ix2 r' q)) (ix2 r ⟨q.val % 512, Nat.mod_lt _ (by decide)⟩) = A (ix2 r q) := by
  refine congrArg A (funext fun a => Fin.ext ?_)
  match a with
  | ⟨0, _⟩ => show 0 + 1 * r.val = r.val; omega
  | ⟨1, _⟩ => show 512 * (q.val / 512) + 1 * (q.val % 512) = q.val; omega

theorem hval_at (g : FVec Ideal S1x4096 .f32) (A : FVec Ideal S1024x4096 .f32) (r : Fin 1024) (q : Fin 4096) :
    hval (F := Ideal) g A (ix2 r q) = nrm (fun k => A (ix2 r k)) (g (ix2 0 q)) q := by
  unfold hval
  rw [bandLoc_ix]
  refine (pay5_at g _ _ _).trans ?_
  refine congrArg (fun x => nrm x (g (ix2 0 q)) q) (funext fun k => band_at A r q k)
theorem nval_at (g : FVec Ideal S1x4096 .f32) (A : FVec Ideal S1024x4096 .f32) (r : Fin 1024) (q : Fin 4096) :
    nval (F := Ideal) g A (ix2 r q) = nrm (fun k => A (ix2 r k)) (g (ix2 0 q)) q := by
  unfold nval
  rw [bandLoc_ix]
  refine (pay4_at g _ _ _).trans ?_
  refine congrArg (fun x => nrm x (g (ix2 0 q)) q) (funext fun k => band_at A r q k)
theorem stepv_at (act : FVec Ideal S1024x256 .bf16) (wd : FVec Ideal S256x4096 .bf16) (A : FVec Ideal S1024x4096 .f32) (r : Fin 1024) (q : Fin 4096) :
    stepv (F := Ideal) act wd A (ix2 r q) = A (ix2 r q) + ∑ x, act (ix2 r x) * wd (ix2 x q) := by
  unfold stepv
  rw [colLoc_ix]
  refine (pay8_at act _ _ _ _).trans ?_
  refine congrArg₂ (· + ·) (colSlice_at (n := 1024) A r r q) (Finset.sum_congr rfl fun x _ => ?_)
  exact congrArg (act (ix2 r x) * ·) (colSlice_at (n := 256) wd x r q)

/-! ## The block's rows, step by step -/

section Rows
variable (c : Dev nD) (X : Buf (Elt Ideal) (xM.view.loc (c : Thread nD τ))) (G1 G2 : FVec Ideal S1x4096 .f32) (WG WU : ℕ → FVec Ideal S4096x256 .bf16) (WD : ℕ → FVec Ideal S256x4096 .bf16)

theorem acc_at (b k : ℕ) (r : Fin 1024) (q : Fin 4096) :
    acc (F := Ideal) c X G1 WG WU WD b k (ix2 r q)
      = (xRows c X (blk b) : FVec Ideal S1024x4096 .f32) (ix2 r q) + ∑ s ∈ Finset.range k, ∑ x, k0_pay6 (F := Ideal) (hOf c X G1 b) (WG s) (WU s) (ix2 r x) * WD s (ix2 x q) := by
  induction k with
  | zero => rw [Finset.sum_range_zero, add_zero]; rfl
  | succ k ih =>
    rw [Finset.sum_range_succ, ← add_assoc, ← ih]
    exact stepv_at _ _ _ r q
end Rows

variable (m : (ℓ : Loc nD τ sig) → Buf (Elt Ideal) ℓ)

/-! ## The operands -/

theorem g1_at (c : Dev nD) (j : Fin 4096) : g1Of m c (ix2 0 j) = (m ((c : Thread nD τ).loc main_arg1) : FVec Ideal S1x4096 .f32) (ix2 0 j) := by
  show V m c main_v1 (ix2 0 j) = _
  entry_read
  pointwise
theorem g2_at (c : Dev nD) (j : Fin 4096) : g2Of m c (ix2 0 j) = (m ((c : Thread nD τ).loc main_arg5) : FVec Ideal S4096 .f32) (ix1 j) := by
  show V m c main_v2 (ix2 0 j) = _
  entry_read
  pointwise
theorem x_at (c : Dev nD) (b : Fin 8) (r : Fin 1024) (k : Fin 4096) :
    (xRows c (xOf m c) b : FVec Ideal S1024x4096 .f32) (ix2 r k) = (m ((c : Thread nD τ).loc main_arg0) : FVec Ideal S8192x4096 .f32) (ix2 ⟨b.val * 1024 + r.val, by have := b.isLt; have := r.isLt; omega⟩ k) := by
  refine Eq.trans ?_ (congrFun (V_main_arg0 m c) _)
  refine congrArg (V m c main_arg0 : FVec Ideal S8192x4096 .f32) (funext fun a => Fin.ext ?_)
  match a with
  | ⟨0, _⟩ => show 1024 * b.val + 1 * r.val = b.val * 1024 + r.val; omega
  | ⟨1, _⟩ => show 0 + 1 * k.val = k.val; omega
theorem wg_at (c : Dev nD) (s : Fin 43) (k : Fin 4096) (x : Fin 256) :
    wgOf m c s.val (ix2 k x) = (m ((c : Thread nD τ).loc main_arg2) : FVec Ideal S4096x11008 .bf16) (ix2 k ⟨s.val * 256 + x.val, by have := s.isLt; have := x.isLt; omega⟩) := by
  refine Eq.trans ?_ (congrFun (V_main_arg2 m c) _)
  refine congrArg (V m c main_arg2 : FVec Ideal S4096x11008 .bf16) (funext fun a => Fin.ext ?_)
  have := s.isLt
  match a with
  | ⟨0, _⟩ => show 0 + 1 * k.val = k.val; omega
  | ⟨1, _⟩ => show 256 * (s.val % 43) + 1 * x.val = s.val * 256 + x.val; omega
theorem wu_at (c : Dev nD) (s : Fin 43) (k : Fin 4096) (x : Fin 256) :
    wuOf m c s.val (ix2 k x) = (m ((c : Thread nD τ).loc main_arg3) : FVec Ideal S4096x11008 .bf16) (ix2 k ⟨s.val * 256 + x.val, by have := s.isLt; have := x.isLt; omega⟩) := by
  refine Eq.trans ?_ (congrFun (V_main_arg3 m c) _)
  refine congrArg (V m c main_arg3 : FVec Ideal S4096x11008 .bf16) (funext fun a => Fin.ext ?_)
  have := s.isLt
  match a with
  | ⟨0, _⟩ => show 0 + 1 * k.val = k.val; omega
  | ⟨1, _⟩ => show 256 * (s.val % 43) + 1 * x.val = s.val * 256 + x.val; omega
theorem wd_at (c : Dev nD) (s : Fin 43) (x : Fin 256) (q : Fin 4096) :
    wdOf m c s.val (ix2 x q) = (m ((c : Thread nD τ).loc main_arg4) : FVec Ideal S11008x4096 .bf16) (ix2 ⟨s.val * 256 + x.val, by have := s.isLt; have := x.isLt; omega⟩ q) := by
  refine Eq.trans ?_ (congrFun (V_main_arg4 m c) _)
  refine congrArg (V m c main_arg4 : FVec Ideal S11008x4096 .bf16) (funext fun a => Fin.ext ?_)
  have := s.isLt
  match a with
  | ⟨0, _⟩ => show 256 * (s.val % 43) + 1 * x.val = s.val * 256 + x.val; omega
  | ⟨1, _⟩ => show 0 + 1 * q.val = q.val; omega

/-! ## The output -/

section Out
variable (c : Dev nD)
/-- The arguments as the mathematics reads them. -/
abbrev Xm (i : Fin 8192) (k : Fin 4096) : EReal := (m ((c : Thread nD τ).loc main_arg0) : FVec Ideal S8192x4096 .f32) (ix2 i k)
abbrev G1m (k : Fin 4096) : EReal := (m ((c : Thread nD τ).loc main_arg1) : FVec Ideal S1x4096 .f32) (ix2 0 k)
abbrev G2m (k : Fin 4096) : EReal := (m ((c : Thread nD τ).loc main_arg5) : FVec Ideal S4096 .f32) (ix1 k)
abbrev WGm (k : Fin 4096) (l : Fin 11008) : EReal := (m ((c : Thread nD τ).loc main_arg2) : FVec Ideal S4096x11008 .bf16) (ix2 k l)
abbrev WUm (k : Fin 4096) (l : Fin 11008) : EReal := (m ((c : Thread nD τ).loc main_arg3) : FVec Ideal S4096x11008 .bf16) (ix2 k l)
abbrev WDm (l : Fin 11008) (k : Fin 4096) : EReal := (m ((c : Thread nD τ).loc main_arg4) : FVec Ideal S11008x4096 .bf16) (ix2 l k)

theorem hOf_at (b : Fin 8) (r : Fin 1024) (k : Fin 4096) :
    hOf c (xOf m c) (g1Of m c) b.val (ix2 r k) = nrm (Xm m c ⟨b.val * 1024 + r.val, by have := b.isLt; have := r.isLt; omega⟩) (G1m m c k) k := by
  have hb : blk b.val = b := Fin.ext (Nat.mod_eq_of_lt b.isLt)
  refine (hval_at _ _ r k).trans ?_
  rw [g1_at, hb]
  exact congrArg (fun x => nrm x (G1m m c k) k) (funext fun j => x_at m c b r j)

theorem act_at (b : Fin 8) (s : Fin 43) (r : Fin 1024) (x : Fin 256) :
    k0_pay6 (F := Ideal) (hOf c (xOf m c) (g1Of m c) b.val) (wgOf m c s.val) (wuOf m c s.val) (ix2 r x)
      = half * actAt (Xm m c) (G1m m c) (WGm m c) (WUm m c) ⟨b.val * 1024 + r.val, by have := b.isLt; have := r.isLt; omega⟩ ⟨s.val * 256 + x.val, by have := s.isLt; have := x.isLt; omega⟩ := by
  refine (pay6_at _ _ _ r x).trans (congrArg (half * ·) ?_)
  unfold actAt
  refine congrArg₂ gated (Finset.sum_congr rfl fun k _ => ?_) (Finset.sum_congr rfl fun k _ => ?_)
  · exact congrArg₂ (· * ·) (hOf_at m c b r k) (wg_at m c s k x)
  · exact congrArg₂ (· * ·) (hOf_at m c b r k) (wu_at m c s k x)

theorem acc_end (b : Fin 8) (r : Fin 1024) (q : Fin 4096) :
    acc (F := Ideal) c (xOf m c) (g1Of m c) (wgOf m c) (wuOf m c) (wdOf m c) b.val 43 (ix2 r q)
      = sumAt (Xm m c) (G1m m c) (WGm m c) (WUm m c) (WDm m c) ⟨b.val * 1024 + r.val, by have := b.isLt; have := r.isLt; omega⟩ q := by
  have hb : blk b.val = b := Fin.ext (Nat.mod_eq_of_lt b.isLt)
  refine (acc_at c _ _ _ _ _ b.val 43 r q).trans ?_
  rw [hb]
  unfold sumAt
  refine congrArg₂ (· + ·) (x_at m c b r q) ?_
  rw [← half_sum, Finset.sum_range]
  refine Fin.sum_mul_add_congr (S := 43) (n := 256) (fun s x hl => ?_)
  exact congrArg₂ (· * ·) (act_at m c b s r x) (wd_at m c s x q)

/-- The output is the reference's term of the arguments. -/
theorem Yfull_eq : Yfull m c = layerR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine funext fun (y : S8192x4096.Idx) => ?_
  obtain ⟨i, q, rfl⟩ : ∃ i q, y = ix2 i q := ⟨⟨(y 0).val, (y 0).isLt⟩, ⟨(y 1).val, (y 1).isLt⟩, funext fun a => by
    match a with
    | ⟨0, _⟩ => rfl
    | ⟨1, _⟩ => rfl⟩
  refine Eq.trans ?_ (layerR_at _ _ _ _ _ _ i q).symm
  have hi := i.isLt
  have hb : i.val / 1024 < 8 := by omega
  have e : (fun a => match a with
      | ⟨0, _⟩ => ⟨i.val % 1024, Nat.mod_lt _ (by decide)⟩
      | ⟨1, _⟩ => ⟨q.val, q.isLt⟩ : S1024x4096.Idx) = ix2 ⟨i.val % 1024, Nat.mod_lt _ (by decide)⟩ q := by
    funext a
    match a with
    | ⟨0, _⟩ => rfl
    | ⟨1, _⟩ => rfl
  refine (congrArg (finOf m c (i.val / 1024)) e).trans ?_
  unfold finOf fin
  refine (nval_at _ _ _ q).trans ?_
  rw [g2_at]
  unfold outAt
  refine congrArg (fun x => nrm x (G2m m c q) q) (funext fun k => ?_)
  refine (acc_end m c ⟨i.val / 1024, hb⟩ ⟨i.val % 1024, Nat.mod_lt _ (by decide)⟩ k).trans ?_
  refine congrArg (fun j => sumAt (Xm m c) (G1m m c) (WGm m c) (WUm m c) (WDm m c) j k) (Fin.ext ?_)
  show i.val / 1024 * 1024 + i.val % 1024 = i.val
  omega
end Out

end Cert.Kernel2Ideal.Ffn2
end
-- ==== Proof.Ffn2Same.lean ====
/- The second feed-forward kernel and its idealization are the same text: their tables of functions are equal. -/
module

public import proofs.«01_k».proof.Proof.Ffn2Run
public import proofs.«01_k».proof.Proof.Gen.Kernel2
public import proofs.«01_k».proof.Proof.Gen.Kernel2.Skeleton

@[expose] public section

set_option maxRecDepth 65536

noncomputable section

namespace Cert.Kernel2.Ffn2
open Idealize.ShloMosaic
variable {F : FTy → Type} [FloatOps F]

/-- The two body tables are the same text. -/
theorem defs₀_same : Cert.Kernel2Ideal.defs₀ (F := F) = Cert.Kernel2.defs₀ (F := F) := by
  unfold Cert.Kernel2Ideal.defs₀ Cert.Kernel2.defs₀
  refine congrArg Defs.onTc (funext fun k => funext fun a => ?_)
  match k, a with
  | ⟨0, _⟩, (t, s) => rfl
  | ⟨_ + 1, h⟩, _ => exact absurd h (Nat.not_lt.2 (Nat.le_add_left _ _))

/-- So are the two programs' tables. -/
theorem defs_same : Cert.Kernel2Ideal.defs (F := F) = Cert.Kernel2.defs (F := F) :=
  congrArg (Pipeline.defs (Cert.Kernel2Ideal.pcfgs (F := F))) defs₀_same
end Cert.Kernel2.Ffn2
end
-- ==== Proof.Ffn1Base.lean ====
/- The first feed-forward kernel: its body as four stages, the names of the slots, cells and row blocks it moves between, and the pieces held on them. -/
module

public import proofs.«01_k».proof.Proof.Gen.Kernel3Ideal.Skeleton
public import proofs.«01_k».proof.Proof.Gen.Kernel3Ideal.Frame
public import Idealize.ShloMosaic.Lib.Claim
public import Idealize.ShloMosaic.Lib.VecWindow

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's, beside the counters of the kernel's own transfers. -/
abbrev UU (nD : Nat) (τ : Topo) : Type := UR sig nD τ × Counters
local notation "𝕄" => MT nD τ sig Unit (Elt F) ℕ (UU nD τ) ℕ

/-! ## The arrays and scratch buffers the kernel addresses itself -/

abbrev xM : Memref sig .tc .hbm S8192x4096 .f32 := Memref.whole main_v0
abbrev yM : Memref sig .tc .hbm S8192x4096 .f32 := Memref.whole main_v9_0
abbrev nM : Memref sig .tc .hbm S8192x4096 .bf16 := Memref.whole main_v9_1
abbrev aM : Memref sig .tc .vmem S2x1024x4096 .f32 := Memref.whole cc0_scratch0
abbrev hM : Memref sig .tc .vmem S1024x4096 .bf16 := Memref.whole cc0_scratch1
abbrev rM : Memref sig .tc .vmem S1024x1 .f32 := Memref.whole cc0_scratch2

/-! ## When the body's conditions hold -/

theorem cond1_iff (i : grid0.Coords) : k0_cond1 i = 1#1 ↔ (i 1).val = 0 := by revert i; decide +kernel
theorem cond2_iff (i : grid0.Coords) : k0_cond2 i = 1#1 ↔ (i 0).val = 0 := by revert i; decide +kernel
theorem cond3_iff (i : grid0.Coords) : k0_cond3 i = 1#1 ↔ 0 < (i 0).val := by revert i; decide +kernel
theorem cond4_iff (i : grid0.Coords) : k0_cond4 i = 1#1 ↔ (i 1).val = 1 := by revert i; decide +kernel
theorem cond5_iff (i : grid0.Coords) : k0_cond5 i = 1#1 ↔ 0 < (i 0).val := by revert i; decide +kernel
theorem cond6_iff (i : grid0.Coords) : k0_cond6 i = 1#1 ↔ (i 0).val < 7 := by revert i; decide +kernel
theorem cond7_iff (i : grid0.Coords) : k0_cond7 i = 1#1 ↔ (i 1).val = 42 := by revert i; decide +kernel
theorem cond8_iff (i : grid0.Coords) : k0_cond8 i = 1#1 ↔ (i 0).val = 7 := by revert i; decide +kernel
theorem cond9_iff (i : grid0.Coords) : k0_cond9 i = 1#1 ↔ (i 0).val = 7 := by revert i; decide +kernel

/-! ## The body in four stages -/

/-- The first stage: at the first step of a row block, the rows arrive, the block before starts to leave, and the rows are normalised. -/
def stageA (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole) : Prog (TpuEff nD τ sig (Elt F) Λ₀ .tc) PUnit := do
  if k0_h1 : k0_cond1 i = 1#1 then do
    if k0_h2 : k0_cond2 i = 1#1 then do
      let v145 : DmaSems sig S1 := cc0_scratch3.slice (Rect.unit (s := S2) ![0] S1.size inb_S2_S1_0)
      let v146 : DmaSems sig S_ := v145.squeeze S_ squeezes_S1_S_
      let v147 : Memref sig .tc .vmem S1x1024x4096 .f32 := aM.slice (Rect.unit (s := S2x1024x4096) ![0, 0, 0] S1x1024x4096.size inb_S2x1024x4096_S1x1024x4096_0_0_0) (fun _ => rfl)
      let v148 : Memref sig .tc .vmem S1024x4096 .f32 := v147.squeeze S1024x4096 squeezes_S1x1024x4096_S1024x4096
      let v149 : Memref sig .tc .hbm S1024x4096 .f32 := xM.slice (Rect.unit (s := S8192x4096) ![0, 0] S1024x4096.size inb_S8192x4096_S1024x4096_0_0) (fun _ => rfl)
      Prog.lift (.enqueueDma v149 (.here v148) (.dma v146.sem) (View.wordExact_bits rfl) ((View.wordExact_bits rfl).reshape _ _) ⟨Or.inl rfl, trivial⟩)
      pure ⟨⟩
    else do
      pure ⟨⟩
    let v133 : DmaSems sig S1 := cc0_scratch3.slice (Rect.unit (s := S2) (k0_off1 i) S1.size (k0_off1_inb i k0_h1))
    let v134 : DmaSems sig S_ := v133.squeeze S_ squeezes_S1_S_
    let v135 : Memref sig .tc .vmem S1x1024x4096 .f32 := aM.slice (Rect.unit (s := S2x1024x4096) (k0_off2 i) S1x1024x4096.size (k0_off2_inb i k0_h1)) (fun _ => rfl)
    let v136 : Memref sig .tc .vmem S1024x4096 .f32 := v135.squeeze S1024x4096 squeezes_S1x1024x4096_S1024x4096
    let v137 : Memref sig .tc .hbm S1024x4096 .f32 := xM.slice (Rect.unit (s := S8192x4096) (k0_off3 i) S1024x4096.size (k0_off3_inb i k0_h1)) (fun _ => rfl)
    Prog.lift (.waitDma2 v134.sem v137 v136 (View.wordExact_bits rfl) ((View.wordExact_bits rfl).reshape _ _))
    if k0_h3 : k0_cond3 i = 1#1 then do
      let v148 : DmaSems sig S1 := cc0_scratch5.slice (Rect.unit (s := S2) ![0] S1.size inb_S2_S1_0)
      let v149 : DmaSems sig S_ := v148.squeeze S_ squeezes_S1_S_
      let v150 : Memref sig .tc .hbm S512x4096 .bf16 := nM.slice (Rect.unit (s := S8192x4096) (k0_off4 i 0#32) S512x4096.size (k0_off4_inb i k0_h1 k0_h3 0)) (fun _ => rfl)
      let v151 : Memref sig .tc .vmem S512x4096 .bf16 := hM.slice (Rect.unit (s := S1024x4096) ![0, 0] S512x4096.size inb_S1024x4096_S512x4096_0_0) (fun _ => rfl)
      Prog.lift (.waitDma2 v149.sem v151 v150 ((Memref.isWhole_whole _).wordExact_slice rfl _ wordsbf16_S1024x4096_S512x4096_0_0) ((Memref.isWhole_whole _).wordExact_slice rfl _ (k0_off4_wordsbf16 i k0_h1 k0_h3 0)))
      let v156 : DmaSems sig S1 := cc0_scratch5.slice (Rect.unit (s := S2) ![1] S1.size inb_S2_S1_1)
      let v157 : DmaSems sig S_ := v156.squeeze S_ squeezes_S1_S_
      let v158 : Memref sig .tc .hbm S512x4096 .bf16 := nM.slice (Rect.unit (s := S8192x4096) (k0_off4 i 512#32) S512x4096.size (k0_off4_inb i k0_h1 k0_h3 1)) (fun _ => rfl)
      let v159 : Memref sig .tc .vmem S512x4096 .bf16 := hM.slice (Rect.unit (s := S1024x4096) ![512, 0] S512x4096.size inb_S1024x4096_S512x4096_512_0) (fun _ => rfl)
      Prog.lift (.waitDma2 v157.sem v159 v158 ((Memref.isWhole_whole _).wordExact_slice rfl _ wordsbf16_S1024x4096_S512x4096_512_0) ((Memref.isWhole_whole _).wordExact_slice rfl _ (k0_off4_wordsbf16 i k0_h1 k0_h3 1)))
      let v164 : DmaSems sig S1 := cc0_scratch4.slice (Rect.unit (s := S2) (k0_off5 i) S1.size (k0_off5_inb i k0_h1 k0_h3))
      let v165 : DmaSems sig S_ := v164.squeeze S_ squeezes_S1_S_
      let v166 : Memref sig .tc .hbm S1024x4096 .f32 := yM.slice (Rect.unit (s := S8192x4096) (k0_off6 i) S1024x4096.size (k0_off6_inb i k0_h1 k0_h3)) (fun _ => rfl)
      let v167 : Memref sig .tc .vmem S1x1024x4096 .f32 := aM.slice (Rect.unit (s := S2x1024x4096) (k0_off7 i) S1x1024x4096.size (k0_off7_inb i k0_h1 k0_h3)) (fun _ => rfl)
      let v168 : Memref sig .tc .vmem S1024x4096 .f32 := v167.squeeze S1024x4096 squeezes_S1x1024x4096_S1024x4096
      Prog.lift (.enqueueDma v168 (.here v166) (.dma v165.sem) ((View.wordExact_bits rfl).reshape _ _) (View.wordExact_bits rfl) ⟨Or.inl rfl, trivial⟩)
      pure ⟨⟩
    else do
      pure ⟨⟩
    let v141 : Vec F S1x4096 .f32 ← Prog.lift (.load arg3 (Rect.unit (s := S1x4096) ![0, 0] S1x4096.size inb_S1x4096_S1x4096_0_0).toLoadRect (View.loadsAt_vmem h_S1x4096))
    Scf.Loop.for k0_t1_loop (k0_t1_ok i k0_h1) ⟨⟩ (k0_t1_body i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 k0_h1 v141)
    pure ⟨⟩
  else do
    pure ⟨⟩

/-- The second stage: at the second step, the block before has left and the next is sent for. -/
def stageB (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole) : Prog (TpuEff nD τ sig (Elt F) Λ₀ .tc) PUnit := do
  if k0_h4 : k0_cond4 i = 1#1 then do
    if k0_h5 : k0_cond5 i = 1#1 then do
      let v139 : DmaSems sig S1 := cc0_scratch4.slice (Rect.unit (s := S2) (k0_off10 i) S1.size (k0_off10_inb i k0_h4 k0_h5))
      let v140 : DmaSems sig S_ := v139.squeeze S_ squeezes_S1_S_
      let v141 : Memref sig .tc .hbm S1024x4096 .f32 := yM.slice (Rect.unit (s := S8192x4096) (k0_off11 i) S1024x4096.size (k0_off11_inb i k0_h4 k0_h5)) (fun _ => rfl)
      let v142 : Memref sig .tc .vmem S1x1024x4096 .f32 := aM.slice (Rect.unit (s := S2x1024x4096) (k0_off12 i) S1x1024x4096.size (k0_off12_inb i k0_h4 k0_h5)) (fun _ => rfl)
      let v143 : Memref sig .tc .vmem S1024x4096 .f32 := v142.squeeze S1024x4096 squeezes_S1x1024x4096_S1024x4096
      Prog.lift (.waitDma2 v140.sem v143 v141 ((View.wordExact_bits rfl).reshape _ _) (View.wordExact_bits rfl))
      pure ⟨⟩
    else do
      pure ⟨⟩
    if k0_h6 : k0_cond6 i = 1#1 then do
      let v139 : DmaSems sig S1 := cc0_scratch3.slice (Rect.unit (s := S2) (k0_off13 i) S1.size (k0_off13_inb i k0_h4 k0_h6))
      let v140 : DmaSems sig S_ := v139.squeeze S_ squeezes_S1_S_
      let v141 : Memref sig .tc .vmem S1x1024x4096 .f32 := aM.slice (Rect.unit (s := S2x1024x4096) (k0_off14 i) S1x1024x4096.size (k0_off14_inb i k0_h4 k0_h6)) (fun _ => rfl)
      let v142 : Memref sig .tc .vmem S1024x4096 .f32 := v141.squeeze S1024x4096 squeezes_S1x1024x4096_S1024x4096
      let v143 : Memref sig .tc .hbm S1024x4096 .f32 := xM.slice (Rect.unit (s := S8192x4096) (k0_off15 i) S1024x4096.size (k0_off15_inb i k0_h4 k0_h6)) (fun _ => rfl)
      Prog.lift (.enqueueDma v143 (.here v142) (.dma v140.sem) (View.wordExact_bits rfl) ((View.wordExact_bits rfl).reshape _ _) ⟨Or.inl rfl, trivial⟩)
      pure ⟨⟩
    else do
      pure ⟨⟩
    pure ⟨⟩
  else do
    pure ⟨⟩

/-- The third stage: the step's product is added to the rows, in eight column slices. -/
def stageC (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole) : Prog (TpuEff nD τ sig (Elt F) Λ₀ .tc) PUnit := do
  let v7 : Vec F S1024x4096 .bf16 ← Prog.lift (.load hM (Rect.unit (s := S1024x4096) ![0, 0] S1024x4096.size inb_S1024x4096_S1024x4096_0_0).toLoadRect (View.loadsAt_vmem h_S1024x4096))
  let v8 : Vec F S4096x256 .bf16 ← Prog.lift (.load arg4 (Rect.unit (s := S4096x256) ![0, 0] S4096x256.size inb_S4096x256_S4096x256_0_0).toLoadRect (View.loadsAt_vmem h_S4096x256))
  let v11 : Vec F S4096x256 .f32 ← Prog.lift (.load arg5 (Rect.unit (s := S4096x256) ![0, 0] S4096x256.size inb_S4096x256_S4096x256_0_0).toLoadRect (View.loadsAt_vmem h_S4096x256))
  let v21 : Memref sig .tc .vmem S1x1024x4096 .f32 := aM.slice (Rect.unit (s := S2x1024x4096) (k0_off16 i) S1x1024x4096.size (k0_off16_inb i)) (fun _ => rfl)
  let v22 : Memref sig .tc .vmem S1024x4096 .f32 := v21.squeeze S1024x4096 squeezes_S1x1024x4096_S1024x4096
  let v23 : Vec F S1024x512 .f32 ← Prog.lift (.load v22 (Rect.unit (s := S1024x4096) ![0, 0] S1024x512.size inb_S1024x4096_S1024x512_0_0).toLoadRect (View.loadsAt_vmem h_S1024x512))
  let v24 : Vec F S256x512 .f32 ← Prog.lift (.load arg6 (Rect.unit (s := S256x4096) ![0, 0] S256x512.size inb_S256x4096_S256x512_0_0).toLoadRect (View.loadsAt_vmem h_S256x512))
  let v20 : FVec F S1024x256 .bf16 := k0_pay6 v7 v8 v11
  let v28 : FVec F S1024x512 .f32 := k0_pay7 v7 v8 v11 v23 v24
  k0_part3 i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 v20 v28
  let v93 : FVec F S1024x512 .f32 ← k0_part4 i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 v20
  let _c : BitVec 32 ← k0_part5 i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 v20 v93
  pure ⟨⟩

/-- The fourth stage: at the last step, the rows' normalised form leaves, half a block at a time. -/
def stageD (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole) : Prog (TpuEff nD τ sig (Elt F) Λ₀ .tc) PUnit := do
  if k0_h7 : k0_cond7 i = 1#1 then do
    k0_part1 i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 (BitVec.ofNat 32 (i 0).val) k0_h7
    pure ⟨⟩
  else do
    pure ⟨⟩
  pure ⟨⟩

/-- The body on the given staging buffers. -/
abbrev bodyG (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole) : Prog (TpuEff nD τ sig (Elt F) Λ₀ .tc) PUnit :=
  cc0_ffn i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5

/-- The body is its four stages in order. -/
theorem bodyG_stages (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole) :
    bodyG (F := F) i arg3 harg3 arg4 harg4 arg5 harg5 arg6 harg6 arg7 harg7
      = (stageA i arg3 harg3 arg4 harg4 arg5 harg5 arg6 harg6 arg7 harg7 >>= fun _ => stageB i arg3 harg3 arg4 harg4 arg5 harg5 arg6 harg6 arg7 harg7 >>= fun _ =>
          stageC i arg3 harg3 arg4 harg4 arg5 harg5 arg6 harg6 arg7 harg7 >>= fun _ => stageD i arg3 harg3 arg4 harg4 arg5 harg5 arg6 harg6 arg7 harg7) := by
  unfold bodyG
  rw [cc0_ffn_eq_skeleton]; unfold cc0_ffn_skel
  rw [k0_part2_eq_skeleton]; unfold k0_part2_skel
  unfold stageA stageB stageC stageD
  by_cases h1 : k0_cond1 i = 1#1 <;> by_cases h4 : k0_cond4 i = 1#1
  · have := (cond1_iff i).1 h1; have := (cond4_iff i).1 h4; omega
  · by_cases h2 : k0_cond2 i = 1#1 <;> by_cases h3 : k0_cond3 i = 1#1 <;> simp only [h1, h2, h3, h4, dif_pos, dif_neg, not_false_eq_true, bind_assoc, pure_bind] <;> rfl
  · by_cases h5 : k0_cond5 i = 1#1 <;> by_cases h6 : k0_cond6 i = 1#1 <;> simp only [h1, h4, h5, h6, dif_pos, dif_neg, not_false_eq_true, bind_assoc, pure_bind] <;> rfl
  · simp only [h1, h4, dif_pos, dif_neg, not_false_eq_true, bind_assoc, pure_bind] <;> rfl

/-! ## Row blocks, slots and cells -/

abbrev rowOff (b : Fin 8) : Fin 2 → Nat := ![1024 * b.val, 0]
theorem rowOff_inb (b : Fin 8) : ∀ a, rowOff b a + S1024x4096.size a ≤ S8192x4096.size a := by
  have := b.isLt; intro a; fin_cases a
  · show 1024 * b.val + 1024 ≤ 8192; omega
  · show 0 + 4096 ≤ 4096; omega
abbrev slotOff (s : Fin 2) : Fin 3 → Nat := ![s.val, 0, 0]
theorem slotOff_inb (s : Fin 2) : ∀ a, slotOff s a + S1x1024x4096.size a ≤ S2x1024x4096.size a := by
  have := s.isLt; intro a; fin_cases a
  · show s.val + 1 ≤ 2; omega
  · show 0 + 1024 ≤ 1024; omega
  · show 0 + 4096 ≤ 4096; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

abbrev halfOff (b : Fin 8) (r : Fin 2) : Fin 2 → Nat := ![1024 * b.val + 512 * r.val, 0]
theorem halfOff_inb (b : Fin 8) (r : Fin 2) : ∀ a, halfOff b r a + S512x4096.size a ≤ S8192x4096.size a := by
  have := b.isLt; have := r.isLt; intro a; fin_cases a
  · show 1024 * b.val + 512 * r.val + 512 ≤ 8192; omega
  · show 0 + 4096 ≤ 4096; omega
abbrev partOff (r : Fin 2) : Fin 2 → Nat := ![512 * r.val, 0]
theorem partOff_inb (r : Fin 2) : ∀ a, partOff r a + S512x4096.size a ≤ S1024x4096.size a := by
  have := r.isLt; intro a; fin_cases a
  · show 512 * r.val + 512 ≤ 1024; omega
  · show 0 + 4096 ≤ 4096; omega

/-- Row block `b` of the input. -/
def xT (b : Fin 8) : Memref sig .tc .hbm S1024x4096 .f32 :=
  xM.slice (Rect.unit (s := S8192x4096) (rowOff b) S1024x4096.size (rowOff_inb b)) (fun _ => rfl)
/-- Row block `b` of the output. -/
def yT (b : Fin 8) : Memref sig .tc .hbm S1024x4096 .f32 :=
  yM.slice (Rect.unit (s := S8192x4096) (rowOff b) S1024x4096.size (rowOff_inb b)) (fun _ => rfl)
/-- Slot `s` of the accumulator, as the body slices and squeezes it. -/
def slot (s : Fin 2) : Memref sig .tc .vmem S1024x4096 .f32 :=
  (aM.slice (Rect.unit (s := S2x1024x4096) (slotOff s) S1x1024x4096.size (slotOff_inb s)) (fun _ => rfl)).squeeze S1024x4096 squeezes_S1x1024x4096_S1024x4096
/-- The cell counting slot `s`'s arrivals. -/
def xc (s : Fin 2) : DmaSems sig S_ := (cc0_scratch3.slice (Rect.unit (s := S2) (semOff s) S1.size (semOff_inb s))).squeeze S_ squeezes_S1_S_
/-- The cell counting slot `s`'s departures. -/
def yc (s : Fin 2) : DmaSems sig S_ := (cc0_scratch4.slice (Rect.unit (s := S2) (semOff s) S1.size (semOff_inb s))).squeeze S_ squeezes_S1_S_

/-- Half `r` of row block `b` of the normalised output. -/
def nT (b : Fin 8) (r : Fin 2) : Memref sig .tc .hbm S512x4096 .bf16 :=
  nM.slice (Rect.unit (s := S8192x4096) (halfOff b r) S512x4096.size (halfOff_inb b r)) (fun _ => rfl)
/-- Half `r` of the scratch of normalised rows. -/
def hH (r : Fin 2) : Memref sig .tc .vmem S512x4096 .bf16 :=
  hM.slice (Rect.unit (s := S1024x4096) (partOff r) S512x4096.size (partOff_inb r)) (fun _ => rfl)
/-- The cell counting the departures of half `r`. -/
def nc (r : Fin 2) : DmaSems sig S_ := (cc0_scratch5.slice (Rect.unit (s := S2) (semOff r) S1.size (semOff_inb r))).squeeze S_ squeezes_S1_S_

instance (r : Fin 2) : ClosedOff (partOff r) := ⟨partOff r, rfl⟩
instance (b : Fin 8) (r : Fin 2) : ClosedOff (halfOff b r) := ⟨halfOff b r, rfl⟩
instance (s : Fin 2) : ClosedOff (slotOff s) := ⟨slotOff s, rfl⟩
instance (b : Fin 8) : ClosedOff (rowOff b) := ⟨rowOff b, rfl⟩

/-- The row block of a point, the one before, the one after; its slot and the other one. -/
def row (i : grid0.Coords) : Fin 8 := ⟨(i 0).val, (i 0).isLt⟩
def prv (i : grid0.Coords) : Fin 8 := ⟨(i 0).val - 1, by have : (i 0).val < 8 := (i 0).isLt; omega⟩
def nxt (i : grid0.Coords) : Fin 8 := ⟨((i 0).val + 1) % 8, Nat.mod_lt _ (by decide)⟩
def cur (i : grid0.Coords) : Fin 2 := ⟨(i 0).val % 2, Nat.mod_lt _ (by decide)⟩
def oth (i : grid0.Coords) : Fin 2 := ⟨1 - (i 0).val % 2, by omega⟩

/-! ## The body's slices are these -/

private theorem xc_congr {off : Fin 1 → Nat} {s : Fin 2} (e : off = semOff s) (hh) :
    (cc0_scratch3.slice (Rect.unit (s := S2) off S1.size hh)).squeeze S_ squeezes_S1_S_ = xc s :=
  congrArg (fun A : DmaSems sig S1 => A.squeeze S_ squeezes_S1_S_) (SemArray.slice_unit_congr _ e _ _)
private theorem yc_congr {off : Fin 1 → Nat} {s : Fin 2} (e : off = semOff s) (hh) :
    (cc0_scratch4.slice (Rect.unit (s := S2) off S1.size hh)).squeeze S_ squeezes_S1_S_ = yc s :=
  congrArg (fun A : DmaSems sig S1 => A.squeeze S_ squeezes_S1_S_) (SemArray.slice_unit_congr _ e _ _)
private theorem nc_congr {off : Fin 1 → Nat} {s : Fin 2} (e : off = semOff s) (hh) :
    (cc0_scratch5.slice (Rect.unit (s := S2) off S1.size hh)).squeeze S_ squeezes_S1_S_ = nc s :=
  congrArg (fun A : DmaSems sig S1 => A.squeeze S_ squeezes_S1_S_) (SemArray.slice_unit_congr _ e _ _)
private theorem slot_congr {off : Fin 3 → Nat} {s : Fin 2} (e : off = slotOff s) (hh hs) :
    (aM.slice (Rect.unit (s := S2x1024x4096) off S1x1024x4096.size hh) hs).squeeze S1024x4096 squeezes_S1x1024x4096_S1024x4096 = slot s :=
  congrArg (fun M : Memref sig .tc .vmem S1x1024x4096 .f32 => M.squeeze S1024x4096 squeezes_S1x1024x4096_S1024x4096) (Memref.slice_unit_congr _ e _ _ _ _)
private theorem xT_congr {off : Fin 2 → Nat} {b : Fin 8} (e : off = rowOff b) (hh hs) :
    xM.slice (Rect.unit (s := S8192x4096) off S1024x4096.size hh) hs = xT b := Memref.slice_unit_congr _ e _ _ _ (fun _ => rfl)
private theorem yT_congr {off : Fin 2 → Nat} {b : Fin 8} (e : off = rowOff b) (hh hs) :
    yM.slice (Rect.unit (s := S8192x4096) off S1024x4096.size hh) hs = yT b := Memref.slice_unit_congr _ e _ _ _ (fun _ => rfl)
private theorem nT_congr {off : Fin 2 → Nat} {b : Fin 8} {r : Fin 2} (e : off = halfOff b r) (hh hs) :
    nM.slice (Rect.unit (s := S8192x4096) off S512x4096.size hh) hs = nT b r := Memref.slice_unit_congr _ e _ _ _ (fun _ => rfl)
private theorem hH_congr {off : Fin 2 → Nat} {r : Fin 2} (e : off = partOff r) (hh hs) :
    hM.slice (Rect.unit (s := S1024x4096) off S512x4096.size hh) hs = hH r := Memref.slice_unit_congr _ e _ _ _ (fun _ => rfl)

section Canon
variable (i : grid0.Coords)

theorem off4_eq (r : Fin 2) (h : 0 < (i 0).val) : k0_off4 i (BitVec.ofNat 32 (512 * r.val)) = halfOff (prv i) r := by
  have e : ∀ (r : Fin 2) (i : grid0.Coords), 0 < (i 0).val → k0_off4 i (BitVec.ofNat 32 (512 * r.val)) = ![1024 * ((i 0).val - 1) + 512 * r.val, 0] := by decide +kernel
  exact e r i h
theorem off6_eq (h : 0 < (i 0).val) : k0_off6 i = rowOff (prv i) := by
  have e : ∀ i : grid0.Coords, 0 < (i 0).val → k0_off6 i = ![1024 * ((i 0).val - 1), 0] := by decide +kernel
  exact e i h
theorem off11_eq (h : 0 < (i 0).val) : k0_off11 i = rowOff (prv i) := off6_eq i h
theorem off15_eq (h : (i 0).val < 7) : k0_off15 i = rowOff (nxt i) := by
  have e : ∀ i : grid0.Coords, (i 0).val < 7 → k0_off15 i = ![1024 * (((i 0).val + 1) % 8), 0] := by decide +kernel
  exact e i h
theorem off23_eq (r : Fin 2) : k0_off23 i (BitVec.ofNat 32 (512 * r.val)) = halfOff (row i) r := by
  have e : ∀ (r : Fin 2) (i : grid0.Coords), k0_off23 i (BitVec.ofNat 32 (512 * r.val)) = ![1024 * (i 0).val + 512 * r.val, 0] := by decide +kernel
  exact e r i
theorem off33_eq (r : Fin 2) : k0_off33 i (BitVec.ofNat 32 (512 * r.val)) = halfOff (row i) r := off23_eq i r

@[sl_canon] theorem c_xc0 (h : (i 0).val = 0) (hh) : (cc0_scratch3.slice (Rect.unit (s := S2) ![0] S1.size hh)).squeeze S_ squeezes_S1_S_ = xc 0 := xc_congr (by decide) _
@[sl_canon] theorem c_slot0 (hh hs) : (aM.slice (Rect.unit (s := S2x1024x4096) ![0, 0, 0] S1x1024x4096.size hh) hs).squeeze S1024x4096 squeezes_S1x1024x4096_S1024x4096 = slot 0 := slot_congr (by decide) _ _
@[sl_canon] theorem c_xT0 (hh hs) : xM.slice (Rect.unit (s := S8192x4096) ![0, 0] S1024x4096.size hh) hs = xT 0 := xT_congr (by decide) _ _
@[sl_canon] theorem c_nc0 (hh) : (cc0_scratch5.slice (Rect.unit (s := S2) ![0] S1.size hh)).squeeze S_ squeezes_S1_S_ = nc 0 := nc_congr (by decide) _
@[sl_canon] theorem c_nc1 (hh) : (cc0_scratch5.slice (Rect.unit (s := S2) ![1] S1.size hh)).squeeze S_ squeezes_S1_S_ = nc 1 := nc_congr (by decide) _
@[sl_canon] theorem c_hH0 (hh hs) : hM.slice (Rect.unit (s := S1024x4096) ![0, 0] S512x4096.size hh) hs = hH 0 := hH_congr (by decide) _ _
@[sl_canon] theorem c_hH1 (hh hs) : hM.slice (Rect.unit (s := S1024x4096) ![512, 0] S512x4096.size hh) hs = hH 1 := hH_congr (by decide) _ _
@[sl_canon] theorem c_1 (hh) : (cc0_scratch3.slice (Rect.unit (s := S2) (k0_off1 i) S1.size hh)).squeeze S_ squeezes_S1_S_ = xc (cur i) := xc_congr (k0_off1_eq i) _
@[sl_canon] theorem c_2 (hh hs) : (aM.slice (Rect.unit (s := S2x1024x4096) (k0_off2 i) S1x1024x4096.size hh) hs).squeeze S1024x4096 squeezes_S1x1024x4096_S1024x4096 = slot (cur i) := slot_congr (k0_off2_eq i) _ _
@[sl_canon] theorem c_3 (hh hs) : xM.slice (Rect.unit (s := S8192x4096) (k0_off3 i) S1024x4096.size hh) hs = xT (row i) := xT_congr (k0_off3_eq i) _ _
@[sl_canon] theorem c_4_0 (h : 0 < (i 0).val) (hh hs) : nM.slice (Rect.unit (s := S8192x4096) (k0_off4 i 0#32) S512x4096.size hh) hs = nT (prv i) 0 := nT_congr (off4_eq i 0 h) _ _
@[sl_canon] theorem c_4_1 (h : 0 < (i 0).val) (hh hs) : nM.slice (Rect.unit (s := S8192x4096) (k0_off4 i 512#32) S512x4096.size hh) hs = nT (prv i) 1 := nT_congr (off4_eq i 1 h) _ _
@[sl_canon] theorem c_5 (hh) : (cc0_scratch4.slice (Rect.unit (s := S2) (k0_off5 i) S1.size hh)).squeeze S_ squeezes_S1_S_ = yc (oth i) := yc_congr (k0_off5_eq i) _
@[sl_canon] theorem c_6 (h : 0 < (i 0).val) (hh hs) : yM.slice (Rect.unit (s := S8192x4096) (k0_off6 i) S1024x4096.size hh) hs = yT (prv i) := yT_congr (off6_eq i h) _ _
@[sl_canon] theorem c_7 (hh hs) : (aM.slice (Rect.unit (s := S2x1024x4096) (k0_off7 i) S1x1024x4096.size hh) hs).squeeze S1024x4096 squeezes_S1x1024x4096_S1024x4096 = slot (oth i) := slot_congr (k0_off7_eq i) _ _
@[sl_canon] theorem c_8 (hh hs) : (aM.slice (Rect.unit (s := S2x1024x4096) (k0_off8 i) S1x1024x4096.size hh) hs).squeeze S1024x4096 squeezes_S1x1024x4096_S1024x4096 = slot (cur i) := slot_congr (k0_off8_eq i) _ _
@[sl_canon] theorem c_10 (hh) : (cc0_scratch4.slice (Rect.unit (s := S2) (k0_off10 i) S1.size hh)).squeeze S_ squeezes_S1_S_ = yc (oth i) := yc_congr (k0_off10_eq i) _
@[sl_canon] theorem c_11 (h : 0 < (i 0).val) (hh hs) : yM.slice (Rect.unit (s := S8192x4096) (k0_off11 i) S1024x4096.size hh) hs = yT (prv i) := yT_congr (off11_eq i h) _ _
@[sl_canon] theorem c_12 (hh hs) : (aM.slice (Rect.unit (s := S2x1024x4096) (k0_off12 i) S1x1024x4096.size hh) hs).squeeze S1024x4096 squeezes_S1x1024x4096_S1024x4096 = slot (oth i) := slot_congr (k0_off12_eq i) _ _
@[sl_canon] theorem c_13 (hh) : (cc0_scratch3.slice (Rect.unit (s := S2) (k0_off13 i) S1.size hh)).squeeze S_ squeezes_S1_S_ = xc (oth i) := xc_congr (k0_off13_eq i) _
@[sl_canon] theorem c_14 (hh hs) : (aM.slice (Rect.unit (s := S2x1024x4096) (k0_off14 i) S1x1024x4096.size hh) hs).squeeze S1024x4096 squeezes_S1x1024x4096_S1024x4096 = slot (oth i) := slot_congr (k0_off14_eq i) _ _
@[sl_canon] theorem c_15 (h : (i 0).val < 7) (hh hs) : xM.slice (Rect.unit (s := S8192x4096) (k0_off15 i) S1024x4096.size hh) hs = xT (nxt i) := xT_congr (off15_eq i h) _ _
@[sl_canon] theorem c_16 (hh hs) : (aM.slice (Rect.unit (s := S2x1024x4096) (k0_off16 i) S1x1024x4096.size hh) hs).squeeze S1024x4096 squeezes_S1x1024x4096_S1024x4096 = slot (cur i) := slot_congr (k0_off16_eq i) _ _
@[sl_canon] theorem c_17 (hh hs) : (aM.slice (Rect.unit (s := S2x1024x4096) (k0_off17 i) S1x1024x4096.size hh) hs).squeeze S1024x4096 squeezes_S1x1024x4096_S1024x4096 = slot (cur i) := slot_congr (k0_off17_eq i) _ _
@[sl_canon] theorem c_20 (hh hs) : (aM.slice (Rect.unit (s := S2x1024x4096) (k0_off20 i) S1x1024x4096.size hh) hs).squeeze S1024x4096 squeezes_S1x1024x4096_S1024x4096 = slot (cur i) := slot_congr (k0_off20_eq i) _ _
@[sl_canon] theorem c_24 (hh hs) : (aM.slice (Rect.unit (s := S2x1024x4096) (k0_off24 i) S1x1024x4096.size hh) hs).squeeze S1024x4096 squeezes_S1x1024x4096_S1024x4096 = slot (cur i) := slot_congr (k0_off24_eq i) _ _
@[sl_canon] theorem c_23_0 (hh hs) : nM.slice (Rect.unit (s := S8192x4096) (k0_off23 i 0#32) S512x4096.size hh) hs = nT (row i) 0 := nT_congr (off23_eq i 0) _ _
@[sl_canon] theorem c_23_1 (hh hs) : nM.slice (Rect.unit (s := S8192x4096) (k0_off23 i 512#32) S512x4096.size hh) hs = nT (row i) 1 := nT_congr (off23_eq i 1) _ _
@[sl_canon] theorem c_27 (hh) : (cc0_scratch4.slice (Rect.unit (s := S2) (k0_off27 i) S1.size hh)).squeeze S_ squeezes_S1_S_ = yc (cur i) := yc_congr (k0_off27_eq i) _
@[sl_canon] theorem c_28 (hh hs) : yM.slice (Rect.unit (s := S8192x4096) (k0_off28 i) S1024x4096.size hh) hs = yT (row i) := yT_congr (k0_off28_eq i) _ _
@[sl_canon] theorem c_29 (hh hs) : (aM.slice (Rect.unit (s := S2x1024x4096) (k0_off29 i) S1x1024x4096.size hh) hs).squeeze S1024x4096 squeezes_S1x1024x4096_S1024x4096 = slot (cur i) := slot_congr (k0_off29_eq i) _ _
@[sl_canon] theorem c_30 (hh) : (cc0_scratch4.slice (Rect.unit (s := S2) (k0_off30 i) S1.size hh)).squeeze S_ squeezes_S1_S_ = yc (cur i) := yc_congr (k0_off30_eq i) _
@[sl_canon] theorem c_31 (hh hs) : yM.slice (Rect.unit (s := S8192x4096) (k0_off31 i) S1024x4096.size hh) hs = yT (row i) := yT_congr (k0_off31_eq i) _ _
@[sl_canon] theorem c_32 (hh hs) : (aM.slice (Rect.unit (s := S2x1024x4096) (k0_off32 i) S1x1024x4096.size hh) hs).squeeze S1024x4096 squeezes_S1x1024x4096_S1024x4096 = slot (cur i) := slot_congr (k0_off32_eq i) _ _
@[sl_canon] theorem c_33_0 (hh hs) : nM.slice (Rect.unit (s := S8192x4096) (k0_off33 i 0#32) S512x4096.size hh) hs = nT (row i) 0 := nT_congr (off33_eq i 0) _ _
@[sl_canon] theorem c_33_1 (hh hs) : nM.slice (Rect.unit (s := S8192x4096) (k0_off33 i 512#32) S512x4096.size hh) hs = nT (row i) 1 := nT_congr (off33_eq i 1) _ _

end Canon

/-! ## The pieces held on them -/

section Pieces
variable (c : Dev nD) (X : Buf (Elt F) (xM.view.loc (c : Thread nD τ)))

abbrev xcP (s : Fin 2) : sProp 𝕄 := semVal ((c : Thread nD τ), SemLoc.dma (xc s).sem) 0
abbrev ycP (s : Fin 2) : sProp 𝕄 := semVal ((c : Thread nD τ), SemLoc.dma (yc s).sem) 0
/-- Slot `s` held at contents `f`. -/
abbrev slotP (s : Fin 2) (f : Buf (Elt F) ((slot s).view.loc (c : Thread nD τ))) : sProp 𝕄 :=
  (slot s).view.loc (c : Thread nD τ) ↦[(slot s).view.set]{fullShare} f
/-- Row block `b` of the input held, at the input's contents. -/
abbrev xP (b : Fin 8) : sProp 𝕄 := (xT b).view.loc (c : Thread nD τ) ↦[(xT b).view.set]{fullShare} X
/-- Row block `b` of the output held at contents `f`. -/
abbrev yP (b : Fin 8) (f : Buf (Elt F) ((yT b).view.loc (c : Thread nD τ))) : sProp 𝕄 :=
  (yT b).view.loc (c : Thread nD τ) ↦[(yT b).view.set]{fullShare} f
/-- The rows of block `b` of the input. -/
abbrev xRows (b : Fin 8) : S1024x4096.Idx → Elt F .f32 := (xT b).view.read (Elt F) X
/-- What an arrival of block `b` leaves in slot `s` over contents `f`. -/
abbrev landed (s : Fin 2) (b : Fin 8) (f : Buf (Elt F) ((slot s).view.loc (c : Thread nD τ))) : Buf (Elt F) ((slot s).view.loc (c : Thread nD τ)) :=
  (slot s).view.writes (Elt F) f [⟨Rect.whole S1024x4096, ReadAs.same.apply (xRows c X b)⟩]
/-- What a departure from slot `s` at contents `f` leaves in block `b` of the output over contents `g`. -/
abbrev left (s : Fin 2) (b : Fin 8) (f : Buf (Elt F) ((slot s).view.loc (c : Thread nD τ))) (g : Buf (Elt F) ((yT b).view.loc (c : Thread nD τ))) : Buf (Elt F) ((yT b).view.loc (c : Thread nD τ)) :=
  (yT b).view.writes (Elt F) g [⟨Rect.whole S1024x4096, ReadAs.same.apply ((slot s).view.read (Elt F) f)⟩]
/-- Block `b` of the input on its way into slot `s`. -/
def xFly (s : Fin 2) (b : Fin 8) : sProp 𝕄 :=
  iprop(∃ f, Transfers.Flight countersEmb (c : Thread nD τ) (SemLoc.dma (xc s).sem) () 524288 iprop(slotP c s (landed c X s b f) ∗ xP c X b))
/-- The values `v` on their way from slot `s` into block `b` of the output. -/
def yFly (s : Fin 2) (b : Fin 8) (v : S1024x4096.Idx → Elt F .f32) : sProp 𝕄 :=
  iprop(∃ f g, ⌜(slot s).view.read (Elt F) f = v⌝ ∗ Transfers.Flight countersEmb (c : Thread nD τ) (SemLoc.dma (yc s).sem) () 524288 iprop(yP c b (left c s b f g) ∗ slotP c s f))

abbrev ncP (r : Fin 2) : sProp 𝕄 := semVal ((c : Thread nD τ), SemLoc.dma (nc r).sem) 0
/-- Half `r` of the scratch of normalised rows held at contents `f`. -/
abbrev hHP (r : Fin 2) (f : Buf (Elt F) ((hH r).view.loc (c : Thread nD τ))) : sProp 𝕄 :=
  (hH r).view.loc (c : Thread nD τ) ↦[(hH r).view.set]{fullShare} f
/-- Half `r` of row block `b` of the normalised output held at contents `f`. -/
abbrev nP (b : Fin 8) (r : Fin 2) (f : Buf (Elt F) ((nT b r).view.loc (c : Thread nD τ))) : sProp 𝕄 :=
  (nT b r).view.loc (c : Thread nD τ) ↦[(nT b r).view.set]{fullShare} f
/-- What a departure of half `r` leaves in half `r` of block `b` of the normalised output. -/
abbrev nLeft (b : Fin 8) (r : Fin 2) (f : Buf (Elt F) ((hH r).view.loc (c : Thread nD τ))) (g : Buf (Elt F) ((nT b r).view.loc (c : Thread nD τ))) : Buf (Elt F) ((nT b r).view.loc (c : Thread nD τ)) :=
  (nT b r).view.writes (Elt F) g [⟨Rect.whole S512x4096, ReadAs.same.apply ((hH r).view.read (Elt F) f)⟩]
/-- The values `v` on their way from half `r` into half `r` of block `b` of the normalised output. -/
def nFly (b : Fin 8) (r : Fin 2) (v : S512x4096.Idx → Elt F .bf16) : sProp 𝕄 :=
  iprop(∃ f g, ⌜(hH r).view.read (Elt F) f = v⌝ ∗ Transfers.Flight countersEmb (c : Thread nD τ) (SemLoc.dma (nc r).sem) () 131072 iprop(nP c b r (nLeft c b r f g) ∗ hHP c r f))

end Pieces

end Cert.Kernel3Ideal.Ffn1
end
-- ==== Proof.Ffn1Norm.lean ====
/- The first stage of the first feed-forward kernel: a row block arrives and its normalised rows are stored. -/
module

public import proofs.«01_k».proof.Proof.Ffn1Base
public import Idealize.ShloMosaic.Lib.Ring

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## A row block in bands of sixteen rows -/

abbrev bandOff (k : ℕ) : Fin 2 → Nat := ![16 * k, 0]
theorem bandOff_inb (k : Fin 64) : ∀ a, bandOff k.val a + S16x4096.size a ≤ S1024x4096.size a := by
  have := k.isLt; intro a; fin_cases a
  · show 16 * k.val + 16 ≤ 1024; omega
  · show 0 + 4096 ≤ 4096; omega
/-- Band `k` of a row block. -/
def band {α : Type} (X : S1024x4096.Idx → α) (k : Fin 64) : S16x4096.Idx → α :=
  VecWindow.window X (bandOff k.val) S16x4096.size (bandOff_inb k)
/-- The band of a place of a row block, and its place in the band. -/
def bandOf (y : S1024x4096.Idx) : Fin 64 := ⟨(y 0).val / 16, by have : (y 0).val < 1024 := (y 0).isLt; omega⟩
def bandLoc (y : S1024x4096.Idx) : S16x4096.Idx := fun a => match a with
  | ⟨0, _⟩ => ⟨(y 0).val % 16, Nat.mod_lt _ (by decide)⟩
  | ⟨1, _⟩ => ⟨(y 1).val, (y 1).isLt⟩

theorem trips1 : k0_t1_loop.trips = 64 := by decide
theorem trips2 : k0_t2_loop.trips = 64 := by decide
theorem trips3 : k0_t3_loop.trips = 32 := by decide
theorem trips4 : k0_t4_loop.trips = 32 := by decide

/-- A place of band `k` is where the band's rectangle says. -/
theorem unitLocal_band (y : S1024x4096.Idx) (k : ℕ) (hk : (y 0).val / 16 = k) (h) :
    Rect.unitLocal (s := S1024x4096) (off := bandOff k) (size := S16x4096.size) y h = bandLoc y := by
  funext a; apply Fin.ext; fin_cases a
  · show (y 0).val - 16 * k = (y 0).val % 16; omega
  · show (y 1).val - 0 = (y 1).val; omega

/-- The normalised rows of a block `X` under the gain `g`, band by band. -/
def hval (g : Vec F S1x4096 .f32) (X : S1024x4096.Idx → Elt F .f32) : S1024x4096.Idx → Elt F .bf16 :=
  fun y => k0_pay5 g (band X (bandOf y)) (bandLoc y)

/-! ## The scratch of normalised rows in two halves -/

abbrev H2s (r : Fin 2) : Finset S1024x4096.Idx := (Rect.unit (s := S1024x4096) (partOff r) S512x4096.size (partOff_inb r)).set
omit [FloatOps F] in
theorem hH_set (r : Fin 2) : (hH r).view.set = H2s r := View.set_slice_whole _ _
theorem mem_H2s (r : Fin 2) (y : S1024x4096.Idx) : y ∈ H2s r ↔ (y 0).val / 512 = r.val := by
  rw [Rect.mem_set_unit]
  have h1 : (y 1).val < 4096 := (y 1).isLt
  constructor
  · intro H; have a0 : 512 * r.val ≤ (y 0).val ∧ (y 0).val < 512 * r.val + 512 := H 0; omega
  · intro H i; fin_cases i
    · show 512 * r.val ≤ (y 0).val ∧ (y 0).val < 512 * r.val + 512; omega
    · show 0 ≤ (y 1).val ∧ (y 1).val < 0 + 4096; omega
theorem H2s_disjoint : ∀ s s' : Fin 2, s ≠ s' → Disjoint (H2s s) (H2s s') := by
  intro s s' hne; rw [Finset.disjoint_left]; intro y hy hy'; rw [mem_H2s] at hy hy'; exact hne (Fin.ext (hy.symm.trans hy'))
theorem H2s_cover : (Finset.univ : Finset (Fin 2)).biUnion H2s = Finset.univ := by
  ext y; simp only [Finset.mem_biUnion, Finset.mem_univ, true_and, iff_true]
  exact ⟨⟨(y 0).val / 512, by have : (y 0).val < 1024 := (y 0).isLt; omega⟩, by rw [mem_H2s]⟩

omit [FloatOps F] in
theorem of_eq {P Q : sProp 𝕄} (e : P = Q) : P ⊢ Q := by rw [e]
omit [FloatOps F] in
theorem sep2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem hHP_eq (c : Dev nD) (r : Fin 2) (f) : hHP c r f = (((c : Thread nD τ).loc cc0_scratch1) ↦[H2s r]{fullShare} f : sProp 𝕄) :=
  congrArg (fun S => (_ ↦[S]{fullShare} f : sProp 𝕄)) (hH_set r)
omit [FloatOps F] in
theorem h_eq (c : Dev nD) (f : Buf (Elt F) ((c : Thread nD τ).loc cc0_scratch1)) : (((c : Thread nD τ).loc cc0_scratch1) ↦{fullShare} f : sProp 𝕄) = hM.view.loc (c : Thread nD τ) ↦[hM.view.set]{fullShare} f := by
  rw [show hM.view.set = Finset.univ from View.set_whole _]
omit [FloatOps F] in
theorem h_split (c : Dev nD) (f : Buf (Elt F) (hM.view.loc (c : Thread nD τ))) :
    (hM.view.loc (c : Thread nD τ) ↦[hM.view.set]{fullShare} f : sProp 𝕄) ⊢ (iprop(hHP c 0 f ∗ hHP c 1 f) : sProp 𝕄) := by
  iintro H
  ihave H1 := (of_eq (h_eq c f).symm) $$ H
  ihave H2 := (of_eq ((Ring.pointsTo_blocks (Ix := Unit) (Name := ℕ) (U := UU nD τ) (Lvl := ℕ) (q := fullShare) (ℓ := (c : Thread nD τ).loc cc0_scratch1) H2s H2s_disjoint H2s_cover f).trans (sep2 _))) $$ H1
  icases H2 with ⟨H0, H1⟩
  isplitl [H0]
  · iapply (of_eq (hHP_eq c 0 f).symm); iexact H0
  · iapply (of_eq (hHP_eq c 1 f).symm); iexact H1
theorem h_join (c : Dev nD) (f0 f1) :
    iprop(hHP c 0 f0 ∗ hHP c 1 f1) ⊢ (iprop(∃ f, hM.view.loc (c : Thread nD τ) ↦[hM.view.set]{fullShare} f) : sProp 𝕄) := by
  have hj : iprop(hHP c 0 f0 ∗ hHP c 1 f1) ⊢ (iprop(∃ f : Buf (Elt F) ((c : Thread nD τ).loc cc0_scratch1), ((c : Thread nD τ).loc cc0_scratch1) ↦{fullShare} f) : sProp 𝕄) := by
    iintro ⟨H0, H1⟩
    iapply (Ring.pointsTo_blocks_join_exists (ℓ := (c : Thread nD τ).loc cc0_scratch1) H2s H2s_disjoint H2s_cover f0)
    irw [sep2]
    isplitl [H0]
    · iexists f0; iapply (of_eq (hHP_eq c 0 f0)); iexact H0
    · iexists f1; iapply (of_eq (hHP_eq c 1 f1)); iexact H1
  iintro H
  ihave H' := hj $$ H
  icases H' with ⟨%f, H⟩
  iexists f; iapply (of_eq (h_eq c f)); iexact H

section StageA
variable (c : Dev nD) (X : Buf (Elt F) (xM.view.loc (c : Thread nD τ))) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole)

/-- The scratch of normalised rows held at contents `f`. -/
abbrev hP (f : Buf (Elt F) (hM.view.loc (c : Thread nD τ))) : sProp 𝕄 := hM.view.loc (c : Thread nD τ) ↦[hM.view.set]{fullShare} f

/-- The bands below `k` are stored. -/
abbrev upto (g : Vec F S1x4096 .f32) (x : S1024x4096.Idx → Elt F .f32) (k : ℕ) (f : Buf (Elt F) (hM.view.loc (c : Thread nD τ))) : Prop :=
  ∀ y : S1024x4096.Idx, (y 0).val < 16 * k → hM.view.read (Elt F) f y = hval g x y

/-- Before trip `k` of the normalisation: the slot as it was, the first `k` bands stored. -/
def inv1 (s : Fin 2) (fs : Buf (Elt F) ((slot s).view.loc (c : Thread nD τ))) (g : Vec F S1x4096 .f32) (k : ℕ) (_ : Unit) : sProp 𝕄 :=
  iprop(slotP c s fs ∗ ∃ fh, ⌜upto c g ((slot s).view.read (Elt F) fs) k fh⌝ ∗ hP c fh)

/-- One more band is stored. -/
theorem upto_succ (g : Vec F S1x4096 .f32) (s : Fin 2) (fs : Buf (Elt F) ((slot s).view.loc (c : Thread nD τ))) (k : Fin k0_t1_loop.trips) (fh) (hh hh')
    (H : upto c g ((slot s).view.read (Elt F) fs) k.val fh) :
    upto c g ((slot s).view.read (Elt F) fs) (k.val + 1)
      (hM.view.writes (Elt F) fh [⟨Rect.unit (s := S1024x4096) (k0_off9 k) S16x4096.size hh,
        k0_pay5 g ((slot s).view.readAt (Elt F) (Rect.unit (s := S1024x4096) (k0_off9 k) S16x4096.size hh').toLoadRect fs)⟩]) := by
  have hk : k.val < 64 := Nat.lt_of_lt_of_eq k.isLt trips1
  intro y hy
  refine (View.read_writes_cons_rows (v := hM.view) fh hh _ [] y (W := 16) (k0_off9_eq k) rfl rfl).trans ?_
  by_cases hin : 16 * k.val ≤ (y 0).val ∧ (y 0).val < 16 * k.val + 16
  · rw [dif_pos hin]
    have hb : (y 0).val / 16 = k.val := by omega
    rw [View.readAt_unit _ _ _ (k0_off9_eq k) (bandOff_inb ⟨k.val, hk⟩)]
    have e : bandOf y = ⟨k.val, hk⟩ := Fin.ext hb
    unfold hval band; rw [e]
    exact congrArg _ (unitLocal_band y k.val hb _)
  · rw [dif_neg hin]
    exact H y (by omega)

set_option maxHeartbeats 400000 in
theorem step1 (s : Fin 2) (hs : cur i = s) (fs : Buf (Elt F) ((slot s).view.loc (c : Thread nD τ))) (g : Vec F S1x4096 .f32) (h1 : k0_cond1 i = 1#1) (E : Set ℕ) (k : Fin k0_t1_loop.trips) (u : Unit) :
    inv1 c s fs g k.val u ⊢ wp frame (wpE (defs₀ (F := F)) Variants.none (c : Thread nD τ) none) E (k0_t1_body i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 h1 g k u) (inv1 c s fs g (k.val + 1)) := by
  have hcanon1 : cur i = s := hs
  unfold inv1
  iintro ⟨HS, ⟨%fh, %hfh, HH⟩⟩
  sl_unfold [k0_t1_body]
  sl_exec
  sl_step
  isplitl [HS]; · iexact HS
  iexists _; isplitr; swap; · iexact HH
  ipureintro; exact upto_succ c g s fs k fh _ _ hfh

/-- What the first stage hands back at the first step of a block. -/
abbrev doneA (s : Fin 2) (b : Fin 8) (g : Vec F S1x4096 .f32) : sProp 𝕄 :=
  iprop(owns (c : Thread nD τ) arg3 fullShare g ∗ xP c X b ∗ owns (c : Thread nD τ) (slot s) fullShare (xRows c X b) ∗ xcP c s
    ∗ owns (c : Thread nD τ) hM fullShare (hval g (xRows c X b)) ∗ ∃ W, owes (c : Thread nD τ) 0 W)

set_option maxHeartbeats 400000 in
/-- The first stage at the first step of a later block: the block is on its way in, the normalised rows of the block before on their way out; the rows of the block before are sent. -/
theorem stageA_later (g : Vec F S1x4096 .f32) (A : S1024x4096.Idx → Elt F .f32) (n0 n1 : S512x4096.Idx → Elt F .bf16) (h1 : (i 1).val = 0) (h2 : 0 < (i 0).val) (W : Waits sig Unit) (K : PUnit → sProp 𝕄) :
    iprop((owns (c : Thread nD τ) arg3 fullShare g ∗ xFly c X (cur i) (row i) ∗ nFly c (prv i) 0 n0 ∗ nFly c (prv i) 1 n1 ∗ owns (c : Thread nD τ) (slot (oth i)) fullShare A ∗ ycP c (oth i) ∗ (∃ f, yP c (prv i) f) ∗ owes (c : Thread nD τ) 0 W)
        ∗ (iprop(doneA c X arg3 (cur i) (row i) g ∗ (yFly c (oth i) (prv i) A ∗ owns (c : Thread nD τ) (nT (prv i) 0) fullShare n0 ∗ owns (c : Thread nD τ) (nT (prv i) 1) fullShare n1 ∗ ncP c 0 ∗ ncP c 1)) -∗ K ⟨⟩))
      ⊢ wp frame (wpE (defs₀ (F := F)) Variants.none (c : Thread nD τ) none) Set.univ (stageA i arg3 harg3 arg4 harg4 arg5 harg5 arg6 harg6 arg7 harg7) K := by
  have hc1 : k0_cond1 i = 1#1 := (cond1_iff i).2 h1
  have hc2 : ¬ k0_cond2 i = 1#1 := fun h => by have := (cond2_iff i).1 h; omega
  have hc3 : k0_cond3 i = 1#1 := (cond3_iff i).2 h2
  unfold doneA owns xFly yFly nFly
  iintro ⟨⟨⟨%g3, %hg3, H3⟩, ⟨%f, HF⟩, ⟨%f0, %e0, %hf0, HN0⟩, ⟨%f1, %e1, %hf1, HN1⟩, ⟨%fo, %hfo, HO⟩, HY, ⟨%fy, HYP⟩, HW⟩, Hk⟩
  obtain rfl := harg3.eq_unread hg3
  unfold stageA
  sl_exec (disch := first | sl_exact hc2 | sl_exact hc1 | sl_exact hc3 | sl_exact h2)
  ihave HH := (h_join c f0 f1) $$ [HN0_src HN1_src]
  · isplitl [HN0_src]; · iexact HN0_src
    iexact HN1_src
  icases HH with ⟨%fh, HH⟩
  have hg : arg3.view.readAt (Elt F) (Rect.unit (s := S1x4096) ![0, 0] S1x4096.size inb_S1x4096_S1x4096_0_0).toLoadRect (harg3.unread g) = g := by rw [View.readAt_full, hg3]
  sl_rw [hg]
  sl_for (inv1 c (cur i) (landed c X (cur i) (row i) (slot (cur i)).view.junk) g) $$ [HF_dst HH]
  · intro k u; exact step1 c i arg3 harg3 arg4 harg4 arg5 harg5 arg6 harg6 arg7 harg7 (cur i) rfl _ g hc1 Set.univ k u
  · unfold inv1
    isplitl [HF_dst]; · iexact HF_dst
    iexists _; isplitr; swap; · iexact HH
    ipureintro; intro y hy; omega
  iintro %u HI
  unfold inv1
  icases HI with ⟨HS, ⟨%fh', %hfh, HH⟩⟩
  sl_exec
  sl_step
  iapply Hk
  isplitr [HY HN0 HN1 HN0_dst HN1_dst]
  · isplitl [H3]
    · iexists harg3.unread g; iframe; ipureintro; exact hg3
    isplitl [HF_src]; · iexact HF_src
    isplitl [HS]
    · iexists _; isplitr; swap; · iexact HS
      ipureintro; exact View.read_writes_whole _ _ _
    isplitl [HF]; · iexact HF
    isplitl [HH]
    · iexists fh'; isplitr; swap; · iexact HH
      ipureintro; funext y
      have hy : (y 0).val < 1024 := (y 0).isLt
      refine (hfh y (by show (y 0).val < 16 * k0_t1_loop.trips; rw [trips1]; omega)).trans ?_
      exact congrArg (fun x => hval g x y) (View.read_writes_whole _ _ _)
    iexists _; iexact HW
  isplitl [HY]
  · iexists fo, fy; isplitr; swap; · iexact HY
    ipureintro; exact hfo
  isplitl [HN0_dst]
  · iexists _; isplitr; swap; · iexact HN0_dst
    ipureintro; exact (View.read_writes_whole _ _ _).trans hf0
  isplitl [HN1_dst]
  · iexists _; isplitr; swap; · iexact HN1_dst
    ipureintro; exact (View.read_writes_whole _ _ _).trans hf1
  isplitl [HN0]; · iexact HN0
  iexact HN1

set_option maxHeartbeats 400000 in
/-- The first stage at the first step of the first block: the block is sent for and awaited. -/
theorem stageA_first (g : Vec F S1x4096 .f32) (h1 : (i 1).val = 0) (h2 : (i 0).val = 0) (W : Waits sig Unit) (K : PUnit → sProp 𝕄) :
    iprop((owns (c : Thread nD τ) arg3 fullShare g ∗ xP c X 0 ∗ (∃ f, slotP c 0 f) ∗ xcP c 0 ∗ (∃ fh, hP c fh) ∗ owes (c : Thread nD τ) 0 W)
        ∗ (doneA c X arg3 0 0 g -∗ K ⟨⟩))
      ⊢ wp frame (wpE (defs₀ (F := F)) Variants.none (c : Thread nD τ) none) Set.univ (stageA i arg3 harg3 arg4 harg4 arg5 harg5 arg6 harg6 arg7 harg7) K := by
  have hc1 : k0_cond1 i = 1#1 := (cond1_iff i).2 h1
  have hc2 : k0_cond2 i = 1#1 := (cond2_iff i).2 h2
  have hc3 : ¬ k0_cond3 i = 1#1 := fun h => by have := (cond3_iff i).1 h; omega
  have hcanon1 : cur i = 0 := Fin.ext (by show (i 0).val % 2 = 0; omega)
  have hcanon2 : row i = 0 := Fin.ext (by show (i 0).val = 0; omega)
  unfold doneA owns
  iintro ⟨⟨⟨%g3, %hg3, H3⟩, HX, ⟨%f, HS⟩, HF, ⟨%fh, HH⟩, HW⟩, Hk⟩
  obtain rfl := harg3.eq_unread hg3
  unfold stageA
  sl_exec (disch := first | sl_exact hc3 | sl_exact hc2 | sl_exact hc1)
  have hg : arg3.view.readAt (Elt F) (Rect.unit (s := S1x4096) ![0, 0] S1x4096.size inb_S1x4096_S1x4096_0_0).toLoadRect (harg3.unread g) = g := by rw [View.readAt_full, hg3]
  sl_rw [hg]
  sl_for (inv1 c 0 (landed c X 0 0 (slot 0).view.junk) g) $$ [HS HH]
  · intro k u; exact step1 c i arg3 harg3 arg4 harg4 arg5 harg5 arg6 harg6 arg7 harg7 0 hcanon1 _ g hc1 Set.univ k u
  · unfold inv1
    isplitl [HS]; · iexact HS
    iexists _; isplitr; swap; · iexact HH
    ipureintro; intro y hy; omega
  iintro %u HI
  unfold inv1
  icases HI with ⟨HS, ⟨%fh', %hfh, HH⟩⟩
  sl_exec
  sl_step
  iapply Hk
  isplitl [H3]
  · iexists harg3.unread g; iframe; ipureintro; exact hg3
  isplitl [HX]; · iexact HX
  isplitl [HS]
  · iexists _; isplitr; swap; · iexact HS
    ipureintro; exact View.read_writes_whole _ _ _
  isplitl [HF]; · iexact HF
  isplitl [HH]
  · iexists fh'; isplitr; swap; · iexact HH
    ipureintro; funext y
    have hy : (y 0).val < 1024 := (y 0).isLt
    refine (hfh y (by show (y 0).val < 16 * k0_t1_loop.trips; rw [trips1]; omega)).trans ?_
    exact congrArg (fun x => hval g x y) (View.read_writes_whole _ _ _)
  iexists _; iexact HW

/-- The first stage at a later step does nothing. -/
theorem stageA_skip (h1 : (i 1).val ≠ 0) (E : Set ℕ) (K : PUnit → sProp 𝕄) :
    K ⟨⟩ ⊢ wp frame (wpE (defs₀ (F := F)) Variants.none (c : Thread nD τ) none) E (stageA i arg3 harg3 arg4 harg4 arg5 harg5 arg6 harg6 arg7 harg7) K := by
  have hc1 : ¬ k0_cond1 i = 1#1 := fun h => h1 ((cond1_iff i).1 h)
  unfold stageA
  rw [dif_neg hc1]
  exact le_wp_ret _ _ _ _ _

end StageA

end Cert.Kernel3Ideal.Ffn1
end
-- ==== Proof.Ffn1Swap.lean ====
/- The second stage of the first feed-forward kernel: the finished block has left its slot, and the next block is sent for. -/
module

public import proofs.«01_k».proof.Proof.Ffn1Base

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section StageB
variable (c : Dev nD) (X : Buf (Elt F) (xM.view.loc (c : Thread nD τ))) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole)

set_option maxHeartbeats 400000 in
/-- At the first block nothing has to leave: the next block is sent for. -/
theorem stageB_first (h1 : (i 1).val = 1) (h2 : (i 0).val = 0) (E : Set ℕ) (K : PUnit → sProp 𝕄) :
    iprop((xP c X (nxt i) ∗ (∃ f, slotP c (oth i) f) ∗ xcP c (oth i)) ∗ (xFly c X (oth i) (nxt i) -∗ K ⟨⟩))
      ⊢ wp frame (wpE (defs₀ (F := F)) Variants.none (c : Thread nD τ) none) Set.univ (stageB i arg3 harg3 arg4 harg4 arg5 harg5 arg6 harg6 arg7 harg7) K := by
  have hc3 : k0_cond4 i = 1#1 := (cond4_iff i).2 h1
  have hc4 : ¬ k0_cond5 i = 1#1 := fun h => by have := (cond5_iff i).1 h; omega
  have h7 : (i 0).val < 7 := by omega
  have hc5 : k0_cond6 i = 1#1 := (cond6_iff i).2 h7
  unfold xFly
  iintro ⟨⟨HX, ⟨%f, HS⟩, HC⟩, Hk⟩
  unfold stageB
  sl_exec (disch := first | sl_exact hc4 | sl_exact hc3 | sl_exact hc5 | sl_exact h7)
  sl_step
  iapply Hk
  iexists f; iexact HC

set_option maxHeartbeats 400000 in
/-- At a middle block the block before has left, and the next is sent for. -/
theorem stageB_mid (v : S1024x4096.Idx → Elt F .f32) (h1 : (i 1).val = 1) (h2 : 0 < (i 0).val) (h7 : (i 0).val < 7) (W : Waits sig Unit) (K : PUnit → sProp 𝕄) :
    iprop((xP c X (nxt i) ∗ yFly c (oth i) (prv i) v ∗ xcP c (oth i) ∗ owes (c : Thread nD τ) 0 W)
        ∗ (iprop(xFly c X (oth i) (nxt i) ∗ owns (c : Thread nD τ) (yT (prv i)) fullShare v ∗ ycP c (oth i) ∗ ∃ W, owes (c : Thread nD τ) 0 W) -∗ K ⟨⟩))
      ⊢ wp frame (wpE (defs₀ (F := F)) Variants.none (c : Thread nD τ) none) Set.univ (stageB i arg3 harg3 arg4 harg4 arg5 harg5 arg6 harg6 arg7 harg7) K := by
  have hc3 : k0_cond4 i = 1#1 := (cond4_iff i).2 h1
  have hc4 : k0_cond5 i = 1#1 := (cond5_iff i).2 h2
  have hc5 : k0_cond6 i = 1#1 := (cond6_iff i).2 h7
  unfold xFly yFly owns
  iintro ⟨⟨HX, ⟨%f, %gy, %hf, HY⟩, HC, HW⟩, Hk⟩
  unfold stageB
  sl_exec (disch := first | sl_exact hc3 | sl_exact hc4 | sl_exact hc5 | sl_exact h2 | sl_exact h7)
  sl_step
  iapply Hk
  isplitl [HC]; · iexists f; iexact HC
  isplitl [HY_dst]
  · iexists _; isplitr; swap; · iexact HY_dst
    ipureintro; exact (View.read_writes_whole _ _ _).trans hf
  isplitl [HY]; · iexact HY
  iexists _; iexact HW

set_option maxHeartbeats 400000 in
/-- At the last block the block before has left; there is no next. -/
theorem stageB_last (v : S1024x4096.Idx → Elt F .f32) (h1 : (i 1).val = 1) (h2 : (i 0).val = 7) (W : Waits sig Unit) (K : PUnit → sProp 𝕄) :
    iprop((yFly c (oth i) (prv i) v ∗ owes (c : Thread nD τ) 0 W)
        ∗ (iprop((∃ f, slotP c (oth i) f) ∗ owns (c : Thread nD τ) (yT (prv i)) fullShare v ∗ ycP c (oth i) ∗ ∃ W, owes (c : Thread nD τ) 0 W) -∗ K ⟨⟩))
      ⊢ wp frame (wpE (defs₀ (F := F)) Variants.none (c : Thread nD τ) none) Set.univ (stageB i arg3 harg3 arg4 harg4 arg5 harg5 arg6 harg6 arg7 harg7) K := by
  have hc3 : k0_cond4 i = 1#1 := (cond4_iff i).2 h1
  have h0 : 0 < (i 0).val := by omega
  have hc4 : k0_cond5 i = 1#1 := (cond5_iff i).2 h0
  have hc5 : ¬ k0_cond6 i = 1#1 := fun h => by have := (cond6_iff i).1 h; omega
  unfold yFly owns
  iintro ⟨⟨⟨%f, %gy, %hf, HY⟩, HW⟩, Hk⟩
  unfold stageB
  sl_exec (disch := first | sl_exact hc5 | sl_exact hc3 | sl_exact hc4 | sl_exact h0)
  sl_step
  iapply Hk
  isplitl [HY_src]; · iexists f; iexact HY_src
  isplitl [HY_dst]
  · iexists _; isplitr; swap; · iexact HY_dst
    ipureintro; exact (View.read_writes_whole _ _ _).trans hf
  isplitl [HY]; · iexact HY
  iexists _; iexact HW

/-- The second stage at another step does nothing. -/
theorem stageB_skip (h1 : (i 1).val ≠ 1) (E : Set ℕ) (K : PUnit → sProp 𝕄) :
    K ⟨⟩ ⊢ wp frame (wpE (defs₀ (F := F)) Variants.none (c : Thread nD τ) none) E (stageB i arg3 harg3 arg4 harg4 arg5 harg5 arg6 harg6 arg7 harg7) K := by
  have hc1 : ¬ k0_cond4 i = 1#1 := fun h => h1 ((cond4_iff i).1 h)
  unfold stageB
  rw [dif_neg hc1]
  exact le_wp_ret _ _ _ _ _

end StageB

end Cert.Kernel3Ideal.Ffn1
end
-- ==== Proof.Ffn1Acc.lean ====
/- The third stage of the first feed-forward kernel: one step of the product over the hidden features is added to the rows. -/
module

public import proofs.«01_k».proof.Proof.Ffn1Base

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Column slices of 512 -/

abbrev colOff (j : ℕ) : Fin 2 → Nat := ![0, 512 * j]
theorem colOff_inb {n : ℕ} (j : Fin 8) : ∀ a, colOff j.val a + (⟨2, ![n, 512]⟩ : Shape).size a ≤ (⟨2, ![n, 4096]⟩ : Shape).size a := by
  have := j.isLt; intro a; fin_cases a
  · show 0 + n ≤ n; omega
  · show 512 * j.val + 512 ≤ 4096; omega
/-- Column slice `j` of a matrix of 4096 columns. -/
def colSlice {α : Type} {n : ℕ} (X : (⟨2, ![n, 4096]⟩ : Shape).Idx → α) (j : Fin 8) : (⟨2, ![n, 512]⟩ : Shape).Idx → α :=
  VecWindow.window X (colOff j.val) (⟨2, ![n, 512]⟩ : Shape).size (colOff_inb j)
/-- The column slice of a place, and its place in the slice. -/
def colOf (y : S1024x4096.Idx) : Fin 8 := ⟨(y 1).val / 512, by have : (y 1).val < 4096 := (y 1).isLt; omega⟩
def colLoc (y : S1024x4096.Idx) : S1024x512.Idx := fun a => match a with
  | ⟨0, _⟩ => ⟨(y 0).val, (y 0).isLt⟩
  | ⟨1, _⟩ => ⟨(y 1).val % 512, Nat.mod_lt _ (by decide)⟩

/-- The rows `A` after one step: the activation's product with the step's block of the down projection added, slice by slice. -/
def stepv (act : FVec F S1024x256 .bf16) (wd : Vec F S256x4096 .f32) (A : S1024x4096.Idx → Elt F .f32) : S1024x4096.Idx → Elt F .f32 :=
  fun y => k0_pay9 act (colSlice (n := 1024) A (colOf y)) (colSlice (n := 256) wd (colOf y)) (colLoc y)

theorem colSlice_read {sp : Space} (v : View sig .tc sp S1024x4096 .f32) (f : v.ty.Contents (Elt F)) (A : S1024x4096.Idx → Elt F .f32) (hA : v.read (Elt F) f = A)
    (j : Fin 8) {off : Fin 2 → Nat} (inb : ∀ a, off a + S1024x512.size a ≤ S1024x4096.size a) (h : off = colOff j.val) :
    v.readAt (Elt F) (Rect.unit (s := S1024x4096) off S1024x512.size inb).toLoadRect f = colSlice (n := 1024) A j := by
  subst hA; exact View.readAt_unit v f inb h (colOff_inb j)
theorem colSlice_readW {sp : Space} (v : View sig .tc sp S256x4096 .f32) (f : v.ty.Contents (Elt F)) (wd : Vec F S256x4096 .f32) (hA : v.read (Elt F) f = wd)
    (j : Fin 8) {off : Fin 2 → Nat} (inb : ∀ a, off a + S256x512.size a ≤ S256x4096.size a) (h : off = colOff j.val) :
    v.readAt (Elt F) (Rect.unit (s := S256x4096) off S256x512.size inb).toLoadRect f = colSlice (n := 256) wd j := by
  subst hA; exact View.readAt_unit v f inb h (colOff_inb j)

theorem pay6_congr {h h' : Vec F S1024x4096 .bf16} {a a' : Vec F S4096x256 .bf16} {b b' : Vec F S4096x256 .f32} (e1 : h = h') (e2 : a = a') (e3 : b = b') : k0_pay6 h a b = k0_pay6 h' a' b' := by
  rw [e1, e2, e3]
theorem pay9_congr {a a' : FVec F S1024x256 .bf16} {b b' : Vec F S1024x512 .f32} {w w' : Vec F S256x512 .f32} (e1 : a = a') (e2 : b = b') (e3 : w = w') : k0_pay9 a b w = k0_pay9 a' b' w' := by
  rw [e1, e2, e3]

/-- One more slice stored: the slices below it and itself hold the step's value. -/
theorem slices_succ {sp : Space} (v : View sig .tc sp S1024x4096 .f32) (f : v.ty.Contents (Elt F)) (act : FVec F S1024x256 .bf16) (wd : Vec F S256x4096 .f32) (A : S1024x4096.Idx → Elt F .f32)
    (L : List (View.Piece (Elt F) S1024x4096 .f32)) (j : Fin 8) {off : Fin 2 → Nat} (inb : ∀ a, off a + S1024x512.size a ≤ S1024x4096.size a) (h : off = colOff j.val)
    (w : S1024x512.Idx → Elt F .f32) (hw : w = k0_pay9 act (colSlice (n := 1024) A j) (colSlice (n := 256) wd j))
    (hL : ∀ y : S1024x4096.Idx, (y 1).val < 512 * j.val → v.read (Elt F) (v.writes (Elt F) f L) y = stepv act wd A y) :
    ∀ y : S1024x4096.Idx, (y 1).val < 512 * (j.val + 1) → v.read (Elt F) (v.writes (Elt F) f (⟨Rect.unit (s := S1024x4096) off S1024x512.size inb, w⟩ :: L)) y = stepv act wd A y := by
  intro y hy
  by_cases hlt : (y 1).val < 512 * j.val
  · exact (View.read_writes_cons_unit_of_not_mem v f inb w L y h 1 (Or.inl hlt)).trans (hL y hlt)
  · have hj : colOf y = j := Fin.ext (by show (y 1).val / 512 = j.val; omega)
    refine (View.read_writes_cons_unit_of_mem v f inb w L y (colLoc y) h fun a => ?_).trans ?_
    · fin_cases a
      · show (y 0).val = 0 + (y 0).val; omega
      · show (y 1).val = 512 * j.val + (y 1).val % 512; omega
    · rw [hw, ← hj]; rfl

section StageC
variable (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole)

set_option maxHeartbeats 400000 in
theorem stageC_run (H : Vec F S1024x4096 .bf16) (wg : Vec F S4096x256 .bf16) (wu : Vec F S4096x256 .f32) (wd : Vec F S256x4096 .f32) (A : S1024x4096.Idx → Elt F .f32) (E : Set ℕ) (K : PUnit → sProp 𝕄) :
    iprop((owns (c : Thread nD τ) hM fullShare H ∗ owns (c : Thread nD τ) arg4 fullShare wg ∗ owns (c : Thread nD τ) arg5 fullShare wu ∗ owns (c : Thread nD τ) arg6 fullShare wd ∗ owns (c : Thread nD τ) (slot (cur i)) fullShare A)
        ∗ (iprop(owns (c : Thread nD τ) hM fullShare H ∗ owns (c : Thread nD τ) arg4 fullShare wg ∗ owns (c : Thread nD τ) arg5 fullShare wu ∗ owns (c : Thread nD τ) arg6 fullShare wd ∗ owns (c : Thread nD τ) (slot (cur i)) fullShare (stepv (k0_pay6 H wg wu) wd A)) -∗ K ⟨⟩))
      ⊢ wp frame (wpE (defs₀ (F := F)) Variants.none (c : Thread nD τ) none) E (stageC i arg3 harg3 arg4 harg4 arg5 harg5 arg6 harg6 arg7 harg7) K := by
  unfold owns
  iintro ⟨⟨⟨%fh, %hfh, HH⟩, ⟨%f4, %hf4, H4⟩, ⟨%f5, %hf5, H5⟩, ⟨%f6, %hf6, H6⟩, ⟨%fs, %hfs, HS⟩⟩, Hk⟩
  obtain rfl := harg4.eq_unread hf4; obtain rfl := harg5.eq_unread hf5; obtain rfl := harg6.eq_unread hf6
  unfold stageC
  rw [k0_part3_eq_skeleton, k0_part4_eq_skeleton, k0_part5_eq_skeleton]
  unfold k0_part3_skel k0_part4_skel k0_part5_skel
  sl_exec
  sl_step
  have hH : hM.view.readAt (Elt F) (Rect.unit (s := S1024x4096) ![0, 0] S1024x4096.size inb_S1024x4096_S1024x4096_0_0).toLoadRect fh = H := by rw [View.readAt_full, hfh]
  have hg : arg4.view.readAt (Elt F) (Rect.unit (s := S4096x256) ![0, 0] S4096x256.size inb_S4096x256_S4096x256_0_0).toLoadRect (harg4.unread wg) = wg := by rw [View.readAt_full, hf4]
  have hu : arg5.view.readAt (Elt F) (Rect.unit (s := S4096x256) ![0, 0] S4096x256.size inb_S4096x256_S4096x256_0_0).toLoadRect (harg5.unread wu) = wu := by rw [View.readAt_full, hf5]
  have h6 := pay6_congr hH hg hu
  iapply Hk
  isplitl [HH]
  · iexists fh; iframe; ipureintro; exact hfh
  isplitl [H4]
  · iexists harg4.unread wg; iframe; ipureintro; exact hf4
  isplitl [H5]
  · iexists harg5.unread wu; iframe; ipureintro; exact hf5
  isplitl [H6]
  · iexists harg6.unread wd; iframe; ipureintro; exact hf6
  iexists _; isplitr; swap; · iexact HS
  ipureintro; funext y
  have hy : (y 1).val < 4096 := (y 1).isLt
  refine slices_succ _ fs (k0_pay6 H wg wu) wd A _ 7 _ rfl _ (pay9_congr h6 (colSlice_read _ fs A hfs 7 _ rfl) (colSlice_readW _ _ wd hf6 7 _ rfl)) ?_ y (by show (y 1).val < 512 * (7 + 1); omega)
  refine slices_succ _ fs (k0_pay6 H wg wu) wd A _ 6 _ rfl _ (pay9_congr h6 (colSlice_read _ fs A hfs 6 _ rfl) (colSlice_readW _ _ wd hf6 6 _ rfl)) ?_
  refine slices_succ _ fs (k0_pay6 H wg wu) wd A _ 5 _ rfl _ (pay9_congr h6 (colSlice_read _ fs A hfs 5 _ rfl) (colSlice_readW _ _ wd hf6 5 _ rfl)) ?_
  refine slices_succ _ fs (k0_pay6 H wg wu) wd A _ 4 _ rfl _ (pay9_congr h6 (colSlice_read _ fs A hfs 4 _ rfl) (colSlice_readW _ _ wd hf6 4 _ rfl)) ?_
  refine slices_succ _ fs (k0_pay6 H wg wu) wd A _ 3 _ rfl _ (pay9_congr h6 (colSlice_read _ fs A hfs 3 _ rfl) (colSlice_readW _ _ wd hf6 3 _ rfl)) ?_
  refine slices_succ _ fs (k0_pay6 H wg wu) wd A _ 2 _ rfl _ (pay9_congr h6 (colSlice_read _ fs A hfs 2 _ rfl) (colSlice_readW _ _ wd hf6 2 _ rfl)) ?_
  refine slices_succ _ fs (k0_pay6 H wg wu) wd A _ 1 _ rfl _ (pay9_congr h6 (colSlice_read _ fs A hfs 1 _ rfl) (colSlice_readW _ _ wd hf6 1 _ rfl)) ?_
  refine slices_succ _ fs (k0_pay6 H wg wu) wd A [] 0 _ rfl _ (pay9_congr h6 (colSlice_read _ fs A hfs 0 _ rfl) (colSlice_readW _ _ wd hf6 0 _ rfl)) ?_
  intro y hy; exact absurd hy (by show ¬ (y 1).val < 512 * 0; omega)

end StageC

end Cert.Kernel3Ideal.Ffn1
end
-- ==== Proof.Ffn1Out.lean ====
/- The last stage of the first feed-forward kernel: the normalised form of the finished rows is made half a block at a time and sent to the second output. -/
module

public import proofs.«01_k».proof.Proof.Ffn1Norm

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The statistics, one number per row -/

abbrev statOff (k : ℕ) : Fin 2 → Nat := ![16 * k, 0]
theorem statOff_inb (k : Fin 64) : ∀ a, statOff k.val a + S16x1.size a ≤ S1024x1.size a := by
  have := k.isLt; intro a; fin_cases a
  · show 16 * k.val + 16 ≤ 1024; omega
  · show 0 + 1 ≤ 1; omega
def statOf (y : S1024x1.Idx) : Fin 64 := ⟨(y 0).val / 16, by have : (y 0).val < 1024 := (y 0).isLt; omega⟩
def statLoc (y : S1024x1.Idx) : S16x1.Idx := fun a => match a with
  | ⟨0, _⟩ => ⟨(y 0).val % 16, Nat.mod_lt _ (by decide)⟩
  | ⟨1, _⟩ => ⟨(y 1).val, (y 1).isLt⟩
theorem unitLocal_stat (y : S1024x1.Idx) (k : ℕ) (hk : (y 0).val / 16 = k) (h) :
    Rect.unitLocal (s := S1024x1) (off := statOff k) (size := S16x1.size) y h = statLoc y := by
  funext a; apply Fin.ext; fin_cases a
  · show (y 0).val - 16 * k = (y 0).val % 16; omega
  · show (y 1).val - 0 = (y 1).val; omega

/-- The statistics of the rows `A`, band by band. -/
def rval (A : S1024x4096.Idx → Elt F .f32) : S1024x1.Idx → Elt F .f32 := fun y => k0_pay2 (band A (statOf y)) (statLoc y)
theorem rval_band (A : S1024x4096.Idx → Elt F .f32) (k : Fin 64) :
    VecWindow.window (rval A) (statOff k.val) S16x1.size (statOff_inb k) = k0_pay2 (band A k) := by
  funext z
  have hz : (z 0).val < 16 := (z 0).isLt
  have e : statOf ((Rect.unit (s := S1024x1) (statOff k.val) S16x1.size (statOff_inb k)).emb z) = k :=
    Fin.ext (by show (16 * k.val + 1 * (z 0).val) / 16 = k.val; omega)
  have e' : statLoc ((Rect.unit (s := S1024x1) (statOff k.val) S16x1.size (statOff_inb k)).emb z) = z := by
    funext a; apply Fin.ext; fin_cases a
    · show (16 * k.val + 1 * (z 0).val) % 16 = (z 0).val; omega
    · show 0 + 1 * (z 1).val = (z 1).val; omega
  show k0_pay2 (band A (statOf ((Rect.unit (s := S1024x1) (statOff k.val) S16x1.size (statOff_inb k)).emb z))) (statLoc ((Rect.unit (s := S1024x1) (statOff k.val) S16x1.size (statOff_inb k)).emb z)) = _
  rw [e, e']

/-- The rows `A` normalised under the gain `g`, band by band. -/
def nval (g : Vec F S1x4096 .f32) (A : S1024x4096.Idx → Elt F .f32) : S1024x4096.Idx → Elt F .bf16 :=
  fun y => k0_pay3 g (band A (bandOf y)) (k0_pay2 (band A (bandOf y))) (bandLoc y)
/-- Half `r` of a row block. -/
def half {α : Type} (v : S1024x4096.Idx → α) (r : Fin 2) : S512x4096.Idx → α := VecWindow.window v (partOff r) S512x4096.size (partOff_inb r)

section StageD
variable (c : Dev nD) (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole)

/-- The scratch of statistics held at contents `f`. -/
abbrev rP (f : Buf (Elt F) (rM.view.loc (c : Thread nD τ))) : sProp 𝕄 := rM.view.loc (c : Thread nD τ) ↦[rM.view.set]{fullShare} f

/-- Before trip `k` of the statistics: the slot as it was, the first `k` bands' statistics stored. -/
def inv2 (s : Fin 2) (fs : Buf (Elt F) ((slot s).view.loc (c : Thread nD τ))) (k : ℕ) (_ : Unit) : sProp 𝕄 :=
  iprop(slotP c s fs ∗ ∃ fr, ⌜∀ y : S1024x1.Idx, (y 0).val < 16 * k → rM.view.read (Elt F) fr y = rval ((slot s).view.read (Elt F) fs) y⌝ ∗ rP c fr)

/-- The bands from `lo` up to `k` normalised. -/
abbrev nupto (g : Vec F S1x4096 .f32) (A : S1024x4096.Idx → Elt F .f32) (lo k : ℕ) (fh : Buf (Elt F) (hM.view.loc (c : Thread nD τ))) : Prop :=
  ∀ y : S1024x4096.Idx, 16 * lo ≤ (y 0).val → (y 0).val < 16 * k → hM.view.read (Elt F) fh y = nval g A y

/-- Before trip `k` of the first half of the normalisation, and of the second. -/
def inv3 (s : Fin 2) (g : Vec F S1x4096 .f32) (fs : Buf (Elt F) ((slot s).view.loc (c : Thread nD τ))) (fr : Buf (Elt F) (rM.view.loc (c : Thread nD τ))) (k : ℕ) (_ : Unit) : sProp 𝕄 :=
  iprop(rP c fr ∗ slotP c s fs ∗ ∃ fh, ⌜nupto c g ((slot s).view.read (Elt F) fs) 0 k fh⌝ ∗ hP c fh)
def inv4 (s : Fin 2) (g : Vec F S1x4096 .f32) (fs : Buf (Elt F) ((slot s).view.loc (c : Thread nD τ))) (fr : Buf (Elt F) (rM.view.loc (c : Thread nD τ))) (k : ℕ) (_ : Unit) : sProp 𝕄 :=
  iprop(rP c fr ∗ slotP c s fs ∗ ∃ fh, ⌜nupto c g ((slot s).view.read (Elt F) fs) 32 (32 + k) fh⌝ ∗ hHP c 1 fh)

theorem stat_succ (s : Fin 2) (fs : Buf (Elt F) ((slot s).view.loc (c : Thread nD τ))) (k : Fin k0_t2_loop.trips) (fr) (hh hh')
    (H : ∀ y : S1024x1.Idx, (y 0).val < 16 * k.val → rM.view.read (Elt F) fr y = rval ((slot s).view.read (Elt F) fs) y) :
    ∀ y : S1024x1.Idx, (y 0).val < 16 * (k.val + 1) → rM.view.read (Elt F)
      (rM.view.writes (Elt F) fr [⟨Rect.unit (s := S1024x1) (k0_off19 k) S16x1.size hh,
        k0_pay2 ((slot s).view.readAt (Elt F) (Rect.unit (s := S1024x4096) (k0_off18 k) S16x4096.size hh').toLoadRect fs)⟩]) y = rval ((slot s).view.read (Elt F) fs) y := by
  have hk : k.val < 64 := Nat.lt_of_lt_of_eq k.isLt trips2
  intro y hy
  refine (View.read_writes_cons_rows (v := rM.view) fr hh _ [] y (W := 16) (k0_off19_eq k) rfl rfl).trans ?_
  by_cases hin : 16 * k.val ≤ (y 0).val ∧ (y 0).val < 16 * k.val + 16
  · rw [dif_pos hin]
    have hb : (y 0).val / 16 = k.val := by omega
    rw [View.readAt_unit _ _ _ (k0_off18_eq k) (bandOff_inb ⟨k.val, hk⟩)]
    have e : statOf y = ⟨k.val, hk⟩ := Fin.ext hb
    unfold rval band; rw [e]
    exact congrArg _ (unitLocal_stat y k.val hb _)
  · rw [dif_neg hin]
    exact H y (by omega)

theorem nupto_succ (g : Vec F S1x4096 .f32) (A : S1024x4096.Idx → Elt F .f32) (s : Fin 2) (fs : Buf (Elt F) ((slot s).view.loc (c : Thread nD τ))) (hA : (slot s).view.read (Elt F) fs = A) (lo k : ℕ) (hk : k < 64) (fh) (fr) (hr : rM.view.read (Elt F) fr = rval A)
    {off : Fin 2 → Nat} (ho : off = bandOff k) {so : Fin 2 → Nat} (hso : so = statOff k) (hh) (hh') (hh'')
    (H : nupto c g A lo k fh) :
    nupto c g A lo (k + 1)
      (hM.view.writes (Elt F) fh [⟨Rect.unit (s := S1024x4096) off S16x4096.size hh,
        k0_pay3 g ((slot s).view.readAt (Elt F) (Rect.unit (s := S1024x4096) off S16x4096.size hh').toLoadRect fs)
          (rM.view.readAt (Elt F) (Rect.unit (s := S1024x1) so S16x1.size hh'').toLoadRect fr)⟩]) := by
  intro y hlo hy
  refine (View.read_writes_cons_rows (v := hM.view) fh hh _ [] y (W := 16) ho rfl rfl).trans ?_
  by_cases hin : 16 * k ≤ (y 0).val ∧ (y 0).val < 16 * k + 16
  · rw [dif_pos hin]
    have hb : (y 0).val / 16 = k := by omega
    have e : bandOf y = ⟨k, hk⟩ := Fin.ext hb
    have e1 : (slot s).view.readAt (Elt F) (Rect.unit (s := S1024x4096) off S16x4096.size hh').toLoadRect fs = band A ⟨k, hk⟩ := by
      rw [View.readAt_unit _ _ _ ho (bandOff_inb ⟨k, hk⟩), hA]; rfl
    have e2 : rM.view.readAt (Elt F) (Rect.unit (s := S1024x1) so S16x1.size hh'').toLoadRect fr = k0_pay2 (band A ⟨k, hk⟩) := by
      rw [View.readAt_unit _ _ _ hso (statOff_inb ⟨k, hk⟩), hr]
      exact rval_band A ⟨k, hk⟩
    rw [e1, e2]
    unfold nval; rw [e]
    exact congrArg _ (unitLocal_band y k hb _)
  · rw [dif_neg hin]
    exact H y hlo (by omega)

set_option maxHeartbeats 400000 in
theorem step2 (s : Fin 2) (hs : cur i = s) (fs : Buf (Elt F) ((slot s).view.loc (c : Thread nD τ))) (h6 : k0_cond7 i = 1#1) (E : Set ℕ) (k : Fin k0_t2_loop.trips) (u : Unit) :
    inv2 c s fs k.val u ⊢ wp frame (wpE (defs₀ (F := F)) Variants.none (c : Thread nD τ) none) E (k0_t2_body i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 (BitVec.ofNat 32 (i 0).val) h6 k u) (inv2 c s fs (k.val + 1)) := by
  have hcanon1 : cur i = s := hs
  unfold inv2
  iintro ⟨HS, ⟨%fr, %hfr, HR⟩⟩
  sl_unfold [k0_t2_body]
  sl_exec
  sl_step
  isplitl [HS]; · iexact HS
  iexists _; isplitr; swap; · iexact HR
  ipureintro; exact stat_succ c s fs k fr _ _ hfr

set_option maxHeartbeats 400000 in
theorem step3 (s : Fin 2) (hs : cur i = s) (g : Vec F S1x4096 .f32) (fs : Buf (Elt F) ((slot s).view.loc (c : Thread nD τ))) (fr : Buf (Elt F) (rM.view.loc (c : Thread nD τ))) (hr : rM.view.read (Elt F) fr = rval ((slot s).view.read (Elt F) fs)) (h6 : k0_cond7 i = 1#1) (E : Set ℕ) (k : Fin k0_t3_loop.trips) (u : Unit) :
    inv3 c s g fs fr k.val u ⊢ wp frame (wpE (defs₀ (F := F)) Variants.none (c : Thread nD τ) none) E (k0_t3_body i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 (BitVec.ofNat 32 (i 0).val) h6 g k u) (inv3 c s g fs fr (k.val + 1)) := by
  have hcanon1 : cur i = s := hs
  have hk : k.val < 32 := Nat.lt_of_lt_of_eq k.isLt trips3
  unfold inv3
  iintro ⟨HR, HS, ⟨%fh, %hfh, HH⟩⟩
  sl_unfold [k0_t3_body]
  sl_exec
  sl_step
  isplitl [HR]; · iexact HR
  isplitl [HS]; · iexact HS
  iexists _; isplitr; swap; · iexact HH
  ipureintro; exact nupto_succ c g _ s fs rfl 0 k.val (by omega) fh fr hr (k0_off21_eq k) (k0_off22_eq k) _ _ _ hfh

/-- A band of the second half lies in it. -/
theorem band_sub (k : Fin k0_t4_loop.trips) (hh) : (hM.access (Rect.unit (s := S1024x4096) (k0_off25 k) S16x4096.size hh)).set ⊆ (hH 1).view.set := by
  have hk : k.val < 32 := Nat.lt_of_lt_of_eq k.isLt trips4
  intro y hy
  rw [hH_set]
  have hy' : y ∈ (Rect.unit (s := S1024x4096) (k0_off25 k) S16x4096.size hh).set := by
    have e := View.set_slice_whole (cc0_scratch1 : Ref sig _) (Rect.unit (s := S1024x4096) (k0_off25 k) S16x4096.size hh)
    rw [← e]; exact hy
  rw [Rect.mem_set_unit] at hy'
  refine (mem_H2s 1 y).2 ?_
  have h0 := hy' 0
  rw [k0_off25_eq] at h0
  have a0 : 16 * k.val + 512 ≤ (y 0).val ∧ (y 0).val < 16 * k.val + 512 + 16 := h0
  show (y 0).val / 512 = 1
  omega

set_option maxHeartbeats 400000 in
theorem step4 (s : Fin 2) (hs : cur i = s) (g : Vec F S1x4096 .f32) (fs : Buf (Elt F) ((slot s).view.loc (c : Thread nD τ))) (fr : Buf (Elt F) (rM.view.loc (c : Thread nD τ))) (hr : rM.view.read (Elt F) fr = rval ((slot s).view.read (Elt F) fs)) (h6 : k0_cond7 i = 1#1) (E : Set ℕ) (k : Fin k0_t4_loop.trips) (u : Unit) :
    inv4 c s g fs fr k.val u ⊢ wp frame (wpE (defs₀ (F := F)) Variants.none (c : Thread nD τ) none) E (k0_t4_body i xM (Memref.isWhole_whole _) arg3 harg3 arg4 harg4 arg5 harg5 arg6 harg6 arg7 harg7 yM (Memref.isWhole_whole _) nM (Memref.isWhole_whole _) aM (Memref.isWhole_whole _) hM (Memref.isWhole_whole _) rM (Memref.isWhole_whole _) cc0_scratch3 cc0_scratch4 cc0_scratch5 (BitVec.ofNat 32 (i 0).val) h6 g k u) (inv4 c s g fs fr (k.val + 1)) := by
  have hcanon1 : cur i = s := hs
  have hk : k.val < 32 := Nat.lt_of_lt_of_eq k.isLt trips4
  have hsub := band_sub k (k0_off25_inb i k h6)
  unfold inv4
  iintro ⟨HR, HS, ⟨%fh, %hfh, HH⟩⟩
  sl_unfold [k0_t4_body]
  sl_exec (disch := first | exact hsub | exact Memref.setOn_subset_of_access_subset hsub)
  sl_step
  isplitl [HR]; · iexact HR
  isplitl [HS]; · iexact HS
  iexists _; isplitr; swap; · iexact HH
  ipureintro; unfold step4.sl.HH_w1
  exact nupto_succ c g _ s fs rfl 32 (32 + k.val) (by omega) fh fr hr ((k0_off25_eq k).trans (by show (![_, 0] : Fin 2 → Nat) = ![_, 0]; congr 1; omega)) ((k0_off26_eq k).trans (by show (![_, 0] : Fin 2 → Nat) = ![_, 0]; congr 1; omega)) (k0_off25_inb i k h6) (k0_off25_inb i k h6) (k0_off26_inb i k h6) hfh

/-- What a half of the scratch reads as once its bands are normalised. -/
theorem half_read (g : Vec F S1x4096 .f32) (A : S1024x4096.Idx → Elt F .f32) (r : Fin 2) (f : Buf (Elt F) (hM.view.loc (c : Thread nD τ)))
    (H : ∀ y : S1024x4096.Idx, 16 * (32 * r.val) ≤ (y 0).val → (y 0).val < 16 * (32 * r.val + 32) → hM.view.read (Elt F) f y = nval g A y) :
    (hH r).view.read (Elt F) f = half (nval g A) r := by
  funext y
  have hy : (y 0).val < 512 := (y 0).isLt
  have hr : r.val < 2 := r.isLt
  have e : ((Rect.unit (s := S1024x4096) (partOff r) S512x4096.size (partOff_inb r)).emb y 0).val = 512 * r.val + (y 0).val :=
    by rw [Rect.emb_apply]; show 512 * r.val + 1 * (y 0).val = _; omega
  exact H ((Rect.unit (s := S1024x4096) (partOff r) S512x4096.size (partOff_inb r)).emb y) (by rw [e]; omega) (by rw [e]; omega)

set_option maxHeartbeats 800000 in
/-- The last stage at the end of a block that is not the last: the normalised rows start to leave, a half at a time. -/
theorem stageD_mid (g : Vec F S1x4096 .f32) (A : S1024x4096.Idx → Elt F .f32) (h1 : (i 1).val = 42) (h2 : (i 0).val ≠ 7) (K : PUnit → sProp 𝕄) :
    iprop((owns (c : Thread nD τ) arg7 fullShare g ∗ owns (c : Thread nD τ) (slot (cur i)) fullShare A ∗ (∃ fr, rP c fr) ∗ (∃ fh, hP c fh) ∗ ncP c 0 ∗ ncP c 1 ∗ (∃ f, nP c (row i) 0 f) ∗ (∃ f, nP c (row i) 1 f))
        ∗ (iprop(owns (c : Thread nD τ) arg7 fullShare g ∗ owns (c : Thread nD τ) (slot (cur i)) fullShare A ∗ (∃ fr, rP c fr) ∗ nFly c (row i) 0 (half (nval g A) 0) ∗ nFly c (row i) 1 (half (nval g A) 1)) -∗ K ⟨⟩))
      ⊢ wp frame (wpE (defs₀ (F := F)) Variants.none (c : Thread nD τ) none) Set.univ (stageD i arg3 harg3 arg4 harg4 arg5 harg5 arg6 harg6 arg7 harg7) K := by
  have hc7 : k0_cond7 i = 1#1 := (cond7_iff i).2 h1
  have hc8 : ¬ k0_cond8 i = 1#1 := fun h => by have := (cond8_iff i).1 h; omega
  have hc9 : ¬ k0_cond9 i = 1#1 := fun h => by have := (cond9_iff i).1 h; omega
  unfold nFly owns
  iintro ⟨⟨⟨%g7, %hg7, H7⟩, ⟨%fs, %hfs, HS⟩, ⟨%fr, HR⟩, ⟨%fh, HH⟩, HN0, HN1, ⟨%fn0, HO0⟩, ⟨%fn1, HO1⟩⟩, Hk⟩
  obtain rfl := harg7.eq_unread hg7
  unfold stageD
  rw [dif_pos hc7, k0_part1_eq_skeleton]
  irw [wp_bind]
  sl_unfold [k0_part1_skel]
  sl_exec (disch := first | sl_exact hc7 | sl_exact hc8 | sl_exact hc9)
  have hg : arg7.view.readAt (Elt F) (Rect.unit (s := S1x4096) ![0, 0] S1x4096.size inb_S1x4096_S1x4096_0_0).toLoadRect (harg7.unread g) = g := by rw [View.readAt_full, hg7]
  sl_for (inv2 c (cur i) fs) $$ [HS HR]
  · intro k u; exact step2 c i arg3 harg3 arg4 harg4 arg5 harg5 arg6 harg6 arg7 harg7 (cur i) rfl fs hc7 Set.univ k u
  · unfold inv2
    isplitl [HS]; · iexact HS
    iexists _; isplitr; swap; · iexact HR
    ipureintro; intro y hy; omega
  iintro %u HI
  unfold inv2
  icases HI with ⟨HS, ⟨%fr', %hfr, HR⟩⟩
  have hr : rM.view.read (Elt F) fr' = rval ((slot (cur i)).view.read (Elt F) fs) := by
    funext y
    have hy : (y 0).val < 1024 := (y 0).isLt
    exact hfr y (by show (y 0).val < 16 * k0_t2_loop.trips; rw [trips2]; omega)
  sl_exec
  sl_rw [hg]
  sl_for (inv3 c (cur i) g fs fr') $$ [HS HR HH]
  · intro k u; exact step3 c i arg3 harg3 arg4 harg4 arg5 harg5 arg6 harg6 arg7 harg7 (cur i) rfl g fs fr' hr hc7 Set.univ k u
  · unfold inv3
    isplitl [HR]; · iexact HR
    isplitl [HS]; · iexact HS
    iexists _; isplitr; swap; · iexact HH
    ipureintro; intro y hy hy'; omega
  iintro %u2 HI
  unfold inv3
  icases HI with ⟨HR, HS, ⟨%fa, %hfa, HH⟩⟩
  ihave HHS := (h_split c fa) $$ HH
  icases HHS with ⟨HH0, HH1⟩
  have ha : (hH 0).view.read (Elt F) fa = half (nval g A) 0 := by
    rw [← hfs]
    exact half_read c g _ 0 fa (fun y h h' => hfa y h (by show (y 0).val < 16 * k0_t3_loop.trips; rw [trips3]; exact h'))
  sl_exec (disch := first | sl_exact hc7 | sl_exact hc8 | sl_exact hc9)
  sl_for (inv4 c (cur i) g fs fr') $$ [HS HR HH1]
  · intro k u; exact step4 c i arg3 harg3 arg4 harg4 arg5 harg5 arg6 harg6 arg7 harg7 (cur i) rfl g fs fr' hr hc7 Set.univ k u
  · unfold inv4
    isplitl [HR]; · iexact HR
    isplitl [HS]; · iexact HS
    iexists _; isplitr; swap; · iexact HH1
    ipureintro; intro y hy hy'; omega
  iintro %u3 HI
  unfold inv4
  icases HI with ⟨HR, HS, ⟨%fb, %hfb, HH1⟩⟩
  have hb : (hH 1).view.read (Elt F) fb = half (nval g A) 1 := by
    rw [← hfs]
    exact half_read c g _ 1 fb (fun y h h' => hfb y h (by show (y 0).val < 16 * (32 + k0_t4_loop.trips); rw [trips4]; exact h'))
  sl_exec (disch := first | sl_exact hc7 | sl_exact hc8 | sl_exact hc9)
  sl_step
  iapply Hk
  isplitl [H7]
  · iexists harg7.unread g; iframe; ipureintro; exact hg7
  isplitl [HS]
  · iexists fs; iframe; ipureintro; exact hfs
  isplitl [HR]; · iexists fr'; iexact HR
  isplitl [HN0]
  · iexists fa, fn0; isplitr; swap; · iexact HN0
    ipureintro; exact ha
  iexists fb, fn1; isplitr; swap; · iexact HN1
  ipureintro; exact hb

set_option maxHeartbeats 800000 in
/-- The last stage at the end of the last block: the rows and their normalised form are sent out and awaited. -/
theorem stageD_last (g : Vec F S1x4096 .f32) (A : S1024x4096.Idx → Elt F .f32) (h1 : (i 1).val = 42) (h2 : (i 0).val = 7) (W : Waits sig Unit) (K : PUnit → sProp 𝕄) :
    iprop((owns (c : Thread nD τ) arg7 fullShare g ∗ owns (c : Thread nD τ) (slot (cur i)) fullShare A ∗ (∃ fr, rP c fr) ∗ (∃ fh, hP c fh) ∗ ncP c 0 ∗ ncP c 1 ∗ (∃ f, nP c (row i) 0 f) ∗ (∃ f, nP c (row i) 1 f) ∗ ycP c (cur i) ∗ (∃ f, yP c (row i) f) ∗ owes (c : Thread nD τ) 0 W)
        ∗ (iprop(owns (c : Thread nD τ) arg7 fullShare g ∗ (∃ fr, rP c fr) ∗ (∃ fh, hP c fh) ∗ ncP c 0 ∗ ncP c 1 ∗ owns (c : Thread nD τ) (nT (row i) 0) fullShare (half (nval g A) 0) ∗ owns (c : Thread nD τ) (nT (row i) 1) fullShare (half (nval g A) 1)
            ∗ owns (c : Thread nD τ) (yT (row i)) fullShare A ∗ (∃ f, slotP c (cur i) f) ∗ ycP c (cur i) ∗ ∃ W, owes (c : Thread nD τ) 0 W) -∗ K ⟨⟩))
      ⊢ wp frame (wpE (defs₀ (F := F)) Variants.none (c : Thread nD τ) none) Set.univ (stageD i arg3 harg3 arg4 harg4 arg5 harg5 arg6 harg6 arg7 harg7) K := by
  have hc7 : k0_cond7 i = 1#1 := (cond7_iff i).2 h1
  have hc8 : k0_cond8 i = 1#1 := (cond8_iff i).2 h2
  have hc9 : k0_cond9 i = 1#1 := (cond9_iff i).2 h2
  unfold owns
  iintro ⟨⟨⟨%g7, %hg7, H7⟩, ⟨%fs, %hfs, HS⟩, ⟨%fr, HR⟩, ⟨%fh, HH⟩, HN0, HN1, ⟨%fn0, HO0⟩, ⟨%fn1, HO1⟩, HC, ⟨%fy, HY⟩, HW⟩, Hk⟩
  obtain rfl := harg7.eq_unread hg7
  unfold stageD
  rw [dif_pos hc7, k0_part1_eq_skeleton]
  irw [wp_bind]
  sl_unfold [k0_part1_skel]
  sl_exec (disch := first | sl_exact hc7 | sl_exact hc8 | sl_exact hc9)
  have hg : arg7.view.readAt (Elt F) (Rect.unit (s := S1x4096) ![0, 0] S1x4096.size inb_S1x4096_S1x4096_0_0).toLoadRect (harg7.unread g) = g := by rw [View.readAt_full, hg7]
  sl_for (inv2 c (cur i) fs) $$ [HS HR]
  · intro k u; exact step2 c i arg3 harg3 arg4 harg4 arg5 harg5 arg6 harg6 arg7 harg7 (cur i) rfl fs hc7 Set.univ k u
  · unfold inv2
    isplitl [HS]; · iexact HS
    iexists _; isplitr; swap; · iexact HR
    ipureintro; intro y hy; omega
  iintro %u HI
  unfold inv2
  icases HI with ⟨HS, ⟨%fr', %hfr, HR⟩⟩
  have hr : rM.view.read (Elt F) fr' = rval ((slot (cur i)).view.read (Elt F) fs) := by
    funext y
    have hy : (y 0).val < 1024 := (y 0).isLt
    exact hfr y (by show (y 0).val < 16 * k0_t2_loop.trips; rw [trips2]; omega)
  sl_exec
  sl_rw [hg]
  sl_for (inv3 c (cur i) g fs fr') $$ [HS HR HH]
  · intro k u; exact step3 c i arg3 harg3 arg4 harg4 arg5 harg5 arg6 harg6 arg7 harg7 (cur i) rfl g fs fr' hr hc7 Set.univ k u
  · unfold inv3
    isplitl [HR]; · iexact HR
    isplitl [HS]; · iexact HS
    iexists _; isplitr; swap; · iexact HH
    ipureintro; intro y hy hy'; omega
  iintro %u2 HI
  unfold inv3
  icases HI with ⟨HR, HS, ⟨%fa, %hfa, HH⟩⟩
  ihave HHS := (h_split c fa) $$ HH
  icases HHS with ⟨HH0, HH1⟩
  have ha : (hH 0).view.read (Elt F) fa = half (nval g A) 0 := by
    rw [← hfs]
    exact half_read c g _ 0 fa (fun y h h' => hfa y h (by show (y 0).val < 16 * k0_t3_loop.trips; rw [trips3]; exact h'))
  sl_exec (disch := first | sl_exact hc7 | sl_exact hc8 | sl_exact hc9)
  sl_for (inv4 c (cur i) g fs fr') $$ [HS HR HH1]
  · intro k u; exact step4 c i arg3 harg3 arg4 harg4 arg5 harg5 arg6 harg6 arg7 harg7 (cur i) rfl g fs fr' hr hc7 Set.univ k u
  · unfold inv4
    isplitl [HR]; · iexact HR
    isplitl [HS]; · iexact HS
    iexists _; isplitr; swap; · iexact HH1
    ipureintro; intro y hy hy'; omega
  iintro %u3 HI
  unfold inv4
  icases HI with ⟨HR, HS, ⟨%fb, %hfb, HH1⟩⟩
  have hb : (hH 1).view.read (Elt F) fb = half (nval g A) 1 := by
    rw [← hfs]
    exact half_read c g _ 1 fb (fun y h h' => hfb y h (by show (y 0).val < 16 * (32 + k0_t4_loop.trips); rw [trips4]; exact h'))
  sl_exec (disch := first | sl_exact hc7 | sl_exact hc8 | sl_exact hc9)
  sl_step
  iapply Hk
  isplitl [H7]
  · iexists harg7.unread g; iframe; ipureintro; exact hg7
  isplitl [HR]; · iexists fr'; iexact HR
  isplitl [HH0 HH1]
  · iapply (h_join c _ _)
    isplitl [HH0]; · iexact HH0
    iexact HH1
  isplitl [HN0]; · iexact HN0
  isplitl [HN1]; · iexact HN1
  isplitl [HO0]
  · iexists _; isplitr; swap; · iexact HO0
    ipureintro; exact (View.read_writes_whole _ _ _).trans ha
  isplitl [HO1]
  · iexists _; isplitr; swap; · iexact HO1
    ipureintro; exact (View.read_writes_whole _ _ _).trans hb
  isplitl [HY]
  · iexists _; isplitr; swap; · iexact HY
    ipureintro; exact (View.read_writes_whole _ _ _).trans hfs
  isplitl [HS]; · iexists _; iexact HS
  isplitl [HC]; · iexact HC
  iexists _; iexact HW

/-- The last stage at another step does nothing. -/
theorem stageD_skip (h1 : (i 1).val ≠ 42) (E : Set ℕ) (K : PUnit → sProp 𝕄) :
    K ⟨⟩ ⊢ wp frame (wpE (defs₀ (F := F)) Variants.none (c : Thread nD τ) none) E (stageD i arg3 harg3 arg4 harg4 arg5 harg5 arg6 harg6 arg7 harg7) K := by
  have hc1 : ¬ k0_cond7 i = 1#1 := fun h => h1 ((cond7_iff i).1 h)
  unfold stageD
  rw [dif_neg hc1]
  exact le_wp_ret _ _ _ _ _

end StageD

end Cert.Kernel3Ideal.Ffn1
end
-- ==== Proof.Ffn1State.lean ====
/- The state of the first feed-forward kernel between two grid steps, and one grid step from state to state. -/
module

public import proofs.«01_k».proof.Proof.Ffn1Norm
public import proofs.«01_k».proof.Proof.Ffn1Swap
public import proofs.«01_k».proof.Proof.Ffn1Acc
public import proofs.«01_k».proof.Proof.Ffn1Out

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Blocks and slots by number -/

def blk (b : ℕ) : Fin 8 := ⟨b % 8, Nat.mod_lt _ (by decide)⟩
def sl (b : ℕ) : Fin 2 := ⟨b % 2, Nat.mod_lt _ (by decide)⟩

theorem row_eq (i : grid0.Coords) : row i = blk (i 0).val := Fin.ext (by have : (i 0).val < 8 := (i 0).isLt; show (i 0).val = (i 0).val % 8; omega)
theorem prv_eq (i : grid0.Coords) : prv i = blk ((i 0).val - 1) := Fin.ext (by have : (i 0).val < 8 := (i 0).isLt; show (i 0).val - 1 = ((i 0).val - 1) % 8; omega)
theorem nxt_eq (i : grid0.Coords) : nxt i = blk ((i 0).val + 1) := rfl
theorem cur_eq (i : grid0.Coords) : cur i = sl (i 0).val := rfl
theorem oth_eq (i : grid0.Coords) : oth i = sl ((i 0).val + 1) := Fin.ext (by show 1 - (i 0).val % 2 = ((i 0).val + 1) % 2; omega)
theorem sl_two (b : ℕ) : sl (b + 1 + 1) = sl b := Fin.ext (by show (b + 1 + 1) % 2 = b % 2; omega)

section State
variable (c : Dev nD) (X : Buf (Elt F) (xM.view.loc (c : Thread nD τ))) (G1 G2 : Vec F S1x4096 .f32) (WG : ℕ → Vec F S4096x256 .bf16) (WU : ℕ → Vec F S4096x256 .f32) (WD : ℕ → Vec F S256x4096 .f32)

/-- The normalised rows of block `b`. -/
abbrev hOf (b : ℕ) : Vec F S1024x4096 .bf16 := hval G1 (xRows c X (blk b))
/-- The rows of block `b` after `k` steps. -/
def acc (b : ℕ) : ℕ → S1024x4096.Idx → Elt F .f32
  | 0 => xRows c X (blk b)
  | k + 1 => stepv (k0_pay6 (hOf c X G1 b) (WG k) (WU k)) (WD k) (acc b k)
/-- The finished rows of block `b`. -/
def fin (b : ℕ) : S1024x4096.Idx → Elt F .f32 := acc c X G1 WG WU WD b 43
/-- Half `r` of the normalised form of the finished rows of block `b`. -/
def nfin (b : ℕ) (r : Fin 2) : S512x4096.Idx → Elt F .bf16 := half (nval G2 (fin c X G1 WG WU WD b)) r

/-- A slot at rest. -/
def free (s : Fin 2) : sProp 𝕄 := iprop((∃ f, slotP c s f) ∗ xcP c s ∗ ycP c s)
/-- A slot block `b` of the input is on its way into. -/
def inn (s : Fin 2) (b : ℕ) : sProp 𝕄 := iprop(xFly c X s (blk b) ∗ ycP c s)
/-- A slot the finished block `b` is leaving. -/
def out (s : Fin 2) (b : ℕ) : sProp 𝕄 := iprop(yFly c s (blk b) (fin c X G1 WG WU WD b) ∗ xcP c s)
/-- The input's row blocks but block `k`. -/
def xs (k : ℕ) : sProp 𝕄 := bigSep (Finset.univ.filter fun j : Fin 8 => j.val ≠ k) fun j => xP c X j
/-- The output's row blocks: those below `d` finished, those from `r` on at anything. -/
def ysDone (d : ℕ) : sProp 𝕄 := bigSep (Finset.univ.filter fun j : Fin 8 => j.val < d) fun j => owns (c : Thread nD τ) (yT j) fullShare (fin c X G1 WG WU WD j.val)
def ysRaw (r : ℕ) : sProp 𝕄 := bigSep (Finset.univ.filter fun j : Fin 8 => r ≤ j.val) fun j => iprop(∃ f, yP (F := F) c j f)
/-- The normalised output's row blocks, likewise. -/
def nsDone (d : ℕ) : sProp 𝕄 := bigSep (Finset.univ.filter fun j : Fin 8 => j.val < d) fun j =>
  iprop(owns (c : Thread nD τ) (nT j 0) fullShare (nfin c X G1 G2 WG WU WD j.val 0) ∗ owns (c : Thread nD τ) (nT j 1) fullShare (nfin c X G1 G2 WG WU WD j.val 1))
def nsRaw (r : ℕ) : sProp 𝕄 := bigSep (Finset.univ.filter fun j : Fin 8 => r ≤ j.val) fun j => iprop((∃ f, nP (F := F) c j 0 f) ∗ (∃ f, nP (F := F) c j 1 f))
/-- The normalised output while nothing is on its way into it, the blocks below `d` finished. -/
def nRest (d : ℕ) : sProp 𝕄 := iprop(ncP c 0 ∗ ncP c 1 ∗ nsDone c X G1 G2 WG WU WD d ∗ nsRaw c d)
/-- The normalised output while block `b` is on its way into it. -/
def nGoes (b : ℕ) : sProp 𝕄 := iprop(nFly c (blk b) 0 (nfin c X G1 G2 WG WU WD b 0) ∗ nFly c (blk b) 1 (nfin c X G1 G2 WG WU WD b 1) ∗ nsDone c X G1 G2 WG WU WD b ∗ nsRaw c (b + 1))
abbrev hAny : sProp 𝕄 := iprop(∃ fh, hP c fh)
abbrev rAny : sProp 𝕄 := iprop(∃ fr, rP c fr)
/-- Block `b` in work, `k` steps done. -/
def held (b k : ℕ) : sProp 𝕄 :=
  iprop(owns (c : Thread nD τ) (slot (sl b)) fullShare (acc c X G1 WG WU WD b k) ∗ (xcP c (sl b) ∗ ycP c (sl b)) ∗ owns (c : Thread nD τ) hM fullShare (hOf c X G1 b))
/-- The rest while block `b` is in work: before the other slot is exchanged, and after. -/
def rest0 (b : ℕ) : sProp 𝕄 :=
  iprop((if b = 0 then free c (sl (b + 1)) else out c X G1 WG WU WD (sl (b + 1)) (b - 1)) ∗ xs c X 8 ∗ ysDone c X G1 WG WU WD (b - 1) ∗ ysRaw c b ∗ nRest c X G1 G2 WG WU WD b)
def rest1 (b : ℕ) : sProp 𝕄 :=
  iprop((if b = 7 then free c (sl (b + 1)) else inn c X (sl (b + 1)) (b + 1)) ∗ xs c X (b + 1) ∗ ysDone c X G1 WG WU WD b ∗ ysRaw c b ∗ nRest c X G1 G2 WG WU WD b)
/-- The state at the start of block `b`. -/
def start (b : ℕ) : sProp 𝕄 :=
  if b = 0 then iprop(free c (sl 0) ∗ free c (sl 1) ∗ xs c X 8 ∗ ysDone c X G1 WG WU WD 0 ∗ ysRaw c 0 ∗ nRest c X G1 G2 WG WU WD 0 ∗ hAny c)
  else if b = 8 then iprop(free c (sl 0) ∗ free c (sl 1) ∗ xs c X 8 ∗ ysDone c X G1 WG WU WD 8 ∗ ysRaw c 8 ∗ nRest c X G1 G2 WG WU WD 8 ∗ hAny c)
  else iprop(inn c X (sl b) b ∗ (owns (c : Thread nD τ) (slot (sl (b + 1))) fullShare (fin c X G1 WG WU WD (b - 1)) ∗ xcP c (sl (b + 1)) ∗ ycP c (sl (b + 1))) ∗ xs c X b ∗ ysDone c X G1 WG WU WD (b - 1) ∗ ysRaw c (b - 1) ∗ nGoes c X G1 G2 WG WU WD (b - 1))
/-- The state before step `f` of block `b`. -/
def state (b f : ℕ) : sProp 𝕄 :=
  if f = 0 then iprop(start c X G1 G2 WG WU WD b ∗ rAny c)
  else iprop(held c X G1 WG WU WD b f ∗ rAny c ∗ (if f = 1 then rest0 c X G1 G2 WG WU WD b else rest1 c X G1 G2 WG WU WD b))

/-! ## One block taken or put back -/

theorem xs_take (b : ℕ) (hb : b < 8) : (xs c X 8 : sProp 𝕄) = iprop(xP c X (blk b) ∗ xs c X b) := by
  unfold xs
  rw [show (Finset.univ.filter fun j : Fin 8 => j.val ≠ 8) = insert (blk b) (Finset.univ.filter fun j : Fin 8 => j.val ≠ b) from by
    ext j; have := j.isLt; simp only [Finset.mem_filter, Finset.mem_univ, true_and, Finset.mem_insert, Fin.ext_iff, blk]; omega]
  exact bigSep_insert (by simp only [Finset.mem_filter, Finset.mem_univ, true_and, blk]; omega)
theorem xs_none (b : ℕ) (hb : 8 ≤ b) : (xs c X b : sProp 𝕄) = xs c X 8 := by
  unfold xs
  rw [show (Finset.univ.filter fun j : Fin 8 => j.val ≠ b) = (Finset.univ.filter fun j : Fin 8 => j.val ≠ 8) from by
    ext j; have := j.isLt; simp only [Finset.mem_filter, Finset.mem_univ, true_and]; omega]
theorem ysDone_put (b : ℕ) (hb : b < 8) :
    (ysDone c X G1 WG WU WD (b + 1) : sProp 𝕄) = iprop(owns (c : Thread nD τ) (yT (blk b)) fullShare (fin c X G1 WG WU WD b) ∗ ysDone c X G1 WG WU WD b) := by
  unfold ysDone
  rw [show (Finset.univ.filter fun j : Fin 8 => j.val < b + 1) = insert (blk b) (Finset.univ.filter fun j : Fin 8 => j.val < b) from by
    ext j; have := j.isLt; simp only [Finset.mem_filter, Finset.mem_univ, true_and, Finset.mem_insert, Fin.ext_iff, blk]; omega]
  rw [bigSep_insert (by simp only [Finset.mem_filter, Finset.mem_univ, true_and, blk]; omega), show (blk b).val = b from Nat.mod_eq_of_lt hb]
  rfl
theorem ysRaw_take (b : ℕ) (hb : b < 8) : (ysRaw c b : sProp 𝕄) = iprop((∃ f, yP (F := F) c (blk b) f) ∗ ysRaw c (b + 1)) := by
  unfold ysRaw
  rw [show (Finset.univ.filter fun j : Fin 8 => b ≤ j.val) = insert (blk b) (Finset.univ.filter fun j : Fin 8 => b + 1 ≤ j.val) from by
    ext j; have := j.isLt; simp only [Finset.mem_filter, Finset.mem_univ, true_and, Finset.mem_insert, Fin.ext_iff, blk]; omega]
  exact bigSep_insert (by simp only [Finset.mem_filter, Finset.mem_univ, true_and, blk]; omega)

theorem nsDone_put (b : ℕ) (hb : b < 8) :
    (nsDone c X G1 G2 WG WU WD (b + 1) : sProp 𝕄) = iprop((owns (c : Thread nD τ) (nT (blk b) 0) fullShare (nfin c X G1 G2 WG WU WD b 0) ∗ owns (c : Thread nD τ) (nT (blk b) 1) fullShare (nfin c X G1 G2 WG WU WD b 1)) ∗ nsDone c X G1 G2 WG WU WD b) := by
  unfold nsDone
  rw [show (Finset.univ.filter fun j : Fin 8 => j.val < b + 1) = insert (blk b) (Finset.univ.filter fun j : Fin 8 => j.val < b) from by
    ext j; have := j.isLt; simp only [Finset.mem_filter, Finset.mem_univ, true_and, Finset.mem_insert, Fin.ext_iff, blk]; omega]
  rw [bigSep_insert (by simp only [Finset.mem_filter, Finset.mem_univ, true_and, blk]; omega), show (blk b).val = b from Nat.mod_eq_of_lt hb]
  rfl
theorem nsRaw_take (b : ℕ) (hb : b < 8) : (nsRaw c b : sProp 𝕄) = iprop(((∃ f, nP (F := F) c (blk b) 0 f) ∗ (∃ f, nP (F := F) c (blk b) 1 f)) ∗ nsRaw c (b + 1)) := by
  unfold nsRaw
  rw [show (Finset.univ.filter fun j : Fin 8 => b ≤ j.val) = insert (blk b) (Finset.univ.filter fun j : Fin 8 => b + 1 ≤ j.val) from by
    ext j; have := j.isLt; simp only [Finset.mem_filter, Finset.mem_univ, true_and, Finset.mem_insert, Fin.ext_iff, blk]; omega]
  exact bigSep_insert (by simp only [Finset.mem_filter, Finset.mem_univ, true_and, blk]; omega)

variable (i : grid0.Coords) (arg3 : Memref sig .tc .vmem S1x4096 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S256x4096 .f32) (harg6 : arg6.IsWhole) (arg7 : Memref sig .tc .vmem S1x4096 .f32) (harg7 : arg7.IsWhole)

/-- The first stage, at any step. -/
theorem stageA_all (W : Waits sig Unit) (K : PUnit → sProp 𝕄) :
    iprop((owns (c : Thread nD τ) arg3 fullShare G1 ∗ state c X G1 G2 WG WU WD (i 0).val (i 1).val ∗ owes (c : Thread nD τ) 0 W)
        ∗ (iprop(owns (c : Thread nD τ) arg3 fullShare G1 ∗ held c X G1 WG WU WD (i 0).val (i 1).val ∗ rAny c
            ∗ (if (i 1).val ≤ 1 then rest0 c X G1 G2 WG WU WD (i 0).val else rest1 c X G1 G2 WG WU WD (i 0).val) ∗ ∃ W, owes (c : Thread nD τ) 0 W) -∗ K ⟨⟩))
      ⊢ wp frame (wpE (defs₀ (F := F)) Variants.none (c : Thread nD τ) none) Set.univ (stageA i arg3 harg3 arg4 harg4 arg5 harg5 arg6 harg6 arg7 harg7) K := by
  have hb8 : (i 0).val < 8 := (i 0).isLt
  by_cases h1 : (i 1).val = 0
  · rw [if_pos (show (i 1).val ≤ 1 by omega), h1]
    unfold state; rw [if_pos rfl]
    unfold start held
    by_cases h2 : (i 0).val = 0
    · have e0 : row i = 0 := Fin.ext h2
      rw [if_pos h2, h2]
      unfold rest0; rw [if_pos rfl]
      rw [xs_take c X 0 (by omega)]
      unfold free
      iintro ⟨⟨H3, ⟨⟨⟨HS0, HX0, HY0⟩, HF1, ⟨HXP, HXS⟩, HD, HR, HN, HH⟩, HRr⟩, HW⟩, Hk⟩
      iapply (stageA_first c X i arg3 harg3 arg4 harg4 arg5 harg5 arg6 harg6 arg7 harg7 G1 h1 h2 W K)
      isplitl [H3 HXP HS0 HX0 HH HW]
      · isplitl [H3]; · iexact H3
        isplitl [HXP]; · iexact HXP
        isplitl [HS0]; · iexact HS0
        isplitl [HX0]; · iexact HX0
        isplitl [HH]; · iexact HH
        iexact HW
      iintro ⟨H3, HXP, HS0, HX0, HH, HW⟩
      iapply Hk
      isplitl [H3]; · iexact H3
      isplitl [HS0 HX0 HY0 HH]
      · isplitl [HS0]; · iexact HS0
        isplitl [HX0 HY0]
        · isplitl [HX0]; · iexact HX0
          iexact HY0
        iexact HH
      isplitl [HRr]; · iexact HRr
      isplitl [HF1 HXP HXS HD HR HN]
      · isplitl [HF1]; · iexact HF1
        isplitl [HXP HXS]
        · isplitl [HXP]; · iexact HXP
          iexact HXS
        isplitl [HD]; · iexact HD
        isplitl [HR]; · iexact HR
        iexact HN
      iexact HW
    · have en := nsDone_put c X G1 G2 WG WU WD ((i 0).val - 1) (by omega)
      have er := ysRaw_take (F := F) c ((i 0).val - 1) (by omega)
      rw [Nat.sub_add_cancel (show 1 ≤ (i 0).val by omega)] at en er
      rw [if_neg h2, if_neg (show (i 0).val ≠ 8 by omega)]
      unfold rest0; rw [if_neg h2]
      unfold nGoes nRest
      rw [xs_take c X (i 0).val hb8, er, en, Nat.sub_add_cancel (show 1 ≤ (i 0).val by omega)]
      unfold inn out
      rw [← row_eq, ← cur_eq, ← oth_eq, ← prv_eq]
      iintro ⟨⟨H3, ⟨⟨⟨HF, HY0⟩, ⟨HS1, HX1, HY1⟩, HXS, HD, ⟨HYP, HR⟩, HN0, HN1, HND, HNR⟩, HRr⟩, HW⟩, Hk⟩
      iapply (stageA_later c X i arg3 harg3 arg4 harg4 arg5 harg5 arg6 harg6 arg7 harg7 G1 (fin c X G1 WG WU WD ((i 0).val - 1)) (nfin c X G1 G2 WG WU WD ((i 0).val - 1) 0) (nfin c X G1 G2 WG WU WD ((i 0).val - 1) 1) h1 (by omega) W K)
      isplitl [H3 HF HN0 HN1 HS1 HY1 HYP HW]
      · isplitl [H3]; · iexact H3
        isplitl [HF]; · iexact HF
        isplitl [HN0]; · iexact HN0
        isplitl [HN1]; · iexact HN1
        isplitl [HS1]; · iexact HS1
        isplitl [HY1]; · iexact HY1
        isplitl [HYP]; · iexact HYP
        iexact HW
      iintro ⟨⟨H3, HXP, HS0, HX0, HH, HW⟩, HFY, HO0, HO1, HN0, HN1⟩
      iapply Hk
      isplitl [H3]; · iexact H3
      isplitl [HS0 HX0 HY0 HH]
      · isplitl [HS0]; · unfold acc; rw [← row_eq]; iexact HS0
        isplitl [HX0 HY0]
        · isplitl [HX0]; · iexact HX0
          iexact HY0
        unfold hOf; rw [← row_eq]; iexact HH
      isplitl [HRr]; · iexact HRr
      isplitr [HW]
      · isplitl [HFY HX1]
        · isplitl [HFY]; · iexact HFY
          iexact HX1
        isplitl [HXP HXS]
        · isplitl [HXP]; · iexact HXP
          iexact HXS
        isplitl [HD]; · iexact HD
        isplitl [HR]; · iexact HR
        isplitl [HN0]; · iexact HN0
        isplitl [HN1]; · iexact HN1
        isplitr [HNR]
        · isplitl [HO0 HO1]
          · isplitl [HO0]; · iexact HO0
            iexact HO1
          iexact HND
        iexact HNR
      iexact HW
  · refine BIBase.Entails.trans ?_ (stageA_skip c i arg3 harg3 arg4 harg4 arg5 harg5 arg6 harg6 arg7 harg7 h1 Set.univ K)
    unfold state; rw [if_neg h1]
    have e : (if (i 1).val ≤ 1 then rest0 c X G1 G2 WG WU WD (i 0).val else rest1 c X G1 G2 WG WU WD (i 0).val : sProp 𝕄)
        = if (i 1).val = 1 then rest0 c X G1 G2 WG WU WD (i 0).val else rest1 c X G1 G2 WG WU WD (i 0).val := by
      by_cases h : (i 1).val = 1
      · rw [if_pos h, if_pos (by omega)]
      · rw [if_neg h, if_neg (by omega)]
    rw [e]
    iintro ⟨⟨H3, ⟨HH, HRr, HR⟩, HW⟩, Hk⟩
    iapply Hk
    isplitl [H3]; · iexact H3
    isplitl [HH]; · iexact HH
    isplitl [HRr]; · iexact HRr
    isplitl [HR]; · iexact HR
    iexists W; iexact HW

/-- The second stage, at any step. -/
theorem stageB_all (W : Waits sig Unit) (K : PUnit → sProp 𝕄) :
    iprop(((if (i 1).val ≤ 1 then rest0 c X G1 G2 WG WU WD (i 0).val else rest1 c X G1 G2 WG WU WD (i 0).val) ∗ owes (c : Thread nD τ) 0 W)
        ∗ (iprop((if (i 1).val = 0 then rest0 c X G1 G2 WG WU WD (i 0).val else rest1 c X G1 G2 WG WU WD (i 0).val) ∗ ∃ W, owes (c : Thread nD τ) 0 W) -∗ K ⟨⟩))
      ⊢ wp frame (wpE (defs₀ (F := F)) Variants.none (c : Thread nD τ) none) Set.univ (stageB i arg3 harg3 arg4 harg4 arg5 harg5 arg6 harg6 arg7 harg7) K := by
  have hb8 : (i 0).val < 8 := (i 0).isLt
  by_cases h1 : (i 1).val = 1
  · rw [if_pos (show (i 1).val ≤ 1 by omega), if_neg (show (i 1).val ≠ 0 by omega)]
    unfold rest0 rest1
    by_cases h0 : (i 0).val = 0
    · rw [if_pos h0, if_neg (show (i 0).val ≠ 7 by omega), xs_take c X ((i 0).val + 1) (by omega), show (i 0).val - 1 = (i 0).val by omega]
      unfold free inn
      rw [← nxt_eq, ← oth_eq]
      iintro ⟨⟨⟨⟨HS, HX, HY⟩, ⟨HXP, HXS⟩, HD, HR, HN⟩, HW⟩, Hk⟩
      iapply (stageB_first c X i arg3 harg3 arg4 harg4 arg5 harg5 arg6 harg6 arg7 harg7 h1 h0 Set.univ K)
      isplitl [HS HX HXP]
      · isplitl [HXP]; · iexact HXP
        isplitl [HS]; · iexact HS
        iexact HX
      iintro HF
      iapply Hk
      isplitr [HW]
      · isplitl [HF HY]
        · isplitl [HF]; · iexact HF
          iexact HY
        isplitl [HXS]; · iexact HXS
        isplitl [HD]; · iexact HD
        isplitl [HR]; · iexact HR
        iexact HN
      iexists W; iexact HW
    · have ed := ysDone_put c X G1 WG WU WD ((i 0).val - 1) (by omega)
      rw [Nat.sub_add_cancel (show 1 ≤ (i 0).val by omega)] at ed
      rw [if_neg h0, ed]
      by_cases h7 : (i 0).val = 7
      · rw [if_pos h7, xs_none c X ((i 0).val + 1) (by omega)]
        unfold free out
        rw [← prv_eq, ← oth_eq]
        iintro ⟨⟨⟨⟨HF, HX⟩, HXS, HD, HR, HN⟩, HW⟩, Hk⟩
        iapply (stageB_last c i arg3 harg3 arg4 harg4 arg5 harg5 arg6 harg6 arg7 harg7 _ h1 h7 W K)
        isplitl [HF HW]
        · isplitl [HF]; · iexact HF
          iexact HW
        iintro ⟨HS, HO, HY, HW⟩
        iapply Hk
        isplitr [HW]
        · isplitl [HS HX HY]
          · isplitl [HS]; · iexact HS
            isplitl [HX]; · iexact HX
            iexact HY
          isplitl [HXS]; · iexact HXS
          isplitl [HO HD]
          · isplitl [HO]; · iexact HO
            iexact HD
          isplitl [HR]; · iexact HR
          iexact HN
        iexact HW
      · rw [if_neg h7, xs_take c X ((i 0).val + 1) (by omega)]
        unfold inn out
        rw [← prv_eq, ← oth_eq, ← nxt_eq]
        iintro ⟨⟨⟨⟨HF, HX⟩, ⟨HXP, HXS⟩, HD, HR, HN⟩, HW⟩, Hk⟩
        iapply (stageB_mid c X i arg3 harg3 arg4 harg4 arg5 harg5 arg6 harg6 arg7 harg7 _ h1 (by omega) (by omega) W K)
        isplitl [HF HW HXP HX]
        · isplitl [HXP]; · iexact HXP
          isplitl [HF]; · iexact HF
          isplitl [HX]; · iexact HX
          iexact HW
        iintro ⟨HI, HO, HY, HW⟩
        iapply Hk
        isplitr [HW]
        · isplitl [HI HY]
          · isplitl [HI]; · iexact HI
            iexact HY
          isplitl [HXS]; · iexact HXS
          isplitl [HO HD]
          · isplitl [HO]; · iexact HO
            iexact HD
          isplitl [HR]; · iexact HR
          iexact HN
        iexact HW
  · refine BIBase.Entails.trans ?_ (stageB_skip c i arg3 harg3 arg4 harg4 arg5 harg5 arg6 harg6 arg7 harg7 h1 Set.univ K)
    have e : (if (i 1).val ≤ 1 then rest0 c X G1 G2 WG WU WD (i 0).val else rest1 c X G1 G2 WG WU WD (i 0).val : sProp 𝕄)
        = if (i 1).val = 0 then rest0 c X G1 G2 WG WU WD (i 0).val else rest1 c X G1 G2 WG WU WD (i 0).val := by
      by_cases h : (i 1).val = 0
      · rw [if_pos h, if_pos (by omega)]
      · rw [if_neg h, if_neg (by omega)]
    rw [e]
    iintro ⟨⟨HR, HW⟩, Hk⟩
    iapply Hk
    isplitl [HR]; · iexact HR
    iexists W; iexact HW

/-- The state after step `f` of block `b`. -/
def next (b f : ℕ) : sProp 𝕄 := if f = 42 then state c X G1 G2 WG WU WD (b + 1) 0 else state c X G1 G2 WG WU WD b (f + 1)

/-- The last stage, at any step. -/
theorem stageD_all (W : Waits sig Unit) (K : PUnit → sProp 𝕄) :
    iprop((owns (c : Thread nD τ) arg7 fullShare G2 ∗ held c X G1 WG WU WD (i 0).val ((i 1).val + 1) ∗ rAny c
          ∗ (if (i 1).val = 0 then rest0 c X G1 G2 WG WU WD (i 0).val else rest1 c X G1 G2 WG WU WD (i 0).val) ∗ owes (c : Thread nD τ) 0 W)
        ∗ (iprop(owns (c : Thread nD τ) arg7 fullShare G2 ∗ next c X G1 G2 WG WU WD (i 0).val (i 1).val ∗ ∃ W, owes (c : Thread nD τ) 0 W) -∗ K ⟨⟩))
      ⊢ wp frame (wpE (defs₀ (F := F)) Variants.none (c : Thread nD τ) none) Set.univ (stageD i arg3 harg3 arg4 harg4 arg5 harg5 arg6 harg6 arg7 harg7) K := by
  have hb8 : (i 0).val < 8 := (i 0).isLt
  by_cases h1 : (i 1).val = 42
  · unfold next; rw [if_pos h1, if_neg (show (i 1).val ≠ 0 by omega)]
    unfold state; rw [if_pos rfl]
    unfold rest1 start held; rw [if_neg (show (i 0).val + 1 ≠ 0 by omega)]
    rw [show (i 1).val + 1 = 43 by omega]
    by_cases h7 : (i 0).val = 7
    · rw [if_pos h7, if_pos (show (i 0).val + 1 = 8 by omega), show (8 : ℕ) = (i 0).val + 1 by omega, ysDone_put c X G1 WG WU WD (i 0).val hb8, ysRaw_take c (i 0).val hb8]
      rw [show sl 1 = sl (i 0).val from Fin.ext (by show 1 % 2 = (i 0).val % 2; omega), show sl 0 = sl ((i 0).val + 1) from Fin.ext (by show 0 % 2 = ((i 0).val + 1) % 2; omega)]
      unfold free nRest
      rw [nsDone_put c X G1 G2 WG WU WD (i 0).val hb8, nsRaw_take c (i 0).val hb8]
      rw [← row_eq, ← cur_eq]
      iintro ⟨⟨H7, ⟨HS, ⟨HX, HY⟩, HH⟩, HRr, ⟨HF, HXS, HD, ⟨HYP, HR⟩, HN0, HN1, HND, ⟨⟨HP0, HP1⟩, HNR⟩⟩, HW⟩, Hk⟩
      iapply (stageD_last c i arg3 harg3 arg4 harg4 arg5 harg5 arg6 harg6 arg7 harg7 G2 _ h1 h7 W K)
      isplitl [H7 HS HRr HH HN0 HN1 HP0 HP1 HY HYP HW]
      · isplitl [H7]; · iexact H7
        isplitl [HS]; · iexact HS
        isplitl [HRr]; · iexact HRr
        isplitl [HH]
        · unfold owns; icases HH with ⟨%fh, -, HH⟩; iexists fh; iexact HH
        isplitl [HN0]; · iexact HN0
        isplitl [HN1]; · iexact HN1
        isplitl [HP0]; · iexact HP0
        isplitl [HP1]; · iexact HP1
        isplitl [HY]; · iexact HY
        isplitl [HYP]; · iexact HYP
        iexact HW
      iintro ⟨H7, HRr, HH, HN0, HN1, HO0, HO1, HO, HS, HY, HW⟩
      iapply Hk
      isplitl [H7]; · iexact H7
      isplitr [HW]
      · isplitr [HRr]
        · isplitl [HF]; · iexact HF
          isplitl [HS HX HY]
          · isplitl [HS]; · iexact HS
            isplitl [HX]; · iexact HX
            iexact HY
          isplitl [HXS]; · iexact HXS
          isplitl [HO HD]
          · isplitl [HO]; · iexact HO
            iexact HD
          isplitl [HR]; · iexact HR
          isplitr [HH]
          · isplitl [HN0]; · iexact HN0
            isplitl [HN1]; · iexact HN1
            isplitr [HNR]
            · isplitl [HO0 HO1]
              · isplitl [HO0]; · iexact HO0
                iexact HO1
              iexact HND
            iexact HNR
          iexact HH
        iexact HRr
      iexact HW
    · rw [if_neg h7, if_neg (show (i 0).val + 1 ≠ 8 by omega), sl_two, Nat.add_sub_cancel]
      unfold nRest nGoes
      rw [nsRaw_take c (i 0).val hb8]
      rw [← row_eq, ← cur_eq]
      iintro ⟨⟨H7, ⟨HS, ⟨HX, HY⟩, HH⟩, HRr, ⟨HF, HXS, HD, HYR, HN0, HN1, HND, ⟨⟨HP0, HP1⟩, HNR⟩⟩, HW⟩, Hk⟩
      iapply (stageD_mid c i arg3 harg3 arg4 harg4 arg5 harg5 arg6 harg6 arg7 harg7 G2 _ h1 (by omega) K)
      isplitl [H7 HS HRr HH HN0 HN1 HP0 HP1]
      · isplitl [H7]; · iexact H7
        isplitl [HS]; · iexact HS
        isplitl [HRr]; · iexact HRr
        isplitl [HH]
        · unfold owns; icases HH with ⟨%fh, -, HH⟩; iexists fh; iexact HH
        isplitl [HN0]; · iexact HN0
        isplitl [HN1]; · iexact HN1
        isplitl [HP0]; · iexact HP0
        iexact HP1
      iintro ⟨H7, HS, HRr, HN0, HN1⟩
      iapply Hk
      isplitl [H7]; · iexact H7
      isplitr [HW]
      · isplitr [HRr]
        · isplitl [HF]; · iexact HF
          isplitl [HS HX HY]
          · isplitl [HS]; · iexact HS
            isplitl [HX]; · iexact HX
            iexact HY
          isplitl [HXS]; · iexact HXS
          isplitl [HD]; · iexact HD
          isplitl [HYR]; · iexact HYR
          isplitl [HN0]; · iexact HN0
          isplitl [HN1]; · iexact HN1
          isplitl [HND]; · iexact HND
          iexact HNR
        iexact HRr
      iexists W; iexact HW
  · refine BIBase.Entails.trans ?_ (stageD_skip c i arg3 harg3 arg4 harg4 arg5 harg5 arg6 harg6 arg7 harg7 h1 Set.univ K)
    unfold next; rw [if_neg h1]
    unfold state; rw [if_neg (Nat.succ_ne_zero _)]
    have e : (if (i 1).val + 1 = 1 then rest0 c X G1 G2 WG WU WD (i 0).val else rest1 c X G1 G2 WG WU WD (i 0).val : sProp 𝕄)
        = if (i 1).val = 0 then rest0 c X G1 G2 WG WU WD (i 0).val else rest1 c X G1 G2 WG WU WD (i 0).val := by
      by_cases h : (i 1).val = 0
      · rw [if_pos h, if_pos (by omega)]
      · rw [if_neg h, if_neg (by omega)]
    rw [e]
    iintro ⟨⟨H7, HH, HRr, HR, HW⟩, Hk⟩
    iapply Hk
    isplitl [H7]; · iexact H7
    isplitr [HW]
    · isplitl [HH]; · iexact HH
      isplitl [HRr]; · iexact HRr
      iexact HR
    iexists W; iexact HW

/-- One grid step. -/
theorem body_all (W : Waits sig Unit) (K : PUnit → sProp 𝕄) :
    iprop((owns (c : Thread nD τ) arg3 fullShare G1 ∗ owns (c : Thread nD τ) arg4 fullShare (WG (i 1).val) ∗ owns (c : Thread nD τ) arg5 fullShare (WU (i 1).val) ∗ owns (c : Thread nD τ) arg6 fullShare (WD (i 1).val) ∗ owns (c : Thread nD τ) arg7 fullShare G2
          ∗ state c X G1 G2 WG WU WD (i 0).val (i 1).val ∗ owes (c : Thread nD τ) 0 W)
        ∗ (iprop(owns (c : Thread nD τ) arg3 fullShare G1 ∗ owns (c : Thread nD τ) arg4 fullShare (WG (i 1).val) ∗ owns (c : Thread nD τ) arg5 fullShare (WU (i 1).val) ∗ owns (c : Thread nD τ) arg6 fullShare (WD (i 1).val) ∗ owns (c : Thread nD τ) arg7 fullShare G2
          ∗ next c X G1 G2 WG WU WD (i 0).val (i 1).val ∗ ∃ W, owes (c : Thread nD τ) 0 W) -∗ K ⟨⟩))
      ⊢ wp frame (wpE (defs₀ (F := F)) Variants.none (c : Thread nD τ) none) Set.univ (bodyG i arg3 harg3 arg4 harg4 arg5 harg5 arg6 harg6 arg7 harg7) K := by
  rw [bodyG_stages, wp_bind]
  iintro ⟨⟨H3, H4, H5, H6, H7, HΦ, HW⟩, Hk⟩
  iapply (stageA_all c X G1 G2 WG WU WD i arg3 harg3 arg4 harg4 arg5 harg5 arg6 harg6 arg7 harg7 W _)
  isplitl [H3 HΦ HW]
  · isplitl [H3]; · iexact H3
    isplitl [HΦ]; · iexact HΦ
    iexact HW
  iintro ⟨H3, HH, HRr, HR, ⟨%W1, HW⟩⟩
  irw [wp_bind]
  iapply (stageB_all c X G1 G2 WG WU WD i arg3 harg3 arg4 harg4 arg5 harg5 arg6 harg6 arg7 harg7 W1 _)
  isplitl [HR HW]
  · isplitl [HR]; · iexact HR
    iexact HW
  iintro ⟨HR, ⟨%W2, HW⟩⟩
  irw [wp_bind]
  unfold held
  icases HH with ⟨HS, HC, HH⟩
  iapply (stageC_run c i arg3 harg3 arg4 harg4 arg5 harg5 arg6 harg6 arg7 harg7 (hOf c X G1 (i 0).val) (WG (i 1).val) (WU (i 1).val) (WD (i 1).val) (acc c X G1 WG WU WD (i 0).val (i 1).val) Set.univ _)
  isplitl [HH H4 H5 H6 HS]
  · isplitl [HH]; · iexact HH
    isplitl [H4]; · iexact H4
    isplitl [H5]; · iexact H5
    isplitl [H6]; · iexact H6
    iexact HS
  iintro ⟨HH, H4, H5, H6, HS⟩
  iapply (stageD_all c X G1 G2 WG WU WD i arg3 harg3 arg4 harg4 arg5 harg5 arg6 harg6 arg7 harg7 W2 _)
  isplitl [H7 HS HC HH HRr HR HW]
  · isplitl [H7]; · iexact H7
    isplitl [HS HC HH]
    · unfold held
      isplitl [HS]; · iexact HS
      isplitl [HC]; · iexact HC
      iexact HH
    isplitl [HRr]; · iexact HRr
    isplitl [HR]; · iexact HR
    iexact HW
  iintro ⟨H7, HΦ, HW⟩
  iapply Hk
  isplitl [H3]; · iexact H3
  isplitl [H4]; · iexact H4
  isplitl [H5]; · iexact H5
  isplitl [H6]; · iexact H6
  isplitl [H7]; · iexact H7
  isplitl [HΦ]; · iexact HΦ
  iexact HW

end State

end Cert.Kernel3Ideal.Ffn1
end
-- ==== Proof.Ffn1Run.lean ====
/- The first feed-forward kernel run over its grid: what it leaves in its two outputs, and that its inputs are unchanged. -/
module

public import proofs.«01_k».proof.Proof.Ffn1State
public import proofs.«01_k».proof.Proof.Gen.Kernel3Ideal.Frame
public import Idealize.ShloMosaic.Lib.Pipeline.KitQuiescent
public import Idealize.ShloMosaic.Lib.Pipeline.Value
public import Idealize.ShloMosaic.Lib.Pipeline.ValueKit

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The operands as the steps read them -/

abbrev xOf (c : Dev nD) : Buf (Elt F) (xM.view.loc (c : Thread nD τ)) := V m c main_v0
abbrev g1Of (c : Dev nD) : Vec F S1x4096 .f32 := V m c main_v2
abbrev g2Of (c : Dev nD) : Vec F S1x4096 .f32 := V m c main_v8
theorem upOff_inb (k : ℕ) : ∀ a, (![0, 256 * (k % 43)] : Fin 2 → Nat) a + S4096x256.size a ≤ S4096x11008.size a := by
  intro a; fin_cases a
  · show 0 + 4096 ≤ 4096; omega
  · show 256 * (k % 43) + 256 ≤ 11008; omega
theorem downOff_inb (k : ℕ) : ∀ a, (![256 * (k % 43), 0] : Fin 2 → Nat) a + S256x4096.size a ≤ S11008x4096.size a := by
  intro a; fin_cases a
  · show 256 * (k % 43) + 256 ≤ 11008; omega
  · show 0 + 4096 ≤ 4096; omega
/-- The columns of the gate and of the up projection for step `k`, and the rows of the down projection. -/
def wgOf (c : Dev nD) (k : ℕ) : Vec F S4096x256 .bf16 := VecWindow.window (V m c main_v4 : S4096x11008.Idx → Elt F .bf16) ![0, 256 * (k % 43)] S4096x256.size (upOff_inb k)
def wuOf (c : Dev nD) (k : ℕ) : Vec F S4096x256 .f32 := VecWindow.window (V m c main_v5 : S4096x11008.Idx → Elt F .f32) ![0, 256 * (k % 43)] S4096x256.size (upOff_inb k)
def wdOf (c : Dev nD) (k : ℕ) : Vec F S256x4096 .f32 := VecWindow.window (V m c main_v6 : S11008x4096.Idx → Elt F .f32) ![256 * (k % 43), 0] S256x4096.size (downOff_inb k)

theorem idx_all : ∀ t : Fin cfg0.N, win0_0.index t = ![0, 0] ∧ win0_1.index t = ![0, t.val % 43] ∧ win0_2.index t = ![0, t.val % 43] ∧ win0_3.index t = ![t.val % 43, 0] ∧ win0_4.index t = ![0, 0] :=
  (by decide +kernel : ∀ t : Fin grid0.N, win0_0.index t = ![0, 0] ∧ win0_1.index t = ![0, t.val % 43] ∧ win0_2.index t = ![0, t.val % 43] ∧ win0_3.index t = ![t.val % 43, 0] ∧ win0_4.index t = ![0, 0])
theorem coords_all : ∀ t : Fin cfg0.N, ((grid0.coords t) 0).val = t.val / 43 ∧ ((grid0.coords t) 1).val = t.val % 43 :=
  (by decide +kernel : ∀ t : Fin grid0.N, ((grid0.coords t) 0).val = t.val / 43 ∧ ((grid0.coords t) 1).val = t.val % 43)

theorem iblk_0 (c : Dev nD) (t : Fin cfg0.N) : iblk m c 0 t = g1Of m c := by
  funext y; blk_ext [iblk, (idx_all t).1]
theorem iblk_4 (c : Dev nD) (t : Fin cfg0.N) : iblk m c 4 t = g2Of m c := by
  funext y; blk_ext [iblk, (idx_all t).2.2.2.2]
theorem iblk_1 (c : Dev nD) (t : Fin cfg0.N) : iblk m c 1 t = wgOf m c (t.val % 43) := by
  funext y; unfold wgOf VecWindow.window; blk_ext [iblk, (idx_all t).2.1]
theorem iblk_2 (c : Dev nD) (t : Fin cfg0.N) : iblk m c 2 t = wuOf m c (t.val % 43) := by
  funext y; unfold wuOf VecWindow.window; blk_ext [iblk, (idx_all t).2.2.1]
theorem iblk_3 (c : Dev nD) (t : Fin cfg0.N) : iblk m c 3 t = wdOf m c (t.val % 43) := by
  funext y; unfold wdOf VecWindow.window; blk_ext [iblk, (idx_all t).2.2.2.1]

/-! ## The proof data -/

/-- The state with the operands put in. -/
abbrev stateOf (c : Dev nD) (b f : ℕ) : sProp 𝕄 := state c (xOf m c) (g1Of m c) (g2Of m c) (wgOf m c) (wuOf m c) (wdOf m c) b f
/-- The finished rows of block `b`. -/
abbrev finOf (c : Dev nD) (b : ℕ) : S1024x4096.Idx → Elt F .f32 := fin c (xOf m c) (g1Of m c) (wgOf m c) (wuOf m c) (wdOf m c) b

def dats (_ : Fin 1) (c : Dev nD) : Dat τ (Elt F) Unit ℕ (UU nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
  Φ t := stateOf m c (t.val / 43) (t.val % 43)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The data's states step as one grid step does. -/
theorem next_eq (c : Dev nD) (t : Fin cfg0.N) :
    next c (xOf m c) (g1Of m c) (g2Of m c) (wgOf m c) (wuOf m c) (wdOf m c) (t.val / 43) (t.val % 43) = stateOf m c ((t.val + 1) / 43) ((t.val + 1) % 43) := by
  unfold next
  by_cases h : t.val % 43 = 42
  · rw [if_pos h, show (t.val + 1) / 43 = t.val / 43 + 1 by omega, show (t.val + 1) % 43 = 0 by omega]
  · rw [if_neg h, show (t.val + 1) / 43 = t.val / 43 by omega, show (t.val + 1) % 43 = t.val % 43 + 1 by omega]

theorem prog_eq (t : Fin cfg0.N) : defs₀ (F := F) .tc cfg0.body (cfg0.bodyArgs t (cfg0.slots t)) = bodyAt0 t := by
  unfold defs₀; rw [Defs.onTc_tc]

set_option backward.isDefEq.respectTransparency.types false in
set_option maxHeartbeats 400000 in
theorem body_obligation (c : Dev nD) : BodyObligation (dats (F := F) m 0 c) (defs₀ (F := F)) Variants.none () Set.univ := fun t => by
  rw [bigSep_W0, bigSep_W0, prog_eq]
  dsimp only
  simp only [before_0, before_1, before_2, before_3, before_4, after_0, after_1, after_2, after_3, after_4, iblk_0, iblk_1, iblk_2, iblk_3, iblk_4]
  rw [show (dats m 0 c).Φ t.castSucc = stateOf m c (t.val / 43) (t.val % 43) from rfl, show (dats m 0 c).Φ t.succ = stateOf m c ((t.val + 1) / 43) ((t.val + 1) % 43) from rfl]
  unfold Dat.owesAt Pipeline.owesWithin
  rw [show (dats m 0 c).owed t.castSucc = 0 from rfl, show (dats m 0 c).owed t.succ = 0 from rfl]
  have hbody := body_all c (xOf m c) (g1Of m c) (g2Of m c) (wgOf m c) (wuOf m c) (wdOf m c) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
  rw [(coords_all t).1, (coords_all t).2, next_eq] at hbody
  iintro ⟨HΦ, ⟨%W, -, HW⟩, ⟨%d0, H3⟩, ⟨%d1, H4⟩, ⟨%d2, H5⟩, ⟨%d3, H6⟩, ⟨%d4, H7⟩⟩
  iapply (hbody W _)
  isplitl [H3 H4 H5 H6 H7 HΦ HW]
  · isplitl [H3]; · iexact H3
    isplitl [H4]; · iexact H4
    isplitl [H5]; · iexact H5
    isplitl [H6]; · iexact H6
    isplitl [H7]; · iexact H7
    isplitl [HΦ]; · iexact HΦ
    iexact HW
  iintro ⟨H3, H4, H5, H6, H7, HΦ, ⟨%W', HW⟩⟩
  isplitl [HΦ]; · iexact HΦ
  isplitl [HW]
  · iexists W'; isplitr; · ipureintro; exact fun _ _ => Or.inl trivial
    iexact HW
  isplitl [H3]; · iexact H3
  isplitl [H4]; · iexact H4
  isplitl [H5]; · iexact H5
  isplitl [H6]; · iexact H6
  iexact H7

/-! ## Element sets: the row blocks, the two slots -/

abbrev R8 (b : Fin 8) : Finset S8192x4096.Idx := (Rect.unit (s := S8192x4096) (rowOff b) S1024x4096.size (rowOff_inb b)).set
abbrev S2s (s : Fin 2) : Finset S2x1024x4096.Idx := (Rect.unit (s := S2x1024x4096) (slotOff s) S1x1024x4096.size (slotOff_inb s)).set

omit [FloatOps F] in
theorem xT_set (b : Fin 8) : (xT b).view.set = R8 b := View.set_slice_whole _ _
omit [FloatOps F] in
theorem yT_set (b : Fin 8) : (yT b).view.set = R8 b := View.set_slice_whole _ _
omit [FloatOps F] in
theorem slot_set (s : Fin 2) : (slot s).view.set = S2s s := (View.set_reshape _ _).trans (View.set_slice_whole _ _)

theorem mem_R8 (b : Fin 8) (y : S8192x4096.Idx) : y ∈ R8 b ↔ (y 0).val / 1024 = b.val := by
  rw [Rect.mem_set_unit]
  have h1 : (y 1).val < 4096 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 4096; omega
theorem mem_S2s (s : Fin 2) (y : S2x1024x4096.Idx) : y ∈ S2s s ↔ (y 0).val = s.val := by
  rw [Rect.mem_set_unit]
  have h1 : (y 1).val < 1024 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4096; omega
theorem R8_disjoint : ∀ b b' : Fin 8, b ≠ b' → Disjoint (R8 b) (R8 b') := by
  intro b b' hne; rw [Finset.disjoint_left]; intro y hy hy'; rw [mem_R8] at hy hy'; exact hne (Fin.ext (hy.symm.trans hy'))
theorem R8_cover : (Finset.univ : Finset (Fin 8)).biUnion R8 = Finset.univ := by
  ext y; simp only [Finset.mem_biUnion, Finset.mem_univ, true_and, iff_true]
  exact ⟨⟨(y 0).val / 1024, by have : (y 0).val < 8192 := (y 0).isLt; omega⟩, by rw [mem_R8]⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]
  exact ⟨⟨(y 0).val, (y 0).isLt⟩, by rw [mem_S2s]⟩

/-! ## Whole buffers from their pieces -/

omit [FloatOps F] in
theorem sep6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), (1 : Fin 6), (2 : Fin 6), (3 : Fin 6), (4 : Fin 6), (5 : Fin 6)] (by decide) (by decide) Φ

omit [FloatOps F] in
theorem slot_eq (c : Dev nD) (s : Fin 2) (f) : slotP c s f = (((c : Thread nD τ).loc cc0_scratch0) ↦[S2s s]{fullShare} f : sProp 𝕄) :=
  congrArg (fun S => (_ ↦[S]{fullShare} f : sProp 𝕄)) (slot_set s)
omit [FloatOps F] in
theorem slots_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (of_eq ((Ring.pointsTo_blocks (Ix := Unit) (Name := ℕ) (U := UU nD τ) (Lvl := ℕ) (q := fullShare) (ℓ := (c : Thread nD τ).loc cc0_scratch0) S2s S2s_disjoint S2s_cover f).trans (sep2 _))) $$ H
  icases H2 with ⟨H0, H1⟩
  isplitl [H0]
  · iexists f; iapply (of_eq (slot_eq c 0 f).symm); iexact H0
  · iexists f; iapply (of_eq (slot_eq c 1 f).symm); iexact H1
theorem slots_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) S2s S2s_disjoint S2s_cover f0)
  irw [sep2]
  isplitl [H0]
  · iexists f0; iapply (of_eq (slot_eq c 0 f0)); iexact H0
  · iexists f1; iapply (of_eq (slot_eq c 1 f1)); iexact H1

/-- The input whole is its eight row blocks. -/
theorem xs_whole (c : Dev nD) : (((c : Thread nD τ).loc main_v0) ↦{fullShare} V m c main_v0 : sProp 𝕄) = xs c (xOf m c) 8 := by
  rw [Ring.pointsTo_blocks (ℓ := (c : Thread nD τ).loc main_v0) R8 R8_disjoint R8_cover]
  unfold xs
  rw [show (Finset.univ.filter fun j : Fin 8 => j.val ≠ 8) = Finset.univ from Finset.filter_true_of_mem fun j _ => by have := j.isLt; omega]
  exact bigSep_congr fun b _ => by rw [← xT_set]; rfl

/-- The output: each row block its finished rows. -/
def Yfull (c : Dev nD) : Buf (Elt F) ((c : Thread nD τ).loc main_v9_0) := fun y : S8192x4096.Idx =>
  finOf m c ((y 0).val / 1024) fun a => match a with
    | ⟨0, _⟩ => ⟨(y 0).val % 1024, Nat.mod_lt _ (by decide)⟩
    | ⟨1, _⟩ => ⟨(y 1).val, (y 1).isLt⟩

theorem Yfull_read (c : Dev nD) (b : Fin 8) : (yT b).view.read (Elt F) (Yfull m c) = finOf m c b.val := by
  funext y
  have h0 : (y 0).val < 1024 := (y 0).isLt
  show finOf m c ((1024 * b.val + 1 * (y 0).val) / 1024) _ = _
  rw [show (1024 * b.val + 1 * (y 0).val) / 1024 = b.val by omega]
  refine congrArg (finOf m c b.val) (funext fun a => Fin.ext ?_)
  match a with
  | ⟨0, _⟩ => show (1024 * b.val + 1 * (y 0).val) % 1024 = (y 0).val; omega
  | ⟨1, _⟩ => show 0 + 1 * (y 1).val = (y 1).val; omega

theorem y_same (c : Dev nD) (b : Fin 8) (f g : Buf (Elt F) ((yT b).view.loc (c : Thread nD τ))) (h : (yT b).view.read (Elt F) f = (yT b).view.read (Elt F) g) :
    (yP c b f : sProp 𝕄) = yP c b g := by
  unfold yP
  rw [pointsTo_rep (c : Thread nD τ) (yT b) f fullShare, pointsTo_rep (c : Thread nD τ) (yT b) g fullShare, h]
theorem y_done (c : Dev nD) (b : Fin 8) : owns (c : Thread nD τ) (yT b) fullShare (finOf m c b.val) ⊢ (yP c b (Yfull m c) : sProp 𝕄) := by
  unfold owns
  iintro ⟨%g, %hg, H⟩
  iapply (of_eq (y_same c b g (Yfull m c) (hg.trans (Yfull_read m c b).symm)))
  iexact H

omit [FloatOps F] in
theorem y_any (c : Dev nD) (b : Fin 8) (f) : (yP c b f : sProp 𝕄) ⊢ iprop(∃ f, yP (F := F) c b f) := by
  iintro H; iexists f; iexact H
theorem ys_start (c : Dev nD) : (((c : Thread nD τ).loc main_v9_0) ↦{fullShare} V m c main_v9_0 : sProp 𝕄) ⊢ ysRaw c 0 := by
  rw [Ring.pointsTo_blocks (ℓ := (c : Thread nD τ).loc main_v9_0) R8 R8_disjoint R8_cover]
  unfold ysRaw
  rw [show (Finset.univ.filter fun j : Fin 8 => 0 ≤ j.val) = Finset.univ from Finset.filter_true_of_mem fun j _ => Nat.zero_le _]
  refine bigSep_mono fun b _ => ?_
  rw [← yT_set]
  exact y_any c b (V m c main_v9_0)
theorem ys_end (c : Dev nD) : ysDone c (xOf m c) (g1Of m c) (wgOf m c) (wuOf m c) (wdOf m c) 8 ⊢ (((c : Thread nD τ).loc main_v9_0) ↦{fullShare} Yfull m c : sProp 𝕄) := by
  rw [Ring.pointsTo_blocks (ℓ := (c : Thread nD τ).loc main_v9_0) R8 R8_disjoint R8_cover]
  unfold ysDone
  rw [show (Finset.univ.filter fun j : Fin 8 => j.val < 8) = Finset.univ from Finset.filter_true_of_mem fun j _ => j.isLt]
  refine bigSep_mono fun b _ => ?_
  rw [← yT_set]
  exact y_done m c b
theorem ysDone_nil (c : Dev nD) : (ysDone c (xOf m c) (g1Of m c) (wgOf m c) (wuOf m c) (wdOf m c) 0 : sProp 𝕄) = BI.emp := by
  unfold ysDone
  rw [show (Finset.univ.filter fun j : Fin 8 => j.val < 0) = ∅ from Finset.filter_false_of_mem fun j _ => by omega, bigSep_empty]

/-! ## The normalised output: sixteen half blocks -/

abbrev RH (p : Fin 8 × Fin 2) : Finset S8192x4096.Idx := (Rect.unit (s := S8192x4096) (halfOff p.1 p.2) S512x4096.size (halfOff_inb p.1 p.2)).set
omit [FloatOps F] in
theorem nT_set (b : Fin 8) (r : Fin 2) : (nT b r).view.set = RH (b, r) := View.set_slice_whole _ _
theorem mem_RH (p : Fin 8 × Fin 2) (y : S8192x4096.Idx) : y ∈ RH p ↔ (y 0).val / 1024 = p.1.val ∧ (y 0).val % 1024 / 512 = p.2.val := by
  rw [Rect.mem_set_unit]
  have h1 : (y 1).val < 4096 := (y 1).isLt
  have hr : p.2.val < 2 := p.2.isLt
  constructor
  · intro H; have a0 : 1024 * p.1.val + 512 * p.2.val ≤ (y 0).val ∧ (y 0).val < 1024 * p.1.val + 512 * p.2.val + 512 := H 0; omega
  · rintro ⟨H, H'⟩ i; fin_cases i
    · show 1024 * p.1.val + 512 * p.2.val ≤ (y 0).val ∧ (y 0).val < 1024 * p.1.val + 512 * p.2.val + 512; omega
    · show 0 ≤ (y 1).val ∧ (y 1).val < 0 + 4096; omega
theorem RH_disjoint : ∀ p p' : Fin 8 × Fin 2, p ≠ p' → Disjoint (RH p) (RH p') := by
  intro p p' hne; rw [Finset.disjoint_left]; intro y hy hy'; rw [mem_RH] at hy hy'
  exact hne (Prod.ext (Fin.ext (hy.1.symm.trans hy'.1)) (Fin.ext (hy.2.symm.trans hy'.2)))
theorem RH_cover : (Finset.univ : Finset (Fin 8 × Fin 2)).biUnion RH = Finset.univ := by
  ext y; simp only [Finset.mem_biUnion, Finset.mem_univ, true_and, iff_true]
  refine ⟨(⟨(y 0).val / 1024, by have : (y 0).val < 8192 := (y 0).isLt; omega⟩, ⟨(y 0).val % 1024 / 512, by omega⟩), ?_⟩
  rw [mem_RH]; exact ⟨rfl, rfl⟩

/-- The normalised form of the finished rows of block `b`. -/
abbrev nfinOf (c : Dev nD) (b : ℕ) : S1024x4096.Idx → Elt F .bf16 := nval (g2Of m c) (finOf m c b)
/-- The normalised output: each row block its finished rows normalised. -/
def Nfull (c : Dev nD) : Buf (Elt F) ((c : Thread nD τ).loc main_v9_1) := fun y : S8192x4096.Idx =>
  nfinOf m c ((y 0).val / 1024) fun a => match a with
    | ⟨0, _⟩ => ⟨(y 0).val % 1024, Nat.mod_lt _ (by decide)⟩
    | ⟨1, _⟩ => ⟨(y 1).val, (y 1).isLt⟩

theorem Nfull_read (c : Dev nD) (b : Fin 8) (r : Fin 2) : (nT b r).view.read (Elt F) (Nfull m c) = nfin c (xOf m c) (g1Of m c) (g2Of m c) (wgOf m c) (wuOf m c) (wdOf m c) b.val r := by
  funext y
  have h0 : (y 0).val < 512 := (y 0).isLt
  have hr : r.val < 2 := r.isLt
  show nfinOf m c ((1024 * b.val + 512 * r.val + 1 * (y 0).val) / 1024) _ = _
  rw [show (1024 * b.val + 512 * r.val + 1 * (y 0).val) / 1024 = b.val by omega]
  refine congrArg (nfinOf m c b.val) (funext fun a => Fin.ext ?_)
  match a with
  | ⟨0, _⟩ => show (1024 * b.val + 512 * r.val + 1 * (y 0).val) % 1024 = 512 * r.val + 1 * (y 0).val; omega
  | ⟨1, _⟩ => rfl

theorem n_same (c : Dev nD) (b : Fin 8) (r : Fin 2) (f g : Buf (Elt F) ((nT b r).view.loc (c : Thread nD τ))) (h : (nT b r).view.read (Elt F) f = (nT b r).view.read (Elt F) g) :
    (nP c b r f : sProp 𝕄) = nP c b r g := by
  unfold nP
  rw [pointsTo_rep (c : Thread nD τ) (nT b r) f fullShare, pointsTo_rep (c : Thread nD τ) (nT b r) g fullShare, h]
theorem n_done (c : Dev nD) (b : Fin 8) (r : Fin 2) : owns (c : Thread nD τ) (nT b r) fullShare (nfin c (xOf m c) (g1Of m c) (g2Of m c) (wgOf m c) (wuOf m c) (wdOf m c) b.val r) ⊢ (nP c b r (Nfull m c) : sProp 𝕄) := by
  unfold owns
  iintro ⟨%g, %hg, H⟩
  iapply (of_eq (n_same c b r g (Nfull m c) (hg.trans (Nfull_read m c b r).symm)))
  iexact H
omit [FloatOps F] in
theorem n_whole (c : Dev nD) (f : Buf (Elt F) ((c : Thread nD τ).loc main_v9_1)) :
    (((c : Thread nD τ).loc main_v9_1) ↦{fullShare} f : sProp 𝕄) = bigSep Finset.univ fun b : Fin 8 => iprop(nP c b 0 f ∗ nP c b 1 f) := by
  rw [Ring.pointsTo_blocks (ℓ := (c : Thread nD τ).loc main_v9_1) RH RH_disjoint RH_cover, bigSep_univ_prod]
  refine bigSep_congr fun b _ => ?_
  rw [sep2, ← nT_set, ← nT_set]; rfl
omit [FloatOps F] in
theorem n_any (c : Dev nD) (b : Fin 8) (f g) : iprop(nP c b 0 f ∗ nP c b 1 g) ⊢ (iprop((∃ f, nP (F := F) c b 0 f) ∗ (∃ f, nP (F := F) c b 1 f)) : sProp 𝕄) := by
  iintro ⟨H0, H1⟩
  isplitl [H0]
  · iexists f; iexact H0
  · iexists g; iexact H1
theorem ns_start (c : Dev nD) : (((c : Thread nD τ).loc main_v9_1) ↦{fullShare} V m c main_v9_1 : sProp 𝕄) ⊢ nsRaw c 0 := by
  rw [n_whole]
  unfold nsRaw
  rw [show (Finset.univ.filter fun j : Fin 8 => 0 ≤ j.val) = Finset.univ from Finset.filter_true_of_mem fun j _ => Nat.zero_le _]
  exact bigSep_mono fun b _ => n_any c b (V m c main_v9_1) (V m c main_v9_1)
theorem n_done2 (c : Dev nD) (b : Fin 8) : iprop(owns (c : Thread nD τ) (nT b 0) fullShare (nfin c (xOf m c) (g1Of m c) (g2Of m c) (wgOf m c) (wuOf m c) (wdOf m c) b.val 0) ∗ owns (c : Thread nD τ) (nT b 1) fullShare (nfin c (xOf m c) (g1Of m c) (g2Of m c) (wgOf m c) (wuOf m c) (wdOf m c) b.val 1))
    ⊢ (iprop(nP c b 0 (Nfull m c) ∗ nP c b 1 (Nfull m c)) : sProp 𝕄) := by
  iintro ⟨H0, H1⟩
  isplitl [H0]
  · iapply (n_done m c b 0); iexact H0
  · iapply (n_done m c b 1); iexact H1
theorem ns_end (c : Dev nD) : nsDone c (xOf m c) (g1Of m c) (g2Of m c) (wgOf m c) (wuOf m c) (wdOf m c) 8 ⊢ (((c : Thread nD τ).loc main_v9_1) ↦{fullShare} Nfull m c : sProp 𝕄) := by
  rw [n_whole]
  unfold nsDone
  rw [show (Finset.univ.filter fun j : Fin 8 => j.val < 8) = Finset.univ from Finset.filter_true_of_mem fun j _ => j.isLt]
  exact bigSep_mono fun b _ => n_done2 m c b
theorem nsDone_nil (c : Dev nD) : (nsDone c (xOf m c) (g1Of m c) (g2Of m c) (wgOf m c) (wuOf m c) (wdOf m c) 0 : sProp 𝕄) = BI.emp := by
  unfold nsDone
  rw [show (Finset.univ.filter fun j : Fin 8 => j.val < 0) = ∅ from Finset.filter_false_of_mem fun j _ => by omega, bigSep_empty]

/-! ## The run -/

def osem : Fin 6 → SemLoc sig := ![.dma (xc 0).sem, .dma (xc 1).sem, .dma (yc 0).sem, .dma (yc 1).sem, .dma (nc 0).sem, .dma (nc 1).sem]
theorem ownSemFacts : Pipeline.OwnSemFacts spec0 osem := by decide
omit [FloatOps F] in
theorem ownSems0_eq (c : Dev nD) : (Pipeline.ownSems0 (Ix := Unit) (Name := ℕ) (U := UU nD τ) (Lvl := ℕ) (Val := Elt F) (τ := τ) osem c : sProp 𝕄)
    = iprop(xcP c 0 ∗ xcP c 1 ∗ ycP c 0 ∗ ycP c 1 ∗ ncP c 0 ∗ ncP c 1) := by
  unfold Pipeline.ownSems0; rw [sep6]; rfl

def intoΦ (c : Dev nD) : sProp 𝕄 := iprop(xs c (xOf m c) 8 ∗ ysRaw c 0 ∗ nsRaw c 0 ∗ Pipeline.ownSems0 osem c)
def outOfΦ (c : Dev nD) : sProp 𝕄 := iprop((((c : Thread nD τ).loc main_v9_0) ↦{fullShare} Yfull m c) ∗ (((c : Thread nD τ).loc main_v9_1) ↦{fullShare} Nfull m c))
def restZ (c : Dev nD) : sProp 𝕄 := iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_v9_0) = Yfull m c ∧ s.mem ((c : Thread nD τ).loc main_v9_1) = Nfull m c
    ∧ s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem state_first (c : Dev nD) : (dats m 0 c).Φ 0 = iprop((free c 0 ∗ free c 1 ∗ xs c (xOf m c) 8 ∗ ysDone c (xOf m c) (g1Of m c) (wgOf m c) (wuOf m c) (wdOf m c) 0 ∗ ysRaw c 0 ∗ nRest c (xOf m c) (g1Of m c) (g2Of m c) (wgOf m c) (wuOf m c) (wdOf m c) 0 ∗ hAny c) ∗ rAny c) := rfl
theorem state_last (c : Dev nD) : (dats m 0 c).Φ (Fin.last cfg0.N) = iprop((free c 0 ∗ free c 1 ∗ xs c (xOf m c) 8 ∗ ysDone c (xOf m c) (g1Of m c) (wgOf m c) (wuOf m c) (wdOf m c) 8 ∗ ysRaw c 8 ∗ nRest c (xOf m c) (g1Of m c) (g2Of m c) (wgOf m c) (wuOf m c) (wdOf m c) 8 ∗ hAny c) ∗ rAny c) := by
  show stateOf m c 8 0 = _
  unfold stateOf state start
  rw [if_pos rfl, if_neg (by decide), if_pos rfl]; rfl

omit [FloatOps F] in
theorem r_eq (c : Dev nD) (f : Buf (Elt F) ((c : Thread nD τ).loc cc0_scratch2)) : (((c : Thread nD τ).loc cc0_scratch2) ↦{fullShare} f : sProp 𝕄) = rP c f := by
  unfold rP; rw [show rM.view.set = Finset.univ from View.set_whole _]

set_option backward.isDefEq.respectTransparency.types false in
/-- Every fair execution ends, with the outputs at `Yfull` and `Nfull`, the arrays the windows read and the other inputs as they
    were, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts embL defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ Variants.none m main hostOps0 hostOps0_sub hostOps0_fresh main_chain)
    (hA := fun _ _ => rfl)
    (X := intoΦ m) (Y := outOfΦ m) (Z := restZ m)
    (hX := fun c => by
      rw [unscopedRest0_eq, xs_whole m c]
      unfold intoΦ restZ
      iintro ⟨⟨A0, A1, A2, A3, A4, A5, H0, -, -, -, H3, H4⟩, HS, -, -, -⟩; imodintro
      isplitl [H0 H3 H4 HS]
      · isplitl [H0]; · iexact H0
        isplitl [H3]; · iapply (ys_start m c); iexact H3
        isplitl [H4]; · iapply (ns_start m c); iexact H4
        iexact HS
      isplitl [A0]; · iexact A0
      isplitl [A1]; · iexact A1
      isplitl [A2]; · iexact A2
      isplitl [A3]; · iexact A3
      isplitl [A4]; · iexact A4
      iexact A5)
    (hin := fun c => by
      rw [scopedRest0_eq, state_first, ysDone_nil]
      unfold intoΦ free nRest; rw [ownSems0_eq, nsDone_nil]
      iintro ⟨⟨H0, H3, H4, Hx0, Hx1, Hy0, Hy1, Hn0, Hn1⟩, Ha, ⟨%fh, Hh⟩, ⟨%fr, Hr⟩⟩
      ihave Hs := (slots_split c) $$ Ha
      icases Hs with ⟨Hs0, Hs1⟩
      isplitr [Hr]
      · isplitl [Hs0 Hx0 Hy0]
        · isplitl [Hs0]; · iexact Hs0
          isplitl [Hx0]; · iexact Hx0
          iexact Hy0
        isplitl [Hs1 Hx1 Hy1]
        · isplitl [Hs1]; · iexact Hs1
          isplitl [Hx1]; · iexact Hx1
          iexact Hy1
        isplitl [H0]; · iexact H0
        isplitr; · iempintro
        isplitl [H3]; · iexact H3
        isplitr [Hh]
        · isplitl [Hn0]; · iexact Hn0
          isplitl [Hn1]; · iexact Hn1
          isplitr; · iempintro
          iexact H4
        iexists fh; iapply (of_eq (h_eq c fh)); iexact Hh
      · iexists fr; iapply (of_eq (r_eq c fr)); iexact Hr)
    (hout := fun c => by
      rw [scopedRest0_eq, state_last, ownSems0_eq]
      unfold outOfΦ free nRest
      iintro ⟨⟨⟨Hs0, Hx0, Hy0⟩, ⟨Hs1, Hx1, Hy1⟩, -, H3, -, ⟨Hn0, Hn1, H4, -⟩, ⟨%fh, Hh⟩⟩, ⟨%fr, Hr⟩⟩
      isplitl [H3 H4]
      · isplitl [H3]; · iapply (ys_end m c); iexact H3
        iapply (ns_end m c); iexact H4
      isplitl [Hx0 Hx1 Hy0 Hy1 Hn0 Hn1]
      · isplitl [Hx0]; · iexact Hx0
        isplitl [Hx1]; · iexact Hx1
        isplitl [Hy0]; · iexact Hy0
        isplitl [Hy1]; · iexact Hy1
        isplitl [Hn0]; · iexact Hn0
        iexact Hn1
      isplitl [Hs0 Hs1]
      · iapply (slots_join c)
        isplitl [Hs0]; · iexact Hs0
        iexact Hs1
      isplitl [Hh]
      · iexists fh; iapply (of_eq (h_eq c fh).symm); iexact Hh
      · iexists fr; iapply (of_eq (r_eq c fr).symm); iexact Hr)
    (QY := QY m)
    (hY := fun c s' => by
      unfold outOfΦ restZ
      iintro ⟨⟨H3, H4⟩, ⟨A0, A1, A2, A3, A4, A5⟩, HSI⟩
      icombine HSI H3 gives %h3
      icombine HSI H4 gives %h4
      icombine HSI A0 gives %a0
      icombine HSI A1 gives %a1
      icombine HSI A2 gives %a2
      icombine HSI A3 gives %a3
      icombine HSI A4 gives %a4
      icombine HSI A5 gives %a5
      imodintro
      isplitr
      · ipureintro
        exact ⟨Buf.eq_of_forall_mem_univ h3, Buf.eq_of_forall_mem_univ h4, Buf.eq_of_forall_mem_univ a0, Buf.eq_of_forall_mem_univ a1, Buf.eq_of_forall_mem_univ a2, Buf.eq_of_forall_mem_univ a3, Buf.eq_of_forall_mem_univ a4, Buf.eq_of_forall_mem_univ a5⟩
      iexact HSI)
    (hQ := fun _ hh hz => ⟨hh, hz⟩)

/-- The run, read at the program's arrays: the outputs at `Yfull` and `Nfull`, every argument unchanged, every counter at zero. -/
theorem run : θ_run defs (onTc (τ := τ) (main (F := F))) ⟨m, fun _ => 0, ρ⟩ (fun r => (∀ c : Dev nD,
      r.2.mem ((c.tc : Thread nD τ).loc main_v9_0) = Yfull m c
      ∧ r.2.mem ((c.tc : Thread nD τ).loc main_v9_1) = Nfull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => by
    obtain ⟨-, h3, h4, a0, a1, a2, a3, a4, a5⟩ := h.1 c
    exact ⟨h3, h4, a0.trans (V_main_arg0 m c), a1.trans (V_main_arg1 m c), a2.trans (V_main_arg2 m c), a3.trans (V_main_arg3 m c), a4.trans (V_main_arg4 m c), a5.trans (V_main_arg5 m c)⟩, h.2⟩) (run_main m ρ)

/-- The frame: every argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (run m ρ)

/-- The contents alone. -/
theorem run_values : θ_run defs (onTc (τ := τ) (main (F := F))) ⟨m, fun _ => 0, ρ⟩ (fun r => ∀ c : Dev nD,
      r.2.mem ((c.tc : Thread nD τ).loc main_v9_0) = Yfull m c
      ∧ r.2.mem ((c.tc : Thread nD τ).loc main_v9_1) = Nfull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (run m ρ)

end Cert.Kernel3Ideal.Ffn1
end
-- ==== Proof.Ffn1Ref.lean ====
/- The reference of the first feed-forward half, in stages, and each stage read at a place. -/
module

public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Reference3Ideal.Ffn1

open Cert.Reference3Ideal Cert.Reference3Ideal.Gen
open Idealize.ShloMosaic Idealize.ShloMosaic.TcCoe Idealize.ShloMosaic.Tactic
open Idealize.SL.Sem

/-! ## The mathematics of a row -/

/-- The half, the mean's divisor and the small addend, as the programs' words denote them. -/
abbrev half : EReal := Ideal.ofBits .f32 0x3F000000#32
abbrev divisor : EReal := Ideal.ofBits .f32 0x45800000#32
abbrev addend : EReal := Ideal.ofBits .f32 0x358637BD#32

/-- A row normed by the root of its mean square, at a place, times `g`. -/
def nrm (x : Fin 4096 → EReal) (g : EReal) (q : Fin 4096) : EReal :=
  x q * Ideal.rsqrt (Ideal.div (∑ k, x k * x k) divisor + addend) * g
/-- The gated activation of a gate and an up value. -/
def gated (g u : EReal) : EReal := g * Ideal.logistic g * u

theorem half_eq : half = ((1 / 2 : ℝ) : EReal) := by
  unfold half
  simp [Ideal.ofBits, Ideal.ieee, -EReal.coe_mul]
  norm_num

/-- A half out of a sum: it is a nonnegative finite number, so it distributes over any extended reals. -/
theorem half_sum {n : ℕ} (a w : Fin n → EReal) : ∑ l, (half * a l) * w l = half * ∑ l, a l * w l := by
  have h0 : (0 : EReal) ≤ half := by rw [half_eq]; exact_mod_cast (by norm_num : (0 : ℝ) ≤ 1 / 2)
  have ht : half ≠ ⊤ := by rw [half_eq]; exact EReal.coe_ne_top _
  have H : ∀ s : Finset (Fin n), ∑ l ∈ s, (half * a l) * w l = half * ∑ l ∈ s, a l * w l := fun s => by
    induction s using Finset.induction_on with
    | empty => simp
    | insert l s hl ih =>
      rw [Finset.sum_insert hl, Finset.sum_insert hl, ih, EReal.left_distrib_of_nonneg_of_ne_top h0 ht, mul_assoc]
  exact H _

/-! ## The stages -/

def normR (X : FVec Ideal S8192x4096 .f32) (g : FVec Ideal S4096 .f32) : FVec Ideal S8192x4096 .f32 :=
  mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))
def projR (H : FVec Ideal S8192x4096 .f32) (W : FVec Ideal S4096x11008 .f32) : FVec Ideal S8192x11008 .f32 :=
  Host.dotGeneral dot_S8192x4096_S4096x11008_S8192x11008_1_0_0_1_n_n none H W
def actR (G U : FVec Ideal S8192x11008 .f32) : FVec Ideal S8192x11008 .f32 :=
  mulf (mulf G (Host.divf (broadcastInDim S8192x11008 ![] bcast_S_S8192x11008 (constant S_ .f32 0x3F800000#32)) (addf (broadcastInDim S8192x11008 ![] bcast_S_S8192x11008 (constant S_ .f32 0x3F800000#32)) (Host.exp (Host.negf G))))) U
def sumR (X : FVec Ideal S8192x4096 .f32) (A : FVec Ideal S8192x11008 .f32) (W : FVec Ideal S11008x4096 .f32) : FVec Ideal S8192x4096 .f32 :=
  addf X (mulf (broadcastInDim S8192x4096 ![] bcast_S_S8192x4096 (constant S_ .f32 0x3F000000#32)) (Host.dotGeneral dot_S8192x11008_S11008x4096_S8192x4096_1_0_0_1_n_n none A W))

theorem normR_at (X : FVec Ideal S8192x4096 .f32) (g : FVec Ideal S4096 .f32) (i : Fin 8192) (q : Fin 4096) :
    normR X g (ix2 i q) = nrm (fun k => X (ix2 i k)) (g (ix1 q)) q := by
  unfold nrm; pointwise! [normR]
theorem projR_at (H : FVec Ideal S8192x4096 .f32) (W : FVec Ideal S4096x11008 .f32) (i : Fin 8192) (l : Fin 11008) :
    projR H W (ix2 i l) = ∑ k, H (ix2 i k) * W (ix2 k l) := by
  pointwise! [projR]
theorem actR_at (G U : FVec Ideal S8192x11008 .f32) (i : Fin 8192) (l : Fin 11008) :
    actR G U (ix2 i l) = gated (G (ix2 i l)) (U (ix2 i l)) := by
  unfold gated Ideal.logistic; pointwise! [actR]
theorem sumR_at (X : FVec Ideal S8192x4096 .f32) (A : FVec Ideal S8192x11008 .f32) (W : FVec Ideal S11008x4096 .f32) (i : Fin 8192) (q : Fin 4096) :
    sumR X A W (ix2 i q) = X (ix2 i q) + half * ∑ l, A (ix2 i l) * W (ix2 l q) := by
  pointwise! [sumR]

/-! ## The layer's first half, at a place -/

variable (X : Fin 8192 → Fin 4096 → EReal) (g1 g2 : Fin 4096 → EReal) (WG WU : Fin 4096 → Fin 11008 → EReal) (WD : Fin 11008 → Fin 4096 → EReal)

/-- Row `i`'s activation at column `l`. -/
def actAt (i : Fin 8192) (l : Fin 11008) : EReal :=
  gated (∑ k, nrm (X i) (g1 k) k * WG k l) (∑ k, nrm (X i) (g1 k) k * WU k l)
/-- The row with half of the feed-forward added. -/
def sumAt (i : Fin 8192) (q : Fin 4096) : EReal := X i q + half * ∑ l, actAt X g1 WG WU i l * WD l q
/-- The result. -/
def outAt (i : Fin 8192) (q : Fin 4096) : EReal := nrm (sumAt X g1 WG WU WD i) (g2 q) q

/-- The reference's two terms. -/
def layerR (X : FVec Ideal S4x2048x4096 .f32) (g1 : FVec Ideal S1x4096 .f32) (WG WU : FVec Ideal S1x4096x11008 .f32) (WD : FVec Ideal S1x11008x4096 .f32) : FVec Ideal S8192x4096 .f32 :=
  sumR (shapeCast S8192x4096 X shapeCasts_S4x2048x4096_S8192x4096) (actR (projR (normR (shapeCast S8192x4096 X shapeCasts_S4x2048x4096_S8192x4096) (shapeCast S4096 g1 shapeCasts_S1x4096_S4096)) (shapeCast S4096x11008 WG shapeCasts_S1x4096x11008_S4096x11008)) (projR (normR (shapeCast S8192x4096 X shapeCasts_S4x2048x4096_S8192x4096) (shapeCast S4096 g1 shapeCasts_S1x4096_S4096)) (shapeCast S4096x11008 WU shapeCasts_S1x4096x11008_S4096x11008))) (shapeCast S11008x4096 WD shapeCasts_S1x11008x4096_S11008x4096)
def layerN (X : FVec Ideal S4x2048x4096 .f32) (g1 : FVec Ideal S1x4096 .f32) (WG WU : FVec Ideal S1x4096x11008 .f32) (WD : FVec Ideal S1x11008x4096 .f32) (g2 : FVec Ideal S1x4096 .f32) : FVec Ideal S8192x4096 .bf16 :=
  truncf .bf16 (normR (layerR X g1 WG WU WD) (shapeCast S4096 g2 shapeCasts_S1x4096_S4096)) bitsLt_bf16_f32

theorem flat_at (g : FVec Ideal S1x4096 .f32) (k : Fin 4096) : shapeCast S4096 g shapeCasts_S1x4096_S4096 (ix1 k) = g (ix2 0 k) := by
  pointwise
theorem rows_at (X : FVec Ideal S4x2048x4096 .f32) (i : Fin 8192) (k : Fin 4096) :
    shapeCast S8192x4096 X shapeCasts_S4x2048x4096_S8192x4096 (ix2 i k) = X (ix3 ⟨i.val / 2048, by have := i.isLt; omega⟩ ⟨i.val % 2048, Nat.mod_lt _ (by decide)⟩ k) := by
  pointwise
theorem up_at (W : FVec Ideal S1x4096x11008 .f32) (k : Fin 4096) (l : Fin 11008) :
    shapeCast S4096x11008 W shapeCasts_S1x4096x11008_S4096x11008 (ix2 k l) = W (ix3 0 k l) := by
  pointwise
theorem down_at (W : FVec Ideal S1x11008x4096 .f32) (l : Fin 11008) (k : Fin 4096) :
    shapeCast S11008x4096 W shapeCasts_S1x11008x4096_S11008x4096 (ix2 l k) = W (ix3 0 l k) := by
  pointwise
theorem cut_at (X : FVec Ideal S8192x4096 .f32) (i : Fin 8192) (q : Fin 4096) : truncf .bf16 X bitsLt_bf16_f32 (ix2 i q) = X (ix2 i q) := by
  pointwise

theorem layerR_at (X : FVec Ideal S4x2048x4096 .f32) (g1 : FVec Ideal S1x4096 .f32) (WG WU : FVec Ideal S1x4096x11008 .f32) (WD : FVec Ideal S1x11008x4096 .f32) (i : Fin 8192) (q : Fin 4096) :
    layerR X g1 WG WU WD (ix2 i q) = sumAt (fun i k => X (ix3 ⟨i.val / 2048, by have := i.isLt; omega⟩ ⟨i.val % 2048, Nat.mod_lt _ (by decide)⟩ k)) (fun k => g1 (ix2 0 k)) (fun k l => WG (ix3 0 k l)) (fun k l => WU (ix3 0 k l)) (fun l k => WD (ix3 0 l k)) i q := by
  unfold layerR sumAt actAt
  simp only [normR_at, sumR_at, actR_at, projR_at, flat_at, rows_at, up_at, down_at]
theorem layerN_at (X : FVec Ideal S4x2048x4096 .f32) (g1 : FVec Ideal S1x4096 .f32) (WG WU : FVec Ideal S1x4096x11008 .f32) (WD : FVec Ideal S1x11008x4096 .f32) (g2 : FVec Ideal S1x4096 .f32) (i : Fin 8192) (q : Fin 4096) :
    layerN X g1 WG WU WD g2 (ix2 i q) = outAt (fun i k => X (ix3 ⟨i.val / 2048, by have := i.isLt; omega⟩ ⟨i.val % 2048, Nat.mod_lt _ (by decide)⟩ k)) (fun k => g1 (ix2 0 k)) (fun k => g2 (ix2 0 k)) (fun k l => WG (ix3 0 k l)) (fun k l => WU (ix3 0 k l)) (fun l k => WD (ix3 0 l k)) i q := by
  unfold layerN outAt
  refine (cut_at _ i q).trans ?_
  rw [normR_at, flat_at]
  exact congrArg (fun x => nrm x (g2 (ix2 0 q)) q) (funext fun k => layerR_at X g1 WG WU WD i k)

theorem resN_eq (m : (ℓ : Loc nD τ sig) → Buf (Elt Ideal) ℓ) (c : Dev nD) :
    Value.res_main_v40 m c = layerN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_main_v40 layerN layerR normR sumR actR projR; rfl

/-- The reference's run, its two results by name. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = layerR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v40) = layerN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => by
    obtain ⟨h0, h1, hrest⟩ := h c
    exact ⟨h0.trans (by unfold layerR normR sumR actR projR; rfl), h1.trans (resN_eq m c), hrest⟩) (Value.run m ρ)

end Cert.Reference3Ideal.Ffn1
end
-- ==== Proof.Ffn1Value.lean ====
/- The values of the first feed-forward kernel: its two output arrays are the reference's terms of the arguments. -/
module

public import proofs.«01_k».proof.Proof.Ffn1Run
public import proofs.«01_k».proof.Proof.Ffn1Ref
public import Idealize.ShloMosaic.Lib.Pointwise
public import Idealize.ShloMosaic.Lib.Pipeline.ValueKit

@[expose] public section

set_option maxRecDepth 16384

noncomputable section

namespace Cert.Kernel3Ideal.Ffn1

open Cert.Kernel3Ideal Cert.Kernel3Ideal.Gen
open Idealize.ShloMosaic Idealize.ShloMosaic.TcCoe Idealize.ShloMosaic.Tactic
open Idealize.SL.Sem

open Cert.Reference3Ideal.Ffn1 (nrm gated half_sum actAt sumAt outAt layerR layerR_at layerN layerN_at)

/-! ## The body's values, at a place -/

theorem pay6_at (h : FVec Ideal S1024x4096 .bf16) (wg : FVec Ideal S4096x256 .bf16) (wu : FVec Ideal S4096x256 .f32) (r : Fin 1024) (q : Fin 256) :
    k0_pay6 (F := Ideal) h wg wu (ix2 r q) = Cert.Reference3Ideal.Ffn1.half * gated (∑ x, h (ix2 r x) * wg (ix2 x q)) (∑ x, h (ix2 r x) * wu (ix2 x q)) := by
  unfold gated; pointwise! [k0_pay6]
theorem pay9_at (act : FVec Ideal S1024x256 .bf16) (A : FVec Ideal S1024x512 .f32) (wd : FVec Ideal S256x512 .f32) (r : Fin 1024) (q : Fin 512) :
    k0_pay9 (F := Ideal) act A wd (ix2 r q) = A (ix2 r q) + ∑ x, act (ix2 r x) * wd (ix2 x q) := by
  pointwise! [k0_pay9]
theorem pay5_at (g : FVec Ideal S1x4096 .f32) (x : FVec Ideal S16x4096 .f32) (r : Fin 16) (q : Fin 4096) :
    k0_pay5 (F := Ideal) g x (ix2 r q) = nrm (fun k => x (ix2 r k)) (g (ix2 0 q)) q := by
  unfold nrm; pointwise! [k0_pay5]
theorem pay3_at (g : FVec Ideal S1x4096 .f32) (x : FVec Ideal S16x4096 .f32) (r : Fin 16) (q : Fin 4096) :
    k0_pay3 (F := Ideal) g x (k0_pay2 (F := Ideal) x : FVec Ideal S16x1 .f32) (ix2 r q) = nrm (fun k => x (ix2 r k)) (g (ix2 0 q)) q := by
  unfold nrm; pointwise! [k0_pay3, k0_pay2, k0_pay1]

theorem bandLoc_ix (r : Fin 1024) (q : Fin 4096) : bandLoc (ix2 r q) = ix2 ⟨r.val % 16, Nat.mod_lt _ (by decide)⟩ q := by
  funext a
  match a with
  | ⟨0, _⟩ => rfl
  | ⟨1, _⟩ => rfl
theorem band_at (A : S1024x4096.Idx → EReal) (r : Fin 1024) (q k : Fin 4096) :
    band A (bandOf (ix2 r q)) (ix2 ⟨r.val % 16, Nat.mod_lt _ (by decide)⟩ k) = A (ix2 r k) := by
  refine congrArg A (funext fun a => Fin.ext ?_)
  match a with
  | ⟨0, _⟩ => show 16 * (r.val / 16) + 1 * (r.val % 16) = r.val; omega
  | ⟨1, _⟩ => show 0 + 1 * k.val = k.val; omega
theorem colLoc_ix (r : Fin 1024) (q : Fin 4096) : colLoc (ix2 r q) = ix2 r ⟨q.val % 512, Nat.mod_lt _ (by decide)⟩ := by
  funext a
  match a with
  | ⟨0, _⟩ => rfl
  | ⟨1, _⟩ => rfl
theorem colSlice_at {n : ℕ} (A : (⟨2, ![n, 4096]⟩ : Shape).Idx → EReal) (r : Fin n) (r' : Fin 1024) (q : Fin 4096) :
    colSlice (n := n) A (colOf (ix2 r' q)) (ix2 r ⟨q.val % 512, Nat.mod_lt _ (by decide)⟩) = A (ix2 r q) := by
  refine congrArg A (funext fun a => Fin.ext ?_)
  match a with
  | ⟨0, _⟩ => show 0 + 1 * r.val = r.val; omega
  | ⟨1, _⟩ => show 512 * (q.val / 512) + 1 * (q.val % 512) = q.val; omega

theorem hval_at (g : FVec Ideal S1x4096 .f32) (A : FVec Ideal S1024x4096 .f32) (r : Fin 1024) (q : Fin 4096) :
    hval (F := Ideal) g A (ix2 r q) = nrm (fun k => A (ix2 r k)) (g (ix2 0 q)) q := by
  unfold hval
  rw [bandLoc_ix]
  refine (pay5_at g _ _ _).trans ?_
  refine congrArg (fun x => nrm x (g (ix2 0 q)) q) (funext fun k => band_at A r q k)
theorem nval_at (g : FVec Ideal S1x4096 .f32) (A : FVec Ideal S1024x4096 .f32) (r : Fin 1024) (q : Fin 4096) :
    nval (F := Ideal) g A (ix2 r q) = nrm (fun k => A (ix2 r k)) (g (ix2 0 q)) q := by
  unfold nval
  rw [bandLoc_ix]
  refine (pay3_at g _ _ _).trans ?_
  refine congrArg (fun x => nrm x (g (ix2 0 q)) q) (funext fun k => band_at A r q k)
theorem stepv_at (act : FVec Ideal S1024x256 .bf16) (wd : FVec Ideal S256x4096 .f32) (A : FVec Ideal S1024x4096 .f32) (r : Fin 1024) (q : Fin 4096) :
    stepv (F := Ideal) act wd A (ix2 r q) = A (ix2 r q) + ∑ x, act (ix2 r x) * wd (ix2 x q) := by
  unfold stepv
  rw [colLoc_ix]
  refine (pay9_at act _ _ _ _).trans ?_
  refine congrArg₂ (· + ·) (colSlice_at (n := 1024) A r r q) (Finset.sum_congr rfl fun x _ => ?_)
  exact congrArg (act (ix2 r x) * ·) (colSlice_at (n := 256) wd x r q)

/-! ## The block's rows, step by step -/

section Rows
variable (c : Dev nD) (X : Buf (Elt Ideal) (xM.view.loc (c : Thread nD τ))) (G1 G2 : FVec Ideal S1x4096 .f32) (WG : ℕ → FVec Ideal S4096x256 .bf16) (WU : ℕ → FVec Ideal S4096x256 .f32) (WD : ℕ → FVec Ideal S256x4096 .f32)

theorem acc_at (b k : ℕ) (r : Fin 1024) (q : Fin 4096) :
    acc (F := Ideal) c X G1 WG WU WD b k (ix2 r q)
      = (xRows c X (blk b) : FVec Ideal S1024x4096 .f32) (ix2 r q) + ∑ s ∈ Finset.range k, ∑ x, k0_pay6 (F := Ideal) (hOf c X G1 b) (WG s) (WU s) (ix2 r x) * WD s (ix2 x q) := by
  induction k with
  | zero => rw [Finset.sum_range_zero, add_zero]; rfl
  | succ k ih =>
    rw [Finset.sum_range_succ, ← add_assoc, ← ih]
    exact stepv_at _ _ _ r q
end Rows

variable (m : (ℓ : Loc nD τ sig) → Buf (Elt Ideal) ℓ)

/-! ## The operands -/

theorem g1_at (c : Dev nD) (j : Fin 4096) : g1Of m c (ix2 0 j) = (m ((c : Thread nD τ).loc main_arg1) : FVec Ideal S1x4096 .f32) (ix2 0 j) := by
  show V m c main_v2 (ix2 0 j) = _
  entry_read
  pointwise
theorem g2_at (c : Dev nD) (j : Fin 4096) : g2Of m c (ix2 0 j) = (m ((c : Thread nD τ).loc main_arg5) : FVec Ideal S1x4096 .f32) (ix2 0 j) := by
  show V m c main_v8 (ix2 0 j) = _
  entry_read
  pointwise
theorem arr0 (c : Dev nD) (i : Fin 8192) (k : Fin 4096) : (V m c main_v0 : FVec Ideal S8192x4096 .f32) (ix2 i k) = (m ((c : Thread nD τ).loc main_arg0) : FVec Ideal S4x2048x4096 .f32) (ix3 ⟨i.val / 2048, by have := i.isLt; omega⟩ ⟨i.val % 2048, Nat.mod_lt _ (by decide)⟩ k) := by
  entry_read
  pointwise
theorem arr4 (c : Dev nD) (k : Fin 4096) (l : Fin 11008) : (V m c main_v4 : FVec Ideal S4096x11008 .bf16) (ix2 k l) = (m ((c : Thread nD τ).loc main_arg2) : FVec Ideal S1x4096x11008 .f32) (ix3 0 k l) := by
  entry_read
  pointwise
theorem arr5 (c : Dev nD) (k : Fin 4096) (l : Fin 11008) : (V m c main_v5 : FVec Ideal S4096x11008 .f32) (ix2 k l) = (m ((c : Thread nD τ).loc main_arg3) : FVec Ideal S1x4096x11008 .f32) (ix3 0 k l) := by
  entry_read
  pointwise
theorem arr6 (c : Dev nD) (l : Fin 11008) (k : Fin 4096) : (V m c main_v6 : FVec Ideal S11008x4096 .f32) (ix2 l k) = (m ((c : Thread nD τ).loc main_arg4) : FVec Ideal S1x11008x4096 .f32) (ix3 0 l k) := by
  entry_read
  pointwise
/-- The arguments as the mathematics reads them. -/
abbrev Xm (c : Dev nD) (i : Fin 8192) (k : Fin 4096) : EReal := (m ((c : Thread nD τ).loc main_arg0) : FVec Ideal S4x2048x4096 .f32) (ix3 ⟨i.val / 2048, by have := i.isLt; omega⟩ ⟨i.val % 2048, Nat.mod_lt _ (by decide)⟩ k)
abbrev G1m (c : Dev nD) (k : Fin 4096) : EReal := (m ((c : Thread nD τ).loc main_arg1) : FVec Ideal S1x4096 .f32) (ix2 0 k)
abbrev G2m (c : Dev nD) (k : Fin 4096) : EReal := (m ((c : Thread nD τ).loc main_arg5) : FVec Ideal S1x4096 .f32) (ix2 0 k)
abbrev WGm (c : Dev nD) (k : Fin 4096) (l : Fin 11008) : EReal := (m ((c : Thread nD τ).loc main_arg2) : FVec Ideal S1x4096x11008 .f32) (ix3 0 k l)
abbrev WUm (c : Dev nD) (k : Fin 4096) (l : Fin 11008) : EReal := (m ((c : Thread nD τ).loc main_arg3) : FVec Ideal S1x4096x11008 .f32) (ix3 0 k l)
abbrev WDm (c : Dev nD) (l : Fin 11008) (k : Fin 4096) : EReal := (m ((c : Thread nD τ).loc main_arg4) : FVec Ideal S1x11008x4096 .f32) (ix3 0 l k)

theorem x_at (c : Dev nD) (b : Fin 8) (r : Fin 1024) (k : Fin 4096) :
    (xRows c (xOf m c) b : FVec Ideal S1024x4096 .f32) (ix2 r k) = Xm m c (⟨b.val * 1024 + r.val, by have := b.isLt; have := r.isLt; omega⟩ : Fin 8192) k := by
  refine Eq.trans ?_ (arr0 m c (⟨b.val * 1024 + r.val, by have := b.isLt; have := r.isLt; omega⟩ : Fin 8192) k)
  refine congrArg (V m c main_v0 : FVec Ideal S8192x4096 .f32) (funext fun a => Fin.ext ?_)
  match a with
  | ⟨0, _⟩ => show 1024 * b.val + 1 * r.val = b.val * 1024 + r.val; omega
  | ⟨1, _⟩ => show 0 + 1 * k.val = k.val; omega
theorem wg_at (c : Dev nD) (s : Fin 43) (k : Fin 4096) (x : Fin 256) : wgOf m c s.val (ix2 k x) = WGm m c k (⟨s.val * 256 + x.val, by have := s.isLt; have := x.isLt; omega⟩ : Fin 11008) := by
  refine Eq.trans ?_ (arr4 m c k (⟨s.val * 256 + x.val, by have := s.isLt; have := x.isLt; omega⟩ : Fin 11008))
  refine congrArg (V m c main_v4 : FVec Ideal S4096x11008 .bf16) (funext fun a => Fin.ext ?_)
  have := s.isLt
  match a with
  | ⟨0, _⟩ => show 0 + 1 * k.val = k.val; omega
  | ⟨1, _⟩ => show 256 * (s.val % 43) + 1 * x.val = s.val * 256 + x.val; omega
theorem wu_at (c : Dev nD) (s : Fin 43) (k : Fin 4096) (x : Fin 256) : wuOf m c s.val (ix2 k x) = WUm m c k (⟨s.val * 256 + x.val, by have := s.isLt; have := x.isLt; omega⟩ : Fin 11008) := by
  refine Eq.trans ?_ (arr5 m c k (⟨s.val * 256 + x.val, by have := s.isLt; have := x.isLt; omega⟩ : Fin 11008))
  refine congrArg (V m c main_v5 : FVec Ideal S4096x11008 .f32) (funext fun a => Fin.ext ?_)
  have := s.isLt
  match a with
  | ⟨0, _⟩ => show 0 + 1 * k.val = k.val; omega
  | ⟨1, _⟩ => show 256 * (s.val % 43) + 1 * x.val = s.val * 256 + x.val; omega
theorem wd_at (c : Dev nD) (s : Fin 43) (x : Fin 256) (q : Fin 4096) : wdOf m c s.val (ix2 x q) = WDm m c (⟨s.val * 256 + x.val, by have := s.isLt; have := x.isLt; omega⟩ : Fin 11008) q := by
  refine Eq.trans ?_ (arr6 m c (⟨s.val * 256 + x.val, by have := s.isLt; have := x.isLt; omega⟩ : Fin 11008) q)
  refine congrArg (V m c main_v6 : FVec Ideal S11008x4096 .f32) (funext fun a => Fin.ext ?_)
  have := s.isLt
  match a with
  | ⟨0, _⟩ => show 256 * (s.val % 43) + 1 * x.val = s.val * 256 + x.val; omega
  | ⟨1, _⟩ => show 0 + 1 * q.val = q.val; omega

/-! ## The output -/

section Out
variable (c : Dev nD)
theorem hOf_at (b : Fin 8) (r : Fin 1024) (k : Fin 4096) :
    hOf c (xOf m c) (g1Of m c) b.val (ix2 r k) = nrm (Xm m c ⟨b.val * 1024 + r.val, by have := b.isLt; have := r.isLt; omega⟩) (G1m m c k) k := by
  have hb : blk b.val = b := Fin.ext (Nat.mod_eq_of_lt b.isLt)
  refine (hval_at _ _ r k).trans ?_
  rw [g1_at, hb]
  exact congrArg (fun x => nrm x (G1m m c k) k) (funext fun j => x_at m c b r j)

theorem act_at (b : Fin 8) (s : Fin 43) (r : Fin 1024) (x : Fin 256) :
    k0_pay6 (F := Ideal) (hOf c (xOf m c) (g1Of m c) b.val) (wgOf m c s.val) (wuOf m c s.val) (ix2 r x)
      = Cert.Reference3Ideal.Ffn1.half * actAt (Xm m c) (G1m m c) (WGm m c) (WUm m c) ⟨b.val * 1024 + r.val, by have := b.isLt; have := r.isLt; omega⟩ ⟨s.val * 256 + x.val, by have := s.isLt; have := x.isLt; omega⟩ := by
  refine (pay6_at _ _ _ r x).trans (congrArg (Cert.Reference3Ideal.Ffn1.half * ·) ?_)
  unfold actAt
  refine congrArg₂ gated (Finset.sum_congr rfl fun k _ => ?_) (Finset.sum_congr rfl fun k _ => ?_)
  · exact congrArg₂ (· * ·) (hOf_at m c b r k) (wg_at m c s k x)
  · exact congrArg₂ (· * ·) (hOf_at m c b r k) (wu_at m c s k x)

theorem acc_end (b : Fin 8) (r : Fin 1024) (q : Fin 4096) :
    acc (F := Ideal) c (xOf m c) (g1Of m c) (wgOf m c) (wuOf m c) (wdOf m c) b.val 43 (ix2 r q)
      = sumAt (Xm m c) (G1m m c) (WGm m c) (WUm m c) (WDm m c) ⟨b.val * 1024 + r.val, by have := b.isLt; have := r.isLt; omega⟩ q := by
  have hb : blk b.val = b := Fin.ext (Nat.mod_eq_of_lt b.isLt)
  refine (acc_at c _ _ _ _ _ b.val 43 r q).trans ?_
  rw [hb]
  unfold sumAt
  refine congrArg₂ (· + ·) (x_at m c b r q) ?_
  rw [← half_sum, Finset.sum_range]
  refine Fin.sum_mul_add_congr (S := 43) (n := 256) (fun s x hl => ?_)
  exact congrArg₂ (· * ·) (act_at m c b s r x) (wd_at m c s x q)

/-- A place of an output array by its row and column, and its place in the row block. -/
theorem place_ix (y : S8192x4096.Idx) : ∃ i q, y = ix2 i q := ⟨⟨(y 0).val, (y 0).isLt⟩, ⟨(y 1).val, (y 1).isLt⟩, funext fun a => by
    match a with
    | ⟨0, _⟩ => rfl
    | ⟨1, _⟩ => rfl⟩
theorem local_ix (i : Fin 8192) (q : Fin 4096) :
    (fun a => match a with
      | ⟨0, _⟩ => ⟨i.val % 1024, Nat.mod_lt _ (by decide)⟩
      | ⟨1, _⟩ => ⟨q.val, q.isLt⟩ : S1024x4096.Idx) = ix2 ⟨i.val % 1024, Nat.mod_lt _ (by decide)⟩ q := by
  funext a
  match a with
  | ⟨0, _⟩ => rfl
  | ⟨1, _⟩ => rfl
theorem fin_at (i : Fin 8192) (k : Fin 4096) :
    finOf m c (i.val / 1024) (ix2 ⟨i.val % 1024, Nat.mod_lt _ (by decide)⟩ k) = sumAt (Xm m c) (G1m m c) (WGm m c) (WUm m c) (WDm m c) i k := by
  have hi := i.isLt
  have hb : i.val / 1024 < 8 := by omega
  refine (acc_end m c ⟨i.val / 1024, hb⟩ ⟨i.val % 1024, Nat.mod_lt _ (by decide)⟩ k).trans ?_
  refine congrArg (fun j => sumAt (Xm m c) (G1m m c) (WGm m c) (WUm m c) (WDm m c) j k) (Fin.ext ?_)
  show i.val / 1024 * 1024 + i.val % 1024 = i.val
  omega

/-- The outputs are the reference's terms of the arguments. -/
theorem Yfull_eq : Yfull m c = layerR (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun (y : S8192x4096.Idx) => ?_
  obtain ⟨i, q, rfl⟩ := place_ix y
  refine Eq.trans ?_ (layerR_at _ _ _ _ _ i q).symm
  exact (congrArg (finOf m c (i.val / 1024)) (local_ix i q)).trans (fin_at m c i q)
theorem Nfull_eq : Nfull m c = layerN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine funext fun (y : S8192x4096.Idx) => ?_
  obtain ⟨i, q, rfl⟩ := place_ix y
  refine Eq.trans ?_ (layerN_at _ _ _ _ _ _ i q).symm
  refine (congrArg (nfinOf m c (i.val / 1024)) (local_ix i q)).trans ?_
  refine (nval_at _ _ _ q).trans ?_
  rw [g2_at]
  unfold outAt
  exact congrArg (fun x => nrm x (G2m m c q) q) (funext fun k => fin_at m c i k)
end Out

end Cert.Kernel3Ideal.Ffn1
end
-- ==== Proof.Ffn1Same.lean ====
/- The first feed-forward kernel and its idealization are the same text: their tables of functions are equal. -/
module

public import proofs.«01_k».proof.Proof.Ffn1Run
public import proofs.«01_k».proof.Proof.Gen.Kernel3
public import proofs.«01_k».proof.Proof.Gen.Kernel3.Skeleton

@[expose] public section

set_option maxRecDepth 65536

noncomputable section

namespace Cert.Kernel3.Ffn1
open Idealize.ShloMosaic
variable {F : FTy → Type} [FloatOps F]

/-- The two body tables are the same text. -/
theorem defs₀_same : Cert.Kernel3Ideal.defs₀ (F := F) = Cert.Kernel3.defs₀ (F := F) := by
  unfold Cert.Kernel3Ideal.defs₀ Cert.Kernel3.defs₀
  refine congrArg Defs.onTc (funext fun k => funext fun a => ?_)
  match k, a with
  | ⟨0, _⟩, (t, s) => rfl
  | ⟨_ + 1, h⟩, _ => exact absurd h (Nat.not_lt.2 (Nat.le_add_left _ _))

/-- So are the two programs' tables. -/
theorem defs_same : Cert.Kernel3Ideal.defs (F := F) = Cert.Kernel3.defs (F := F) :=
  congrArg (Pipeline.defs (Cert.Kernel3Ideal.pcfgs (F := F))) defs₀_same
end Cert.Kernel3.Ffn1
end
-- ==== Proof.MixOutValue.lean ====
/- The value of the output projection: its result array is the reference's term of the arguments. -/
module

public import proofs.«01_k».proof.Proof.Gen.Kernel4Ideal.Frame
public import proofs.«01_k».proof.Proof.Gen.Reference4Ideal
public import Idealize.ShloMosaic.Lib.Pointwise
public import Idealize.ShloMosaic.Lib.Pipeline.ValueKit

@[expose] public section

set_option maxRecDepth 16384

noncomputable section

namespace Cert.Kernel4Ideal.MixOut

open Cert.Kernel4Ideal Cert.Kernel4Ideal.Gen
open Idealize.ShloMosaic Idealize.ShloMosaic.TcCoe Idealize.ShloMosaic.Tactic
open Idealize.SL.Sem

/-- The reference's term: the residual and the product with the weight. -/
def mixRef (A : FVec Ideal Cert.Reference4Ideal.S8192x4096 .bf16) (W : FVec Ideal Cert.Reference4Ideal.S4096x4096 .bf16)
    (X : FVec Ideal Cert.Reference4Ideal.S8192x4096 .f32) : FVec Ideal Cert.Reference4Ideal.S8192x4096 .f32 :=
  addf X (Host.dotGeneral Cert.Reference4Ideal.dot_S8192x4096_S4096x4096_S8192x4096_1_0_0_1_n_n none
    (extf .f32 A Cert.Reference4Ideal.Gen.bitsLt_bf16_f32) (extf .f32 W Cert.Reference4Ideal.Gen.bitsLt_bf16_f32))

theorem ref_at (A : FVec Ideal S8192x4096 .bf16) (W : FVec Ideal S4096x4096 .bf16) (X : FVec Ideal S8192x4096 .f32) (i : Fin 8192) (j : Fin 4096) :
    mixRef A W X (ix2 i j) = X (ix2 i j) + ∑ k : Fin 4096, A (ix2 i k) * W (ix2 k j) := by
  pointwise! [mixRef]

theorem pay_at (x : FVec Ideal S1024x1024 .f32) (a : FVec Ideal S1024x4096 .bf16) (w : FVec Ideal S4096x1024 .bf16) (r q : Fin 1024) :
    k0_pay1 (F := Ideal) x a w (ix2 r q) = x (ix2 r q) + ∑ k : Fin 4096, a (ix2 r k) * w (ix2 k q) := by
  pointwise! [k0_pay1]

/-- The body's stores cover the block and its loads read the blocks: what it leaves is the payload of the blocks. -/
theorem out_eq {F : FTy → Type} [FloatOps F] (a : Vec F S1024x4096 .bf16) (w : Vec F S4096x1024 .bf16) (x : Vec F S1024x1024 .f32) :
    out0_3 a w x = k0_pay1 x a w := by
  have hx : (![0, 0] : Fin S1024x1024.rank → Nat) = fun _ => 0 := funext fun a => by fin_cases a <;> rfl
  have ha : (![0, 0] : Fin S1024x4096.rank → Nat) = fun _ => 0 := funext fun a => by fin_cases a <;> rfl
  have hw : (![0, 0] : Fin S4096x1024.rank → Nat) = fun _ => 0 := funext fun a => by fin_cases a <;> rfl
  unfold out0_3
  rw [View.canon_unit_zero hx, View.ld_unit_zero hx, View.ld_unit_zero ha, View.ld_unit_zero hw]

variable (m : (ℓ : Loc nD τ sig) → Buf (Elt Ideal) ℓ)

theorem idx_all : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, win0_0.index t = ![t.val / 4, 0] ∧ win0_1.index t = ![0, t.val % 4] ∧ win0_2.index t = ![t.val / 4, t.val % 4] ∧ win0_3.index t = ![t.val / 4, t.val % 4])

/-- The block a point of the grid leaves is the reference's block there. -/
theorem point (c : Dev nD) (t : Fin cfg0.N) (r q : Fin 1024) :
    out0_3 (F := Ideal) (iblk m c 0 t) (iblk m c 1 t) (iblk m c 2 t) (ix2 r q)
      = mixRef (m ((c : Thread nD τ).loc main_arg0)) (m ((c : Thread nD τ).loc main_arg1)) (m ((c : Thread nD τ).loc main_arg2))
          (ix2 ⟨t.val / 4 * 1024 + r.val, by have := r.isLt; have : t.val < 32 := lt_of_lt_of_eq t.isLt N_0; omega⟩
            ⟨t.val % 4 * 1024 + q.val, by have := q.isLt; omega⟩) := by
  rw [out_eq]
  refine (pay_at _ _ _ r q).trans (Eq.trans ?_ (ref_at _ _ _ _ _).symm)
  obtain ⟨h0, h1, h2, h3⟩ := idx_all t
  refine congrArg₂ (· + ·) ?_ (Finset.sum_congr rfl fun k _ => Ideal.mul_congr ?_ ?_)
  · blk_ext [iblk, V, h2]
  · blk_ext [iblk, V, h0]
  · blk_ext [iblk, V, h1]

theorem final (c : Dev nD) : (dats m 0 c).arrAt 3 (cfgs 0).N
    = mixRef (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  refine (point m c t _ _).trans ?_
  blk_ext [(idx_all t).2.2.2]

end Cert.Kernel4Ideal.MixOut
end
-- ==== Proof.MergeValue.lean ====
/- The value of the merge: its result array is the reference's term of the arguments. -/
module

public import proofs.«01_k».proof.Proof.Gen.Kernel5Ideal.Frame
public import proofs.«01_k».proof.Proof.Gen.Reference5Ideal
public import Idealize.ShloMosaic.Lib.Pointwise
public import Idealize.ShloMosaic.Lib.Pipeline.ValueKit

@[expose] public section

set_option maxRecDepth 16384

noncomputable section

/-! ## The reference -/

namespace Cert.Reference5Ideal.Merge

open Cert.Reference5Ideal Cert.Reference5Ideal.Gen
open Idealize.ShloMosaic Idealize.ShloMosaic.TcCoe Idealize.ShloMosaic.Tactic

/-- The reference's gate of the first branch: the logistic function of the projection's columns and the bias's row; `gateB` is the second's. -/
def gateA (P : FVec Ideal S8192x20480 .bf16) (B : FVec Ideal S1x2x4096 .f32) : FVec Ideal S8192x4096 .f32 :=
  Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf
      (extf .f32 (extractStridedSlice S8192x4096 ![0, 12288] P slices_S8192x20480_S8192x4096_0_12288) bitsLt_bf16_f32)
      (broadcastInDim S8192x4096 ![0, 1] bcast_S1x4096_S8192x4096_0_1 (broadcastInDim S1x4096 ![1] bcast_S4096_S1x4096_1
        (shapeCast _ (extractStridedSlice S1x1x4096 ![0, 0, 0] B slices_S1x2x4096_S1x1x4096_0_0_0) shapeCasts_S1x1x4096_S4096)))))))
def gateB (P : FVec Ideal S8192x20480 .bf16) (B : FVec Ideal S1x2x4096 .f32) : FVec Ideal S8192x4096 .f32 :=
  Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf
      (extf .f32 (extractStridedSlice S8192x4096 ![0, 16384] P slices_S8192x20480_S8192x4096_0_16384) bitsLt_bf16_f32)
      (broadcastInDim S8192x4096 ![0, 1] bcast_S1x4096_S8192x4096_0_1 (broadcastInDim S1x4096 ![1] bcast_S4096_S1x4096_1
        (shapeCast _ (extractStridedSlice S1x1x4096 ![0, 1, 0] B slices_S1x2x4096_S1x1x4096_0_1_0) shapeCasts_S1x1x4096_S4096)))))))
def branch (U : FVec Ideal S8192x2048 .bf16) (W : FVec Ideal S2048x4096 .bf16) : FVec Ideal S8192x4096 .f32 :=
  Host.dotGeneral dot_S8192x2048_S2048x4096_S8192x4096_1_0_0_1_n_n none (extf .f32 U bitsLt_bf16_f32) (extf .f32 W bitsLt_bf16_f32)
/-- The reference's term. -/
def mergeRef (UA UB : FVec Ideal S8192x2048 .bf16) (WA WB : FVec Ideal S2048x4096 .bf16) (P : FVec Ideal S8192x20480 .bf16)
    (B : FVec Ideal S1x2x4096 .f32) : FVec Ideal S8192x4096 .bf16 :=
  truncf .bf16 (addf (mulf (gateA P B) (branch UA WA)) (mulf (gateB P B) (branch UB WB))) bitsLt_bf16_f32

/-- The merge at a place, of the two gates' arguments and the operands' rows and columns. -/
def mergeAt (ga gb : EReal) (ua wa ub wb : Fin 2048 → EReal) : EReal :=
  Ideal.logistic ga * (∑ k, ua k * wa k) + Ideal.logistic gb * (∑ k, ub k * wb k)

theorem gateA_at (P : FVec Ideal S8192x20480 .bf16) (B : FVec Ideal S1x2x4096 .f32) (i : Fin 8192) (j : Fin 4096) :
    gateA P B (ix2 i j) = Ideal.logistic (P (ix2 i ⟨12288 + j.val, by have := j.isLt; omega⟩) + B (ix3 0 0 j)) := by
  unfold Ideal.logistic; pointwise! [gateA]
theorem gateB_at (P : FVec Ideal S8192x20480 .bf16) (B : FVec Ideal S1x2x4096 .f32) (i : Fin 8192) (j : Fin 4096) :
    gateB P B (ix2 i j) = Ideal.logistic (P (ix2 i ⟨16384 + j.val, by have := j.isLt; omega⟩) + B (ix3 0 1 j)) := by
  unfold Ideal.logistic; pointwise! [gateB]
theorem branch_at (U : FVec Ideal S8192x2048 .bf16) (W : FVec Ideal S2048x4096 .bf16) (i : Fin 8192) (j : Fin 4096) :
    branch U W (ix2 i j) = ∑ k : Fin 2048, U (ix2 i k) * W (ix2 k j) := by
  pointwise! [branch]
theorem mergeRef_at (UA UB : FVec Ideal S8192x2048 .bf16) (WA WB : FVec Ideal S2048x4096 .bf16) (P : FVec Ideal S8192x20480 .bf16)
    (B : FVec Ideal S1x2x4096 .f32) (i : Fin 8192) (j : Fin 4096) :
    mergeRef UA UB WA WB P B (ix2 i j)
      = mergeAt (P (ix2 i ⟨12288 + j.val, by have := j.isLt; omega⟩) + B (ix3 0 0 j)) (P (ix2 i ⟨16384 + j.val, by have := j.isLt; omega⟩) + B (ix3 0 1 j))
          (fun k => UA (ix2 i k)) (fun k => WA (ix2 k j)) (fun k => UB (ix2 i k)) (fun k => WB (ix2 k j)) := by
  show gateA P B (ix2 i j) * branch UA WA (ix2 i j) + gateB P B (ix2 i j) * branch UB WB (ix2 i j) = _
  rw [gateA_at, gateB_at, branch_at, branch_at]
  rfl

end Cert.Reference5Ideal.Merge

/-! ## The kernel -/

namespace Cert.Kernel5Ideal.Merge

open Cert.Kernel5Ideal Cert.Kernel5Ideal.Gen
open Idealize.ShloMosaic Idealize.ShloMosaic.TcCoe Idealize.ShloMosaic.Tactic
open Idealize.SL.Sem
open Cert.Reference5Ideal.Merge (mergeRef mergeAt mergeRef_at)

theorem pay_at (ua : FVec Ideal S1024x2048 .bf16) (wa : FVec Ideal S2048x1024 .bf16) (ub : FVec Ideal S1024x2048 .bf16) (wb : FVec Ideal S2048x1024 .bf16)
    (b : FVec Ideal S2x1024 .f32) (ga gb : FVec Ideal S1024x1024 .bf16) (r q : Fin 1024) :
    k0_pay1 (F := Ideal) ua wa ub wb b ga gb (ix2 r q)
      = mergeAt (ga (ix2 r q) + b (ix2 0 q)) (gb (ix2 r q) + b (ix2 1 q))
          (fun k => ua (ix2 r k)) (fun k => wa (ix2 k q)) (fun k => ub (ix2 r k)) (fun k => wb (ix2 k q)) := by
  unfold mergeAt; pointwise! [k0_pay1]

/-- The body's store covers the block and its loads read the blocks: what it leaves is the payload of the blocks. -/
theorem out_eq {F : FTy → Type} [FloatOps F] (ua ub : Vec F S1024x2048 .bf16) (wa wb : Vec F S2048x1024 .bf16) (ga gb : Vec F S1024x1024 .bf16)
    (b : Vec F S2x1024 .f32) : out0_7 ua ub wa wb ga gb b = k0_pay1 ua wa ub wb b ga gb := by
  have hu : (![0, 0] : Fin S1024x2048.rank → Nat) = fun _ => 0 := funext fun a => by fin_cases a <;> rfl
  have hw : (![0, 0] : Fin S2048x1024.rank → Nat) = fun _ => 0 := funext fun a => by fin_cases a <;> rfl
  have hb : (![0, 0] : Fin S2x1024.rank → Nat) = fun _ => 0 := funext fun a => by fin_cases a <;> rfl
  have hg : (![0, 0] : Fin S1024x1024.rank → Nat) = fun _ => 0 := funext fun a => by fin_cases a <;> rfl
  unfold out0_7
  rw [View.canon_unit_zero hg, View.ld_unit_zero hu, View.ld_unit_zero hu, View.ld_unit_zero hw, View.ld_unit_zero hw, View.ld_unit_zero hb,
    View.ld_unit_zero hg, View.ld_unit_zero hg]

variable (m : (ℓ : Loc nD τ sig) → Buf (Elt Ideal) ℓ)

theorem bias_at (c : Dev nD) (h : Fin 2) (j : Fin 4096) :
    (V m c main_v0 : FVec Ideal S2x4096 .f32) (ix2 h j) = (m ((c : Thread nD τ).loc main_arg5) : FVec Ideal S1x2x4096 .f32) (ix3 0 h j) := by
  entry_read
  pointwise

def Places (t : Fin cfg0.N) : Prop :=
  win0_0.index t = ![t.val / 4, 0] ∧ win0_1.index t = ![t.val / 4, 0] ∧ win0_2.index t = ![0, t.val % 4] ∧ win0_3.index t = ![0, t.val % 4]
    ∧ win0_4.index t = ![t.val / 4, 12 + t.val % 4] ∧ win0_5.index t = ![t.val / 4, 16 + t.val % 4] ∧ win0_6.index t = ![0, t.val % 4]
    ∧ win0_7.index t = ![t.val / 4, t.val % 4]
instance (t : Fin cfg0.N) : Decidable (Places t) := by unfold Places; infer_instance
theorem idx_all : ∀ t : Fin cfg0.N, Places t := (by decide +kernel : ∀ t : Fin grid0.N, Places t)

/-- The block a point of the grid leaves is the reference's block there. -/
theorem point (c : Dev nD) (t : Fin cfg0.N) (r q : Fin 1024) :
    out0_7 (F := Ideal) (iblk m c 0 t) (iblk m c 1 t) (iblk m c 2 t) (iblk m c 3 t) (iblk m c 4 t) (iblk m c 5 t) (iblk m c 6 t) (ix2 r q)
      = mergeRef (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 ⟨t.val / 4 * 1024 + r.val, by have := r.isLt; have : t.val < 32 := lt_of_lt_of_eq t.isLt N_0; omega⟩
            ⟨t.val % 4 * 1024 + q.val, by have := q.isLt; omega⟩) := by
  rw [out_eq]
  refine (pay_at _ _ _ _ _ _ _ r q).trans (Eq.trans ?_ (mergeRef_at _ _ _ _ _ _ _ _).symm)
  obtain ⟨h0, h1, h2, h3, h4, h5, h6, h7⟩ := idx_all t
  have e0 : ∀ k, iblk m c 0 t (ix2 r k) = V m c main_arg0 (ix2 ⟨t.val / 4 * 1024 + r.val, by have := r.isLt; have : t.val < 32 := lt_of_lt_of_eq t.isLt N_0; omega⟩ k) := fun k => by
    blk_ext [iblk, h0]
  have e1 : ∀ k, iblk m c 1 t (ix2 r k) = V m c main_arg1 (ix2 ⟨t.val / 4 * 1024 + r.val, by have := r.isLt; have : t.val < 32 := lt_of_lt_of_eq t.isLt N_0; omega⟩ k) := fun k => by
    blk_ext [iblk, h1]
  have e2 : ∀ k, iblk m c 2 t (ix2 k q) = V m c main_arg2 (ix2 k ⟨t.val % 4 * 1024 + q.val, by have := q.isLt; omega⟩) := fun k => by
    blk_ext [iblk, h2]
  have e3 : ∀ k, iblk m c 3 t (ix2 k q) = V m c main_arg3 (ix2 k ⟨t.val % 4 * 1024 + q.val, by have := q.isLt; omega⟩) := fun k => by
    blk_ext [iblk, h3]
  have e4 : iblk m c 4 t (ix2 r q) = V m c main_arg4 (ix2 ⟨t.val / 4 * 1024 + r.val, by have := r.isLt; have : t.val < 32 := lt_of_lt_of_eq t.isLt N_0; omega⟩ ⟨12288 + (t.val % 4 * 1024 + q.val), by have := q.isLt; omega⟩) := by
    blk_ext [iblk, h4]
  have e5 : iblk m c 5 t (ix2 r q) = V m c main_arg4 (ix2 ⟨t.val / 4 * 1024 + r.val, by have := r.isLt; have : t.val < 32 := lt_of_lt_of_eq t.isLt N_0; omega⟩ ⟨16384 + (t.val % 4 * 1024 + q.val), by have := q.isLt; omega⟩) := by
    blk_ext [iblk, h5]
  have e6 : ∀ h : Fin 2, iblk m c 6 t (ix2 h q) = V m c main_v0 (ix2 h ⟨t.val % 4 * 1024 + q.val, by have := q.isLt; omega⟩) := fun h => by
    blk_ext [iblk, h6]
  rw [V_main_arg0] at e0
  rw [V_main_arg1] at e1
  rw [V_main_arg2] at e2
  rw [V_main_arg3] at e3
  rw [V_main_arg4] at e4 e5
  have add_congr : ∀ {a a' b b' : EReal}, a = a' → b = b' → a + b = a' + b' := fun h h' => congrArg₂ (· + ·) h h'
  have ga := add_congr e4 ((e6 0).trans (bias_at m c 0 _))
  have gb := add_congr e5 ((e6 1).trans (bias_at m c 1 _))
  exact congr (congr (congr (congr (congr (congrArg mergeAt ga) gb) (funext e0)) (funext e2)) (funext e1)) (funext e3)

theorem final (c : Dev nD) : (dats m 0 c).arrAt 7 (cfgs 0).N
    = mergeRef (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  refine (point m c t _ _).trans ?_
  blk_ext [(idx_all t).2.2.2.2.2.2.2]

end Cert.Kernel5Ideal.Merge
end
-- ==== Proof.ConvValue.lean ====
/- The value of the short convolution: its result array is the reference's term of the arguments. -/
module

public import proofs.«01_k».proof.Proof.Gen.Kernel6Ideal.Frame
public import proofs.«01_k».proof.Proof.Gen.Reference6Ideal
public import Idealize.ShloMosaic.Lib.Pointwise
public import Idealize.ShloMosaic.Lib.KernelVsHost
public import Idealize.ShloMosaic.Lib.Pipeline.ValueKit

@[expose] public section

set_option maxRecDepth 16384

noncomputable section

/-! ## The reference -/

namespace Cert.Reference6Ideal.Conv

open Cert.Reference6Ideal Cert.Reference6Ideal.Gen
open Idealize.ShloMosaic Idealize.ShloMosaic.TcCoe Idealize.ShloMosaic.Tactic

/-- A sequence moved `d` places on, zero before its start. -/
def shifted (u : Fin 2048 → EReal) (d : ℕ) (r : Fin 2048) : EReal :=
  if h : d ≤ r.val then u ⟨r.val - d, lt_of_le_of_lt (Nat.sub_le _ _) r.isLt⟩ else 0
/-- One channel's gated three-tap convolution at a position. -/
def convAt (c b w0 w1 w2 : EReal) (u : Fin 2048 → EReal) (r : Fin 2048) : EReal :=
  c * (b + w0 * shifted u 2 r + w1 * shifted u 1 r + w2 * u r)
/-- The row of a batch's position. -/
abbrev row (b : Fin 4) (r : Fin 2048) : Fin 8192 := ⟨b.val * 2048 + r.val, by have := b.isLt; have := r.isLt; omega⟩
abbrev ccCol (j : Fin 2048) : Fin 20480 := ⟨2048 + j.val, by have := j.isLt; omega⟩
abbrev cuCol (j : Fin 2048) : Fin 20480 := ⟨4096 + j.val, by have := j.isLt; omega⟩
abbrev cbCol (j : Fin 2048) : Fin 20480 := ⟨j.val, by have := j.isLt; omega⟩

def wide (P : FVec Ideal S8192x20480 .bf16) : FVec Ideal S4x2048x20480 .f32 := extf .f32 (shapeCast _ P shapeCasts_S8192x20480_S4x2048x20480) bitsLt_bf16_f32
/-- The convolution's input. -/
def inp (P : FVec Ideal S8192x20480 .bf16) : FVec Ideal S4x2048x2048 .f32 :=
  mulf (extractStridedSlice S4x2048x2048 ![0, 0, 2048] (wide P) slices_S4x2048x20480_S4x2048x2048_0_0_2048)
    (extractStridedSlice S4x2048x2048 ![0, 0, 4096] (wide P) slices_S4x2048x20480_S4x2048x2048_0_0_4096)
def padded (u : FVec Ideal S4x2048x2048 .f32) : FVec Ideal S4x2050x2048 .f32 :=
  pad S4x2050x2048 ![0, 2, 0] ![0, 0, 0] ![0, 0, 0] u (sitofp .f32 (constantI S_ 32 0#32)) pads_S4x2048x2048_S4x2050x2048_000_200_000 h_S_
def spread (w : FVec Ideal S2048 .f32) : FVec Ideal S4x2048x2048 .f32 :=
  broadcastInDim S4x2048x2048 ![0, 1, 2] bcast_S1x1x2048_S4x2048x2048_0_1_2 (broadcastInDim S1x1x2048 ![2] bcast_S2048_S1x1x2048_2 w)
def biasRow (B : FVec Ideal S1x2048 .f32) : FVec Ideal S2048 .f32 := shapeCast _ B shapeCasts_S1x2048_S2048
def tapRow0 (W : FVec Ideal S1x3x2048 .f32) : FVec Ideal S2048 .f32 := shapeCast _ (extractStridedSlice S1x1x2048 ![0, 0, 0] W slices_S1x3x2048_S1x1x2048_0_0_0) shapeCasts_S1x1x2048_S2048
def tapRow1 (W : FVec Ideal S1x3x2048 .f32) : FVec Ideal S2048 .f32 := shapeCast _ (extractStridedSlice S1x1x2048 ![0, 1, 0] W slices_S1x3x2048_S1x1x2048_0_1_0) shapeCasts_S1x1x2048_S2048
def tapRow2 (W : FVec Ideal S1x3x2048 .f32) : FVec Ideal S2048 .f32 := shapeCast _ (extractStridedSlice S1x1x2048 ![0, 2, 0] W slices_S1x3x2048_S1x1x2048_0_2_0) shapeCasts_S1x1x2048_S2048
def from0 (u : FVec Ideal S4x2048x2048 .f32) : FVec Ideal S4x2048x2048 .f32 := extractStridedSlice S4x2048x2048 ![0, 0, 0] (padded u) slices_S4x2050x2048_S4x2048x2048_0_0_0
def from1 (u : FVec Ideal S4x2048x2048 .f32) : FVec Ideal S4x2048x2048 .f32 := extractStridedSlice S4x2048x2048 ![0, 1, 0] (padded u) slices_S4x2050x2048_S4x2048x2048_0_1_0
def from2 (u : FVec Ideal S4x2048x2048 .f32) : FVec Ideal S4x2048x2048 .f32 := extractStridedSlice S4x2048x2048 ![0, 2, 0] (padded u) slices_S4x2050x2048_S4x2048x2048_0_2_0
def outer (P : FVec Ideal S8192x20480 .bf16) : FVec Ideal S4x2048x2048 .f32 :=
  extractStridedSlice S4x2048x2048 ![0, 0, 0] (wide P) slices_S4x2048x20480_S4x2048x2048_0_0_0
/-- The reference's term. -/
def convRef (P : FVec Ideal S8192x20480 .bf16) (W : FVec Ideal S1x3x2048 .f32) (B : FVec Ideal S1x2048 .f32) : FVec Ideal S4x2048x2048 .bf16 :=
  truncf .bf16 (mulf (outer P) (addf (addf (addf (spread (biasRow B)) (mulf (spread (tapRow0 W)) (from0 (inp P)))) (mulf (spread (tapRow1 W)) (from1 (inp P))))
    (mulf (spread (tapRow2 W)) (from2 (inp P))))) bitsLt_bf16_f32

theorem wide_at (P : FVec Ideal S8192x20480 .bf16) (b : Fin 4) (r : Fin 2048) (j : Fin 20480) : wide P (ix3 b r j) = P (ix2 (row b r) j) := by
  pointwise! [wide]
theorem inp_at (P : FVec Ideal S8192x20480 .bf16) (b : Fin 4) (r j : Fin 2048) :
    inp P (ix3 b r j) = P (ix2 (row b r) (ccCol j)) * P (ix2 (row b r) (cuCol j)) := by
  pointwise! [inp, wide]
theorem outer_at (P : FVec Ideal S8192x20480 .bf16) (b : Fin 4) (r j : Fin 2048) : outer P (ix3 b r j) = P (ix2 (row b r) (cbCol j)) := by
  pointwise! [outer, wide]
theorem padded_at (u : FVec Ideal S4x2048x2048 .f32) (b : Fin 4) (i : Fin 2050) (j : Fin 2048) :
    padded u (ix3 b i j) = if h : 2 ≤ i.val then u (ix3 b ⟨i.val - 2, by have := i.isLt; omega⟩ j) else 0 := by
  pointwise! [padded]
  by_cases h : 2 ≤ i.val
  · rw [dif_pos ⟨h, by have := i.isLt; omega⟩, dif_pos h]
  · rw [dif_neg (fun h' => h h'.1), dif_neg h]
    exact sitofp_zero
theorem from0_at (u : FVec Ideal S4x2048x2048 .f32) (b : Fin 4) (r j : Fin 2048) : from0 u (ix3 b r j) = shifted (fun i => u (ix3 b i j)) 2 r := by
  have h : from0 u (ix3 b r j) = padded u (ix3 b ⟨r.val, by have := r.isLt; omega⟩ j) := by pointwise! [from0]
  rw [h, padded_at]
  rfl
theorem from1_at (u : FVec Ideal S4x2048x2048 .f32) (b : Fin 4) (r j : Fin 2048) : from1 u (ix3 b r j) = shifted (fun i => u (ix3 b i j)) 1 r := by
  have h : from1 u (ix3 b r j) = padded u (ix3 b ⟨1 + r.val, by have := r.isLt; omega⟩ j) := by pointwise! [from1]
  rw [h, padded_at]
  unfold shifted
  by_cases h : 1 ≤ r.val
  · rw [dif_pos (by show 2 ≤ 1 + r.val; omega), dif_pos h]
    exact congrArg (fun i => u (ix3 b i j)) (Fin.ext (by show 1 + r.val - 2 = r.val - 1; omega))
  · rw [dif_neg (by show ¬ 2 ≤ 1 + r.val; omega), dif_neg h]
theorem from2_at (u : FVec Ideal S4x2048x2048 .f32) (b : Fin 4) (r j : Fin 2048) : from2 u (ix3 b r j) = u (ix3 b r j) := by
  have h : from2 u (ix3 b r j) = padded u (ix3 b ⟨2 + r.val, by have := r.isLt; omega⟩ j) := by pointwise! [from2]
  rw [h, padded_at, dif_pos (by show 2 ≤ 2 + r.val; omega)]
  exact congrArg (fun i => u (ix3 b i j)) (Fin.ext (by show 2 + r.val - 2 = r.val; omega))
theorem bias_at (B : FVec Ideal S1x2048 .f32) (b : Fin 4) (r j : Fin 2048) : spread (biasRow B) (ix3 b r j) = B (ix2 0 j) := by
  pointwise! [spread, biasRow]
theorem tap0_at (W : FVec Ideal S1x3x2048 .f32) (b : Fin 4) (r j : Fin 2048) : spread (tapRow0 W) (ix3 b r j) = W (ix3 0 0 j) := by
  pointwise! [spread, tapRow0]
theorem tap1_at (W : FVec Ideal S1x3x2048 .f32) (b : Fin 4) (r j : Fin 2048) : spread (tapRow1 W) (ix3 b r j) = W (ix3 0 1 j) := by
  pointwise! [spread, tapRow1]
theorem tap2_at (W : FVec Ideal S1x3x2048 .f32) (b : Fin 4) (r j : Fin 2048) : spread (tapRow2 W) (ix3 b r j) = W (ix3 0 2 j) := by
  pointwise! [spread, tapRow2]

theorem convRef_at (P : FVec Ideal S8192x20480 .bf16) (W : FVec Ideal S1x3x2048 .f32) (B : FVec Ideal S1x2048 .f32) (b : Fin 4) (r j : Fin 2048) :
    convRef P W B (ix3 b r j)
      = convAt (P (ix2 (row b r) (cbCol j))) (B (ix2 0 j)) (W (ix3 0 0 j)) (W (ix3 0 1 j)) (W (ix3 0 2 j))
          (fun i => P (ix2 (row b i) (ccCol j)) * P (ix2 (row b i) (cuCol j))) r := by
  show outer P (ix3 b r j) * (spread (biasRow B) (ix3 b r j) + spread (tapRow0 W) (ix3 b r j) * from0 (inp P) (ix3 b r j)
    + spread (tapRow1 W) (ix3 b r j) * from1 (inp P) (ix3 b r j) + spread (tapRow2 W) (ix3 b r j) * from2 (inp P) (ix3 b r j)) = _
  rw [outer_at, bias_at, tap0_at, tap1_at, tap2_at, from0_at, from1_at, from2_at, inp_at]
  have h : (fun i => inp P (ix3 b i j)) = fun i => P (ix2 (row b i) (ccCol j)) * P (ix2 (row b i) (cuCol j)) := funext fun i => inp_at P b i j
  rw [h]
  rfl

end Cert.Reference6Ideal.Conv

/-! ## The kernel -/

namespace Cert.Kernel6Ideal.Conv

open Cert.Kernel6Ideal Cert.Kernel6Ideal.Gen
open Idealize.ShloMosaic Idealize.ShloMosaic.TcCoe Idealize.ShloMosaic.Tactic
open Idealize.SL.Sem
open Cert.Reference6Ideal.Conv (shifted convAt convRef convRef_at row ccCol cuCol cbCol)

theorem sge_word {d : ℕ} (hd : d < 2048) (r : Fin 2048) : (IntOp.cmpi .sge (BitVec.ofNat 32 r.val) (BitVec.ofNat 32 d) = 1) ↔ d ≤ r.val := by
  have hr := r.isLt
  have e1 : (BitVec.ofNat 32 r.val).toInt = (r.val : ℤ) := by
    rw [BitVec.toInt_eq_toNat_of_lt (by rw [BitVec.toNat_ofNat]; omega), BitVec.toNat_ofNat]; omega
  have e2 : (BitVec.ofNat 32 d).toInt = (d : ℤ) := by
    rw [BitVec.toInt_eq_toNat_of_lt (by rw [BitVec.toNat_ofNat]; omega), BitVec.toNat_ofNat]; omega
  have e3 : (BitVec.ofNat 32 d).sle (BitVec.ofNat 32 r.val) = decide (d ≤ r.val) := by
    unfold BitVec.sle; rw [e1, e2]; simp
  show BitVec.ofBool ((BitVec.ofNat 32 d).sle (BitVec.ofNat 32 r.val)) = 1 ↔ _
  rw [e3]
  by_cases h : d ≤ r.val <;> simp [h]

/-- The body's masked rotation is the shift. -/
theorem masked {d : ℕ} (hd : d < 2048) (u : Fin 2048 → EReal) (r : Fin 2048) :
    Scalar.select (IntOp.cmpi .sge (BitVec.ofNat 32 r.val) (BitVec.ofNat 32 d)) (u ⟨(r.val + 2048 - d) % 2048, Nat.mod_lt _ (by decide)⟩) 0 = shifted u d r := by
  unfold Scalar.select shifted
  by_cases h : d ≤ r.val
  · rw [if_pos ((sge_word hd r).2 h), dif_pos h]
    exact congrArg u (Fin.ext (by show (r.val + 2048 - d) % 2048 = r.val - d; have := r.isLt; omega))
  · rw [if_neg (fun h' => h ((sge_word hd r).1 h')), dif_neg h]

theorem pay2_at (cc cu : Vec Ideal S1x2048x256 .bf16) (w : Vec Ideal S3x256 .f32) (b : Vec Ideal S1x256 .f32) (cb : Vec Ideal S1x2048x256 .bf16)
    (r : Fin 2048) (q : Fin 256) :
    k0_pay2 (F := Ideal) cc cu w b cb (ix2 r q)
      = convAt (cb (ix3 0 r q)) (b (ix2 0 q)) (w (ix2 0 q)) (w (ix2 1 q)) (w (ix2 2 q))
          (fun i => (cc (ix3 0 i q) * cu (ix3 0 i q) : EReal)) r := by
  unfold convAt
  rw [← masked (d := 1) (by decide), ← masked (d := 2) (by decide)]
  pointwise! [k0_pay2]

theorem pay_at (cc cu : Vec Ideal S1x2048x256 .bf16) (w : Vec Ideal S3x256 .f32) (b : Vec Ideal S1x256 .f32) (cb : Vec Ideal S1x2048x256 .bf16)
    (z : Fin 1) (r : Fin 2048) (q : Fin 256) :
    k0_pay1 (F := Ideal) (k0_pay2 cc cu w b cb) (ix3 z r q)
      = convAt (cb (ix3 0 r q)) (b (ix2 0 q)) (w (ix2 0 q)) (w (ix2 1 q)) (w (ix2 2 q))
          (fun i => (cc (ix3 0 i q) * cu (ix3 0 i q) : EReal)) r := by
  rw [← pay2_at]
  generalize k0_pay2 cc cu w b cb = p
  pointwise! [k0_pay1]

/-- The body's store covers the block and its loads read the blocks: what it leaves is the payload of the blocks. -/
theorem out_eq {F : FTy → Type} [FloatOps F] (cb cc cu : Vec F S1x2048x256 .bf16) (w : Vec F S3x256 .f32) (b : Vec F S1x256 .f32) :
    out0_5 cb cc cu w b = k0_pay1 (k0_pay2 cc cu w b cb) := by
  have hp : (![0, 0, 0] : Fin S1x2048x256.rank → Nat) = fun _ => 0 := funext fun a => by fin_cases a <;> rfl
  have hw : (![0, 0] : Fin S3x256.rank → Nat) = fun _ => 0 := funext fun a => by fin_cases a <;> rfl
  have hb : (![0, 0] : Fin S1x256.rank → Nat) = fun _ => 0 := funext fun a => by fin_cases a <;> rfl
  unfold out0_5
  have ep : ∀ x : Vec F S1x2048x256 .bf16, View.ld x r0_0 = x := fun x => by rw [View.ld_unit_zero hp]
  have ew : View.ld w r0_1 = w := by rw [View.ld_unit_zero hw]
  have eb : View.ld b r0_2 = b := by rw [View.ld_unit_zero hb]
  rw [View.canon_unit_zero hp, ep, ep, ep, ew, eb]

variable (m : (ℓ : Loc nD τ sig) → Buf (Elt Ideal) ℓ)

theorem proj_at (c : Dev nD) (b : Fin 4) (r : Fin 2048) (j : Fin 20480) :
    (V m c main_v0 : FVec Ideal S4x2048x20480 .bf16) (ix3 b r j) = (m ((c : Thread nD τ).loc main_arg0) : FVec Ideal S8192x20480 .bf16) (ix2 (row b r) j) := by
  entry_read
  pointwise
theorem tap_at (c : Dev nD) (h : Fin 3) (j : Fin 2048) :
    (V m c main_v1 : FVec Ideal S3x2048 .f32) (ix2 h j) = (m ((c : Thread nD τ).loc main_arg1) : FVec Ideal S1x3x2048 .f32) (ix3 0 h j) := by
  entry_read
  pointwise
theorem bias_at (c : Dev nD) (j : Fin 2048) :
    (V m c main_v3 : FVec Ideal S1x2048 .f32) (ix2 0 j) = (m ((c : Thread nD τ).loc main_arg2) : FVec Ideal S1x2048 .f32) (ix2 0 j) := by
  entry_read
  pointwise

def Places (t : Fin cfg0.N) : Prop :=
  win0_0.index t = ![t.val / 8, 0, t.val % 8] ∧ win0_1.index t = ![t.val / 8, 0, 8 + t.val % 8] ∧ win0_2.index t = ![t.val / 8, 0, 16 + t.val % 8]
    ∧ win0_3.index t = ![0, t.val % 8] ∧ win0_4.index t = ![0, t.val % 8] ∧ win0_5.index t = ![t.val / 8, 0, t.val % 8]
instance (t : Fin cfg0.N) : Decidable (Places t) := by unfold Places; infer_instance
theorem idx_all : ∀ t : Fin cfg0.N, Places t := (by decide +kernel : ∀ t : Fin grid0.N, Places t)

/-- The batch and the channel that a point's block has at a place. -/
abbrev batch (t : Fin cfg0.N) : Fin 4 := ⟨t.val / 8, by have : t.val < 32 := lt_of_lt_of_eq t.isLt N_0; omega⟩
abbrev chan (t : Fin cfg0.N) (q : Fin 256) : Fin 2048 := ⟨t.val % 8 * 256 + q.val, by have := q.isLt; omega⟩

/-- The block a point of the grid leaves is the reference's block there. -/
theorem point (c : Dev nD) (t : Fin cfg0.N) (z : Fin 1) (r : Fin 2048) (q : Fin 256) :
    out0_5 (F := Ideal) (iblk m c 0 t) (iblk m c 1 t) (iblk m c 2 t) (iblk m c 3 t) (iblk m c 4 t) (ix3 z r q)
      = convRef (m ((c : Thread nD τ).loc main_arg0)) (m ((c : Thread nD τ).loc main_arg1)) (m ((c : Thread nD τ).loc main_arg2))
          (ix3 (batch t) r (chan t q)) := by
  rw [out_eq]
  refine (pay_at _ _ _ _ _ z r q).trans (Eq.trans ?_ (convRef_at _ _ _ _ _ _).symm)
  obtain ⟨h0, h1, h2, h3, h4, h5⟩ := idx_all t
  have e0 : iblk m c 0 t (ix3 0 r q) = V m c main_v0 (ix3 (batch t) r (cbCol (chan t q))) := by
    blk_ext [iblk, h0]
  have e1 : ∀ i, iblk m c 1 t (ix3 0 i q) = V m c main_v0 (ix3 (batch t) i (ccCol (chan t q))) := fun i => by
    blk_ext [iblk, h1]
  have e2 : ∀ i, iblk m c 2 t (ix3 0 i q) = V m c main_v0 (ix3 (batch t) i (cuCol (chan t q))) := fun i => by
    blk_ext [iblk, h2]
  have e3 : ∀ h : Fin 3, iblk m c 3 t (ix2 h q) = V m c main_v1 (ix2 h (chan t q)) := fun h => by
    blk_ext [iblk, h3]
  have e4 : iblk m c 4 t (ix2 0 q) = V m c main_v3 (ix2 0 (chan t q)) := by
    blk_ext [iblk, h4]
  have eu := funext fun i => Ideal.mul_congr ((e1 i).trans (proj_at m c _ _ _)) ((e2 i).trans (proj_at m c _ _ _))
  exact congrFun (congr (congr (congr (congr (congr (congrArg convAt (e0.trans (proj_at m c _ _ _))) (e4.trans (bias_at m c _))) ((e3 0).trans (tap_at m c _ _)))
    ((e3 1).trans (tap_at m c _ _))) ((e3 2).trans (tap_at m c _ _))) eu) r

theorem final (c : Dev nD) : (dats m 0 c).arrAt 5 (cfgs 0).N
    = convRef (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  refine (point m c t _ _ _).trans ?_
  blk_ext [(idx_all t).2.2.2.2.2]

end Cert.Kernel6Ideal.Conv
end
-- ==== Proof.LogGateScalar.lean ====
/- The forget gate of one extended real: the kernel's formula and the reference's agree everywhere; a finite sum split in two parts is itself. -/
module

public import Idealize.ShloMosaic.Lib.Pointwise

@[expose] public section

noncomputable section

namespace Cert.LogGate

open Idealize.ShloMosaic

/-- A finite extended real. -/
def Fini (x : EReal) : Prop := ∃ r : ℝ, x = (r : EReal)

theorem fin_of_abs {x : EReal} (h : max x (-x) < ⊤) : Fini x := by
  induction x with
  | bot => simp at h
  | top => simp at h
  | coe r => exact ⟨r, rfl⟩

theorem fin_mul {x y : EReal} : Fini x → Fini y → Fini (x * y) := fun ⟨r, hr⟩ ⟨s, hs⟩ => ⟨r * s, by rw [hr, hs, EReal.coe_mul]⟩
theorem fin_add {x y : EReal} : Fini x → Fini y → Fini (x + y) := fun ⟨r, hr⟩ ⟨s, hs⟩ => ⟨r + s, by rw [hr, hs, EReal.coe_add]⟩
theorem fin_sum {n : ℕ} (f : Fin n → EReal) (h : ∀ k, Fini (f k)) : Fini (∑ k, f k) := by
  have H : ∀ s : Finset (Fin n), Fini (∑ k ∈ s, f k) := fun s => by
    induction s using Finset.induction_on with
    | empty => exact ⟨0, by simp⟩
    | insert k s hk ih => rw [Finset.sum_insert hk]; exact fin_add (h k) ih
  exact H _
theorem fin_sub {x : EReal} : Fini x → x - x = 0 := fun ⟨r, hr⟩ => by
  rw [hr, ← EReal.coe_sub, sub_self, EReal.coe_zero]

/-- The three products of the split operands are the product, the operands being finite. -/
theorem split_sum {n : ℕ} (a u : Fin n → EReal) (b : EReal) (ha : ∀ l, Fini (a l)) (hu : ∀ l, Fini (u l)) :
    (∑ l, a l * u l) + (∑ l, a l * (u l - u l)) + (∑ l, (a l - a l) * u l) + b = (∑ l, a l * u l) + b := by
  have h1 : (∑ l, a l * (u l - u l)) = 0 := Finset.sum_eq_zero fun l _ => by rw [fin_sub (hu l), mul_zero]
  have h2 : (∑ l, (a l - a l) * u l) = 0 := Finset.sum_eq_zero fun l _ => by rw [fin_sub (ha l), zero_mul]
  rw [h1, h2, add_zero, add_zero]

/-- The kernel's gate of a value. -/
def kerS (z : EReal) : EReal :=
  (min z 0 - Ideal.log (1 + Ideal.exp (0 - max z (-z)))) * Ideal.ofBits FTy.f32 0x3D800000#32
/-- The reference's: minus the softplus of the negated value, over sixteen. -/
def refS (z : EReal) : EReal :=
  Ideal.div (-(max (-z) 0 + Ideal.log1p (Ideal.exp (-(max (-z - 0) (-(-z - 0))))))) (Ideal.ofBits FTy.f32 0x41800000#32)

theorem sixteenth : Ideal.ofBits FTy.f32 0x3D800000#32 = ((1 / 16 : ℝ) : EReal) := by
  simp [Ideal.ofBits, Ideal.ieee, -EReal.coe_mul]
  norm_num
theorem sixteen : Ideal.ofBits FTy.f32 0x41800000#32 = ((16 : ℝ) : EReal) := by
  simp [Ideal.ofBits, Ideal.ieee, -EReal.coe_mul]
  norm_num
theorem inf32 : Ideal.ofBits FTy.f32 0x7F800000#32 = ⊤ := by
  simp [Ideal.ofBits, Ideal.ieee]
theorem inf16 : Ideal.ofBits FTy.bf16 0x7F80#16 = ⊤ := by
  simp [Ideal.ofBits, Ideal.ieee]

theorem log_fin (w : EReal) (hw : w ≠ ⊤) : Fini (Ideal.log (1 + Ideal.exp w)) := by
  have he : ∃ e : ℝ, 0 ≤ e ∧ Ideal.exp w = (e : EReal) := by
    induction w with
    | bot => exact ⟨0, le_refl _, rfl⟩
    | top => exact absurd rfl hw
    | coe r => exact ⟨Real.exp r, (Real.exp_pos r).le, rfl⟩
  obtain ⟨e, h0, h1⟩ := he
  refine ⟨Real.log (1 + e), ?_⟩
  rw [h1, ← EReal.coe_one, ← EReal.coe_add]
  show (if 1 + e ≤ 0 then (⊥ : EReal) else ((Real.log (1 + e) : ℝ) : EReal)) = _
  rw [if_neg (by linarith)]

theorem min_neg (z : EReal) : -(max (-z) 0) = min z 0 := by
  rcases le_total 0 z with h | h
  · have h' : -z ≤ 0 := by rw [← neg_zero]; exact EReal.neg_le_neg_iff.mpr h
    rw [max_eq_right h', min_eq_right h, neg_zero]
  · have h' : 0 ≤ -z := by rw [← neg_zero]; exact EReal.neg_le_neg_iff.mpr h
    rw [max_eq_left h', min_eq_left h, neg_neg]

theorem scalar_eq (z : EReal) : kerS z = refS z := by
  unfold kerS refS
  rw [sixteenth, sixteen, Ideal.div_coe (by norm_num)]
  have e1 : -z - 0 = -z := by rw [sub_eq_add_neg, neg_zero, add_zero]
  have e2 : (0 : EReal) - max z (-z) = -(max z (-z)) := by rw [sub_eq_add_neg, zero_add]
  rw [e1, neg_neg, max_comm (-z) z, e2]
  have hw : -(max z (-z)) ≠ ⊤ := by
    intro h
    rw [EReal.neg_eq_top_iff] at h
    induction z with
    | bot => simp at h
    | top => simp at h
    | coe r => exact absurd (le_bot_iff.mp (h ▸ le_max_left (r : EReal) (-(r : EReal)))) (EReal.coe_ne_bot r)
  obtain ⟨L, hL⟩ := log_fin _ hw
  show _ = (-(max (-z) 0 + Ideal.log (1 + Ideal.exp (-(max z (-z)))))) * _
  rw [hL, EReal.neg_add (Or.inr (EReal.coe_ne_top L)) (Or.inr (EReal.coe_ne_bot L)), min_neg]

end Cert.LogGate
end
-- ==== Proof.LogGateValue.lean ====
/- The value of the forget gate: on finite operands its result array is the reference's term of the arguments. -/
module

public import proofs.«01_k».proof.Proof.Gen.Kernel7Ideal.Frame
public import proofs.«01_k».proof.Proof.Gen.Reference7Ideal.Run
public import proofs.«01_k».proof.Proof.Gen.Pre_finite7
public import proofs.«01_k».proof.Proof.LogGateScalar
public import proofs.«01_k».proof.Defs
public import Idealize.ShloMosaic.Lib.Pointwise
public import Idealize.ShloMosaic.Lib.Pipeline.ValueKit

@[expose] public section

set_option maxRecDepth 16384

noncomputable section

/-! ## The reference -/

namespace Cert.Reference7Ideal.LogGate

open Cert.Reference7Ideal Cert.Reference7Ideal.Gen
open Idealize.ShloMosaic Idealize.ShloMosaic.TcCoe Idealize.ShloMosaic.Tactic
open Cert.LogGate

/-- The low-rank activation, the gate before its logarithm, the softplus of a matrix, and the reference's term. -/
def lowR (H : FVec Ideal S8192x4096 .bf16) (W : FVec Ideal S1x4096x20496 .f32) : FVec Ideal S8192x16 .f32 :=
  Host.dotGeneral dot_S8192x4096_S4096x16_S8192x16_1_0_0_1_n_n none (extf .f32 H bitsLt_bf16_f32)
    (extractStridedSlice S4096x16 ![0, 12288] (shapeCast _ W shapeCasts_S1x4096x20496_S4096x20496) slices_S4096x20496_S4096x16_0_12288)
def zR (A : FVec Ideal S8192x16 .f32) (U : FVec Ideal S1x16x1024 .f32) (B : FVec Ideal S1x1024 .f32) : FVec Ideal S8192x1024 .f32 :=
  addf (Host.dotGeneral dot_S8192x16_S16x1024_S8192x1024_1_0_0_1_n_n none A (shapeCast _ U shapeCasts_S1x16x1024_S16x1024))
    (broadcastInDim S8192x1024 ![0, 1] bcast_S1x1024_S8192x1024_0_1 (broadcastInDim S1x1024 ![1] bcast_S1024_S1x1024_1 (shapeCast _ B shapeCasts_S1x1024_S1024)))
def zeroR : FVec Ideal S8192x1024 .f32 := broadcastInDim S8192x1024 ![] bcast_S_S8192x1024 (constant S_ .f32 0x00000000#32)
def softR (y : FVec Ideal S8192x1024 .f32) : FVec Ideal S8192x1024 .f32 :=
  select (cmpf .une (subf y zeroR) (subf y zeroR)) (addf y zeroR)
    (addf (maximumf y zeroR) (Host.log1p (Host.exp (Host.negf (Host.absf (subf y zeroR))))))
def gateRef (H : FVec Ideal S8192x4096 .bf16) (W : FVec Ideal S1x4096x20496 .f32) (U : FVec Ideal S1x16x1024 .f32) (B : FVec Ideal S1x1024 .f32) :
    FVec Ideal S8192x1024 .f32 :=
  Host.divf (Host.negf (softR (Host.negf (zR (lowR H W) U B)))) (broadcastInDim S8192x1024 ![] bcast_S_S8192x1024 (constant S_ .f32 0x41800000#32))

theorem lowR_at (H : FVec Ideal S8192x4096 .bf16) (W : FVec Ideal S1x4096x20496 .f32) (i : Fin 8192) (l : Fin 16) :
    lowR H W (ix2 i l) = ∑ k : Fin 4096, H (ix2 i k) * W (ix3 0 k ⟨12288 + l.val, by have := l.isLt; omega⟩) := by
  pointwise! [lowR]
theorem zR_at (A : FVec Ideal S8192x16 .f32) (U : FVec Ideal S1x16x1024 .f32) (B : FVec Ideal S1x1024 .f32) (i : Fin 8192) (j : Fin 1024) :
    zR A U B (ix2 i j) = (∑ l : Fin 16, A (ix2 i l) * U (ix3 0 l j)) + B (ix2 0 j) := by
  pointwise! [zR]
theorem zeroR_at (i : Fin 8192) (j : Fin 1024) : zeroR (ix2 i j) = 0 := by
  pointwise! [zeroR]
theorem softR_at (y : FVec Ideal S8192x1024 .f32) (i : Fin 8192) (j : Fin 1024) :
    softR y (ix2 i j) = max (y (ix2 i j)) 0 + Ideal.log1p (Ideal.exp (-(max (y (ix2 i j) - 0) (-(y (ix2 i j) - 0))))) := by
  show Scalar.select (BitVec.ofBool (decide (y (ix2 i j) - zeroR (ix2 i j) ≠ y (ix2 i j) - zeroR (ix2 i j)))) (y (ix2 i j) + zeroR (ix2 i j))
    (max (y (ix2 i j)) (zeroR (ix2 i j)) + Ideal.log1p (Ideal.exp (-(max (y (ix2 i j) - zeroR (ix2 i j)) (-(y (ix2 i j) - zeroR (ix2 i j))))))) = _
  rw [zeroR_at]
  simp [Scalar.select]
theorem gateRef_at (H : FVec Ideal S8192x4096 .bf16) (W : FVec Ideal S1x4096x20496 .f32) (U : FVec Ideal S1x16x1024 .f32) (B : FVec Ideal S1x1024 .f32)
    (i : Fin 8192) (j : Fin 1024) :
    gateRef H W U B (ix2 i j)
      = refS ((∑ l : Fin 16, (∑ k : Fin 4096, H (ix2 i k) * W (ix3 0 k ⟨12288 + l.val, by have := l.isLt; omega⟩)) * U (ix3 0 l j)) + B (ix2 0 j)) := by
  have e : gateRef H W U B (ix2 i j) = Ideal.div (-(softR (Host.negf (zR (lowR H W) U B)) (ix2 i j))) (Ideal.ofBits FTy.f32 0x41800000#32) := rfl
  have e' : Host.negf (zR (lowR H W) U B) (ix2 i j) = -(zR (lowR H W) U B (ix2 i j)) := rfl
  rw [e, softR_at, e', zR_at]
  simp only [lowR_at]
  rfl

theorem res_eq (m : (ℓ : Loc nD τ sig) → Buf (Elt Ideal) ℓ) (c : Dev nD) :
    Cert.Reference7Ideal.Value.res_main_v12 m c
      = gateRef (m ((c : Thread nD τ).loc main_arg0)) (m ((c : Thread nD τ).loc main_arg1)) (m ((c : Thread nD τ).loc main_arg2))
          (m ((c : Thread nD τ).loc main_arg3)) := by
  unfold Cert.Reference7Ideal.Value.res_main_v12 gateRef softR zR lowR zeroR
  rfl

end Cert.Reference7Ideal.LogGate

/-! ## The kernel -/

namespace Cert.Kernel7Ideal.LogGate

open Cert.Kernel7Ideal Cert.Kernel7Ideal.Gen
open Idealize.ShloMosaic Idealize.ShloMosaic.TcCoe Idealize.ShloMosaic.Tactic
open Idealize.SL.Sem
open Cert.LogGate
open Cert.Reference7Ideal.LogGate (gateRef gateRef_at)

/-- The body's gate before its logarithm, at a place, of the row of `h`, the rows of the low-rank weight, the column of the second factor and the bias. -/
def kerZ (h : Fin 4096 → EReal) (w : Fin 16 → Fin 4096 → EReal) (u : Fin 16 → EReal) (b : EReal) : EReal :=
  (∑ l, (∑ k, h k * w l k) * u l) + (∑ l, (∑ k, h k * w l k) * (u l - u l))
    + (∑ l, ((∑ k, h k * w l k) - (∑ k, h k * w l k)) * u l) + b

theorem kerZ_eq (h : Fin 4096 → EReal) (w : Fin 16 → Fin 4096 → EReal) (u : Fin 16 → EReal) (b : EReal)
    (hh : ∀ k, Fini (h k)) (hw : ∀ l k, Fini (w l k)) (hu : ∀ l, Fini (u l)) :
    kerZ h w u b = (∑ l, (∑ k, h k * w l k) * u l) + b :=
  split_sum (fun l => ∑ k, h k * w l k) u b (fun l => fin_sum _ fun k => fin_mul (hh k) (hw l k)) hu

theorem pay_at (x : FVec Ideal S1024x4096 .bf16) (w : FVec Ideal S16x4096 .f32) (u : FVec Ideal S16x1024 .f32) (b : FVec Ideal S1x1024 .f32)
    (r q : Fin 1024) :
    k0_pay1 (F := Ideal) x w u b (ix2 r q)
      = kerS (kerZ (fun k => x (ix2 r k)) (fun l k => w (ix2 l k)) (fun l => u (ix2 l q)) (b (ix2 0 q))) := by
  unfold kerS kerZ; pointwise! [k0_pay1]

/-- The body's store covers the block and its loads read the blocks: what it leaves is the payload of the blocks. -/
theorem out_eq {F : FTy → Type} [FloatOps F] (x : Vec F S1024x4096 .bf16) (w : Vec F S16x4096 .f32) (u : Vec F S16x1024 .f32) (b : Vec F S1x1024 .f32) :
    out0_4 x w u b = k0_pay1 x w u b := by
  have hx : (![0, 0] : Fin S1024x4096.rank → Nat) = fun _ => 0 := funext fun a => by fin_cases a <;> rfl
  have hw : (![0, 0] : Fin S16x4096.rank → Nat) = fun _ => 0 := funext fun a => by fin_cases a <;> rfl
  have hu : (![0, 0] : Fin S16x1024.rank → Nat) = fun _ => 0 := funext fun a => by fin_cases a <;> rfl
  have hb : (![0, 0] : Fin S1x1024.rank → Nat) = fun _ => 0 := funext fun a => by fin_cases a <;> rfl
  have ho : (![0, 0] : Fin S1024x1024.rank → Nat) = fun _ => 0 := funext fun a => by fin_cases a <;> rfl
  unfold out0_4
  rw [View.canon_unit_zero ho, View.ld_unit_zero hx, View.ld_unit_zero hw, View.ld_unit_zero hu, View.ld_unit_zero hb]

variable (m : (ℓ : Loc nD τ sig) → Buf (Elt Ideal) ℓ)

theorem weight_at (c : Dev nD) (r : Fin 20496) (k : Fin 4096) :
    V m c main_v1 (ix2 r k) = m ((c : Thread nD τ).loc main_arg1) (ix3 0 k r) := by
  entry_read
  pointwise
theorem up_at (c : Dev nD) (l : Fin 16) (j : Fin 1024) :
    (V m c main_v2 : FVec Ideal S16x1024 .f32) (ix2 l j) = (m ((c : Thread nD τ).loc main_arg2) : FVec Ideal S1x16x1024 .f32) (ix3 0 l j) := by
  entry_read
  pointwise
theorem bias_at (c : Dev nD) (z : Fin 1) (j : Fin 1024) :
    (V m c main_v4 : FVec Ideal S1x1024 .f32) (ix2 z j) = (m ((c : Thread nD τ).loc main_arg3) : FVec Ideal S1x1024 .f32) (ix2 0 j) := by
  entry_read
  pointwise

def Places (t : Fin cfg0.N) : Prop :=
  win0_0.index t = ![t.val, 0] ∧ win0_1.index t = ![12288, 0] ∧ win0_2.index t = ![0, 0] ∧ win0_3.index t = ![0, 0] ∧ win0_4.index t = ![t.val, 0]
instance (t : Fin cfg0.N) : Decidable (Places t) := by unfold Places; infer_instance
theorem idx_all : ∀ t : Fin cfg0.N, Places t := (by decide +kernel : ∀ t : Fin grid0.N, Places t)

/-- The rows of the weight the region reads begin at the element the index map names. -/
theorem piece_emb (t : Fin cfg0.N) (y : S16x4096.Idx) (a : Fin 2) :
    ((((cfg0.win 1).blk t).view.emb y) a : ℕ) = win0_1.index t a + (y a).val := by
  show win0_1.index t a + 1 * (y a).val = _
  rw [Nat.one_mul]

/-- The operands the split needs finite are. -/
structure Finite (c : Dev nD) : Prop where
  act : ∀ (i : Fin 8192) (k : Fin 4096), Fini ((m ((c : Thread nD τ).loc main_arg0) : FVec Ideal S8192x4096 .bf16) (ix2 i k))
  low : ∀ (k : Fin 4096) (l : Fin 16), Fini ((m ((c : Thread nD τ).loc main_arg1) : FVec Ideal S1x4096x20496 .f32) (ix3 0 k ⟨12288 + l.val, by have := l.isLt; omega⟩))
  up : ∀ (l : Fin 16) (j : Fin 1024), Fini ((m ((c : Thread nD τ).loc main_arg2) : FVec Ideal S1x16x1024 .f32) (ix3 0 l j))

/-- The block a point of the grid leaves is the reference's block there. -/
theorem point (c : Dev nD) (hf : Finite m c) (t : Fin cfg0.N) (r q : Fin 1024) :
    out0_4 (F := Ideal) (iblk m c 0 t) (iblk m c 1 t) (iblk m c 2 t) (iblk m c 3 t) (ix2 r q)
      = gateRef (m ((c : Thread nD τ).loc main_arg0)) (m ((c : Thread nD τ).loc main_arg1)) (m ((c : Thread nD τ).loc main_arg2))
          (m ((c : Thread nD τ).loc main_arg3))
          (ix2 ⟨t.val * 1024 + r.val, by have := r.isLt; have : t.val < 8 := lt_of_lt_of_eq t.isLt N_0; omega⟩ q) := by
  rw [out_eq]
  refine (pay_at _ _ _ _ r q).trans (Eq.trans ?_ (gateRef_at _ _ _ _ _ _).symm)
  obtain ⟨h0, h1, h2, h3, h4⟩ := idx_all t
  have e0 : ∀ k, iblk m c 0 t (ix2 r k) = V m c main_arg0 (ix2 ⟨t.val * 1024 + r.val, by have := r.isLt; have : t.val < 8 := lt_of_lt_of_eq t.isLt N_0; omega⟩ k) := fun k => by
    blk_ext [iblk, h0]
  have e1 : ∀ l k, iblk m c 1 t (ix2 l k) = V m c main_v1 (ix2 ⟨12288 + l.val, by have := l.isLt; omega⟩ k) := fun l k => by
    have p0 := piece_emb t (ix2 l k) 0
    have p1 := piece_emb t (ix2 l k) 1
    rw [h1] at p0 p1
    refine congrArg (V m c main_v1) (funext fun a => Fin.ext ?_)
    match a with
    | ⟨0, _⟩ => exact p0
    | ⟨1, _⟩ => exact p1.trans (Nat.zero_add _)
  have e2 : ∀ l, iblk m c 2 t (ix2 l q) = V m c main_v2 (ix2 l q) := fun l => by
    blk_ext [iblk, h2]
  have e3 : iblk m c 3 t (ix2 0 q) = V m c main_v4 (ix2 0 q) := by
    blk_ext [iblk, h3]
  rw [V_main_arg0] at e0
  have f0 := funext e0
  have f1 := funext fun l => funext fun k => (e1 l k).trans (weight_at m c _ k)
  have f2 := funext fun l => (e2 l).trans (up_at m c l q)
  have f3 := e3.trans (bias_at m c 0 q)
  refine Eq.trans (congrArg kerS ((congr (congr (congr (congrArg kerZ f0) f1) f2) f3).trans
    (kerZ_eq _ _ _ _ (fun k => hf.act _ k) (fun l k => hf.low k l) (fun l => hf.up l q)))) ?_
  exact scalar_eq _

theorem final (c : Dev nD) (hp : Finite m c) : (dats m 0 c).arrAt 4 (cfgs 0).N
    = gateRef (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  idx_vars y
  refine (point m c hp t _ _).trans ?_
  blk_ext [(idx_all t).2.2.2.2]

/-- The precondition read at a place. -/
theorem finite_of_pre (h : Cert.Pre_Kernel7Ideal_finite7 m) (c : Dev nD) : Finite m c := by
  obtain ⟨h1, h2, h3⟩ := h c
  refine ⟨fun i k => fin_of_abs ?_, fun k l => fin_of_abs ?_, fun l j => fin_of_abs ?_⟩
  · have e := congrFun h1 (ix2 i k)
    rw [← inf16]
    exact (Ideal.cmp_olt_eq_one _ _).mp e
  · have e := congrFun h2 (ix3 0 k l)
    rw [← inf32]
    have e' := (Ideal.cmp_olt_eq_one _ _).mp e
    refine lt_of_eq_of_lt ?_ e'
    pointwise
    rfl
  · have e := congrFun h3 (ix3 0 l j)
    rw [← inf32]
    exact (Ideal.cmp_olt_eq_one _ _).mp e

end Cert.Kernel7Ideal.LogGate
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite7
public import proofs.«01_k».proof.Proof.InProjValue
public import proofs.«01_k».proof.Proof.InProjSame
public import proofs.«01_k».proof.Proof.Ffn2Value
public import proofs.«01_k».proof.Proof.Ffn2Same
public import proofs.«01_k».proof.Proof.Ffn1Value
public import proofs.«01_k».proof.Proof.Ffn1Same
public import proofs.«01_k».proof.Proof.MixOutValue
public import proofs.«01_k».proof.Proof.MergeValue
public import proofs.«01_k».proof.Proof.ConvValue
public import proofs.«01_k».proof.Proof.LogGateValue
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxRecDepth 65536 in
/-- The kernel is its idealization's text: the same run, at the bit formats. -/
theorem frame_kernel : Cert.quiescent_Kernel := fun m ρ _ => by
  have h := Cert.KernelIdeal.InProj.frame (F := Bits) m ρ
  rw [Cert.Kernel.InProj.defs_same] at h
  exact h

theorem algebraic : Cert.algebraic_KernelIdeal_ReferenceIdeal := by
  pair_intro
  · run_from Cert.KernelIdeal.InProj.run_main m g
  · run_from Cert.ReferenceIdeal.Value.run m' g'
    · exact (Cert.KernelIdeal.InProj.final4 m c).symm
    · exact (Cert.KernelIdeal.InProj.final5 m c).symm
    · exact (Cert.KernelIdeal.InProj.final6 m c).symm

set_option maxRecDepth 65536 in
/-- The second feed-forward kernel: its idealization's text too. -/
theorem frame_kernel2 : Cert.quiescent_Kernel2 := fun m ρ _ => by
  have h := Cert.Kernel2Ideal.Ffn2.frame (F := Bits) m ρ
  rw [Cert.Kernel2.Ffn2.defs_same] at h
  exact h

theorem algebraic2 : Cert.algebraic_Kernel2Ideal_Reference2Ideal := fun m g m' g' _ hargs => by
  refine ⟨fun c => Cert.Kernel2Ideal.Ffn2.Yfull m c, Cert.Kernel2Ideal.Ffn2.run_values m g, (θ_run _ _ _).mono (fun r h c => ?_) (Cert.Reference2Ideal.Value.run m' g')⟩
  obtain ⟨hv, hrest⟩ := h c
  obtain ⟨e0, e1, e2, e3, e4, e5⟩ := hargs c
  refine ⟨hv.trans ?_, hrest⟩
  rw [Cert.Reference2Ideal.Ffn2.res_eq, e0, e1, e2, e3, e4, e5]
  exact (Cert.Kernel2Ideal.Ffn2.Yfull_eq m c).symm

set_option maxRecDepth 65536 in
/-- The first feed-forward kernel: its idealization's text too. -/
theorem frame_kernel3 : Cert.quiescent_Kernel3 := fun m ρ _ => by
  have h := Cert.Kernel3Ideal.Ffn1.frame (F := Bits) m ρ
  rw [Cert.Kernel3.Ffn1.defs_same] at h
  exact h

theorem algebraic3 : Cert.algebraic_Kernel3Ideal_Reference3Ideal := fun m g m' g' _ hargs => by
  refine ⟨fun c => Cert.Kernel3Ideal.Ffn1.Yfull m c, fun c => Cert.Kernel3Ideal.Ffn1.Nfull m c, Cert.Kernel3Ideal.Ffn1.run_values m g,
    (θ_run _ _ _).mono (fun r h c => ?_) (Cert.Reference3Ideal.Ffn1.run_values m' g')⟩
  obtain ⟨hy, hn, hrest⟩ := h c
  obtain ⟨e0, e1, e2, e3, e4, e5⟩ := hargs c
  refine ⟨hy.trans ?_, hn.trans ?_, hrest⟩
  · rw [e0, e1, e2, e3, e4]
    exact (Cert.Kernel3Ideal.Ffn1.Yfull_eq m c).symm
  · rw [e0, e1, e2, e3, e4, e5]
    exact (Cert.Kernel3Ideal.Ffn1.Nfull_eq m c).symm

set_option maxRecDepth 65536 in
/-- The output projection. -/
theorem algebraic4 : Cert.algebraic_Kernel4Ideal_Reference4Ideal := by
  pair_intro
  · run_from Cert.Kernel4Ideal.Gen.run_main m g
  · run_from Cert.Reference4Ideal.Value.run m' g'
    · exact (Cert.Kernel4Ideal.MixOut.final m c).symm

set_option maxRecDepth 65536 in
/-- The merge. -/
theorem algebraic5 : Cert.algebraic_Kernel5Ideal_Reference5Ideal := by
  pair_intro
  · run_from Cert.Kernel5Ideal.Gen.run_main m g
  · run_from Cert.Reference5Ideal.Value.run m' g'
    · exact (Cert.Kernel5Ideal.Merge.final m c).symm

set_option maxRecDepth 65536 in
/-- The short convolution. -/
theorem algebraic6 : Cert.algebraic_Kernel6Ideal_Reference6Ideal := by
  pair_intro
  · run_from Cert.Kernel6Ideal.Gen.run_main m g
  · run_from Cert.Reference6Ideal.Value.run m' g'
    · exact (Cert.Kernel6Ideal.Conv.final m c).symm

/-- The forget gate's two programs leave the same array, its operands being finite. -/
theorem algebraic7 : Cert.algebraic_Kernel7Ideal_Reference7Ideal_pre_finite7 := by
  pair_intro
  · run_from Cert.Kernel7Ideal.Gen.run_main m g
  · refine (θ_run _ _ _).mono (fun r h c => ?_) (Cert.Reference7Ideal.Value.run m' g')
    obtain ⟨e0, e1, e2, e3⟩ := hagree c
    refine ⟨((h c).1.trans (Cert.Reference7Ideal.LogGate.res_eq m' c)).trans ?_, (h c).2⟩
    rw [e0, e1, e2, e3]
    exact (Cert.Kernel7Ideal.LogGate.final m c (Cert.Kernel7Ideal.LogGate.finite_of_pre m hpre c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite7.Gen.facts,
  frame_kernel,
  fun m ρ _ => Cert.KernelIdeal.InProj.frame m ρ,
  fun m ρ _ => (θ_run Cert.ReferenceIdeal.defs _ _).mono
    (fun r h => ⟨fun c => (h c).2.2.2, Idealize.ShloMosaic.sem_eq_zero_of_no_sems (by decide) r.2⟩) (Cert.ReferenceIdeal.Value.run m ρ),
  frame_kernel2,
  fun m ρ _ => Cert.Kernel2Ideal.Ffn2.frame m ρ,
  fun m ρ _ => (θ_run Cert.Reference2Ideal.defs _ _).mono
    (fun r h => ⟨fun c => (h c).2, Idealize.ShloMosaic.sem_eq_zero_of_no_sems (by decide) r.2⟩) (Cert.Reference2Ideal.Value.run m ρ),
  frame_kernel3,
  fun m ρ _ => Cert.Kernel3Ideal.Ffn1.frame m ρ,
  fun m ρ _ => (θ_run Cert.Reference3Ideal.defs _ _).mono
    (fun r h => ⟨fun c => (h c).2.2, Idealize.ShloMosaic.sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, Idealize.ShloMosaic.sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, Idealize.ShloMosaic.sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => Cert.Kernel7Ideal.Gen.frame m ρ,
  fun m ρ _ => (θ_run Cert.Reference7Ideal.defs _ _).mono
    (fun r h => ⟨fun c => (h c).2, Idealize.ShloMosaic.sem_eq_zero_of_no_sems (by decide) r.2⟩) (Cert.Reference7Ideal.Value.run m ρ),
  fun m ρ _ => (θ_run Cert.Reference7Ideal.defs _ _).mono
    (fun r h => ⟨fun c => (h c).2, Idealize.ShloMosaic.sem_eq_zero_of_no_sems (by decide) r.2⟩) (Cert.Reference7Ideal.Value.run m ρ),
  trivial,
  algebraic,
  trivial,
  algebraic2,
  trivial,
  algebraic3,
  trivial,
  algebraic4,
  trivial,
  algebraic5,
  trivial,
  algebraic6,
  trivial,
  algebraic7⟩

end Cert.Proof

end
